-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def Pre_KernelNorm (m : (ℓ : Loc Cert.KernelNorm.nD Cert.KernelNorm.τ Cert.KernelNorm.sig) → Buf (Elt Bits) ℓ) : Prop :=
  True

def Pre_KernelNormIdeal (m : (ℓ : Loc Cert.KernelNormIdeal.nD Cert.KernelNormIdeal.τ Cert.KernelNormIdeal.sig) → Buf (Elt Ideal) ℓ) : Prop :=
  True

def Pre_ReferenceNormIdeal (m : (ℓ : Loc Cert.ReferenceNormIdeal.nD Cert.ReferenceNormIdeal.τ Cert.ReferenceNormIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2)
      ∧ r.2.mem ((c.tc : Thread Cert.KernelOut.nD Cert.KernelOut.τ).loc Cert.KernelOut.main_arg3) = m ((c.tc : Thread Cert.KernelOut.nD Cert.KernelOut.τ).loc Cert.KernelOut.main_arg3)
      ∧ r.2.mem ((c.tc : Thread Cert.KernelOut.nD Cert.KernelOut.τ).loc Cert.KernelOut.main_arg4) = m ((c.tc : Thread Cert.KernelOut.nD Cert.KernelOut.τ).loc Cert.KernelOut.main_arg4)
      ∧ r.2.mem ((c.tc : Thread Cert.KernelOut.nD Cert.KernelOut.τ).loc Cert.KernelOut.main_arg5) = m ((c.tc : Thread Cert.KernelOut.nD Cert.KernelOut.τ).loc Cert.KernelOut.main_arg5)
      ∧ r.2.mem ((c.tc : Thread Cert.KernelOut.nD Cert.KernelOut.τ).loc Cert.KernelOut.main_arg6) = m ((c.tc : Thread Cert.KernelOut.nD Cert.KernelOut.τ).loc Cert.KernelOut.main_arg6)
      ∧ r.2.mem ((c.tc : Thread Cert.KernelOut.nD Cert.KernelOut.τ).loc Cert.KernelOut.main_arg7) = m ((c.tc : Thread Cert.KernelOut.nD Cert.KernelOut.τ).loc Cert.KernelOut.main_arg7))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
      ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
      ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4)
      ∧ r.2.mem ((c.tc : Thread Cert.KernelOutIdeal.nD Cert.KernelOutIdeal.τ).loc Cert.KernelOutIdeal.main_arg5) = m ((c.tc : Thread Cert.KernelOutIdeal.nD Cert.KernelOutIdeal.τ).loc Cert.KernelOutIdeal.main_arg5)
      ∧ r.2.mem ((c.tc : Thread Cert.KernelOutIdeal.nD Cert.KernelOutIdeal.τ).loc Cert.KernelOutIdeal.main_arg6) = m ((c.tc : Thread Cert.KernelOutIdeal.nD Cert.KernelOutIdeal.τ).loc Cert.KernelOutIdeal.main_arg6)
      ∧ r.2.mem ((c.tc : Thread Cert.KernelOutIdeal.nD Cert.KernelOutIdeal.τ).loc Cert.KernelOutIdeal.main_arg7) = m ((c.tc : Thread Cert.KernelOutIdeal.nD Cert.KernelOutIdeal.τ).loc Cert.KernelOutIdeal.main_arg7))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2)
      ∧ r.2.mem ((c.tc : Thread Cert.ReferenceOutIdeal.nD Cert.ReferenceOutIdeal.τ).loc Cert.ReferenceOutIdeal.main_arg3) = m ((c.tc : Thread Cert.ReferenceOutIdeal.nD Cert.ReferenceOutIdeal.τ).loc Cert.ReferenceOutIdeal.main_arg3)
      ∧ r.2.mem ((c.tc : Thread Cert.ReferenceOutIdeal.nD Cert.ReferenceOutIdeal.τ).loc Cert.ReferenceOutIdeal.main_arg4) = m ((c.tc : Thread Cert.ReferenceOutIdeal.nD Cert.ReferenceOutIdeal.τ).loc Cert.ReferenceOutIdeal.main_arg4)
      ∧ r.2.mem ((c.tc : Thread Cert.ReferenceOutIdeal.nD Cert.ReferenceOutIdeal.τ).loc Cert.ReferenceOutIdeal.main_arg5) = m ((c.tc : Thread Cert.ReferenceOutIdeal.nD Cert.ReferenceOutIdeal.τ).loc Cert.ReferenceOutIdeal.main_arg5)
      ∧ r.2.mem ((c.tc : Thread Cert.ReferenceOutIdeal.nD Cert.ReferenceOutIdeal.τ).loc Cert.ReferenceOutIdeal.main_arg6) = m ((c.tc : Thread Cert.ReferenceOutIdeal.nD Cert.ReferenceOutIdeal.τ).loc Cert.ReferenceOutIdeal.main_arg6)
      ∧ r.2.mem ((c.tc : Thread Cert.ReferenceOutIdeal.nD Cert.ReferenceOutIdeal.τ).loc Cert.ReferenceOutIdeal.main_arg7) = m ((c.tc : Thread Cert.ReferenceOutIdeal.nD Cert.ReferenceOutIdeal.τ).loc Cert.ReferenceOutIdeal.main_arg7))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1))
      ∧ r.2.sem = fun _ => 0)

def quiescent_KernelNorm [hKernelNorm : Cert.KernelNorm.Facts] : Prop :=
  ∀ (m : (ℓ : Loc Cert.KernelNorm.nD Cert.KernelNorm.τ Cert.KernelNorm.sig) → Buf (Elt Bits) ℓ) (g : Dev Cert.KernelNorm.nD → PrngReg), Pre_KernelNorm m →
    θ_run (Cert.KernelNorm.defs (F := Bits)) (onTc (τ := Cert.KernelNorm.τ) (Cert.KernelNorm.main (F := Bits))) ⟨m, fun _ => 0, g⟩ (fun r => (∀ c : Dev Cert.KernelNorm.nD,
      r.2.mem ((c.tc : Thread Cert.KernelNorm.nD Cert.KernelNorm.τ).loc Cert.KernelNorm.main_arg0) = m ((c.tc : Thread Cert.KernelNorm.nD Cert.KernelNorm.τ).loc Cert.KernelNorm.main_arg0)
      ∧ r.2.mem ((c.tc : Thread Cert.KernelNorm.nD Cert.KernelNorm.τ).loc Cert.KernelNorm.main_arg1) = m ((c.tc : Thread Cert.KernelNorm.nD Cert.KernelNorm.τ).loc Cert.KernelNorm.main_arg1)
      ∧ r.2.mem ((c.tc : Thread Cert.KernelNorm.nD Cert.KernelNorm.τ).loc Cert.KernelNorm.main_arg2) = m ((c.tc : Thread Cert.KernelNorm.nD Cert.KernelNorm.τ).loc Cert.KernelNorm.main_arg2)
      ∧ r.2.mem ((c.tc : Thread Cert.KernelNorm.nD Cert.KernelNorm.τ).loc Cert.KernelNorm.main_arg3) = m ((c.tc : Thread Cert.KernelNorm.nD Cert.KernelNorm.τ).loc Cert.KernelNorm.main_arg3)
      ∧ r.2.mem ((c.tc : Thread Cert.KernelNorm.nD Cert.KernelNorm.τ).loc Cert.KernelNorm.main_arg4) = m ((c.tc : Thread Cert.KernelNorm.nD Cert.KernelNorm.τ).loc Cert.KernelNorm.main_arg4))
      ∧ r.2.sem = fun _ => 0)

def quiescent_KernelNormIdeal [hKernelNormIdeal : Cert.KernelNormIdeal.Facts] : Prop :=
  ∀ (m : (ℓ : Loc Cert.KernelNormIdeal.nD Cert.KernelNormIdeal.τ Cert.KernelNormIdeal.sig) → Buf (Elt Ideal) ℓ) (g : Dev Cert.KernelNormIdeal.nD → PrngReg), Pre_KernelNormIdeal m →
    θ_run (Cert.KernelNormIdeal.defs (F := Ideal)) (onTc (τ := Cert.KernelNormIdeal.τ) (Cert.KernelNormIdeal.main (F := Ideal))) ⟨m, fun _ => 0, g⟩ (fun r => (∀ c : Dev Cert.KernelNormIdeal.nD,
      r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
      ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1)
      ∧ r.2.mem ((c.tc : Thread Cert.KernelNormIdeal.nD Cert.KernelNormIdeal.τ).loc Cert.KernelNormIdeal.main_arg2) = m ((c.tc : Thread Cert.KernelNormIdeal.nD Cert.KernelNormIdeal.τ).loc Cert.KernelNormIdeal.main_arg2)
      ∧ r.2.mem ((c.tc : Thread Cert.KernelNormIdeal.nD Cert.KernelNormIdeal.τ).loc Cert.KernelNormIdeal.main_arg3) = m ((c.tc : Thread Cert.KernelNormIdeal.nD Cert.KernelNormIdeal.τ).loc Cert.KernelNormIdeal.main_arg3)
      ∧ r.2.mem ((c.tc : Thread Cert.KernelNormIdeal.nD Cert.KernelNormIdeal.τ).loc Cert.KernelNormIdeal.main_arg4) = m ((c.tc : Thread Cert.KernelNormIdeal.nD Cert.KernelNormIdeal.τ).loc Cert.KernelNormIdeal.main_arg4))
      ∧ r.2.sem = fun _ => 0)

def quiescent_ReferenceNormIdeal [hReferenceNormIdeal : Cert.ReferenceNormIdeal.Facts] : Prop :=
  ∀ (m : (ℓ : Loc Cert.ReferenceNormIdeal.nD Cert.ReferenceNormIdeal.τ Cert.ReferenceNormIdeal.sig) → Buf (Elt Ideal) ℓ) (g : Dev Cert.ReferenceNormIdeal.nD → PrngReg), Pre_ReferenceNormIdeal m →
    θ_run (Cert.ReferenceNormIdeal.defs (F := Ideal)) (onTc (τ := Cert.ReferenceNormIdeal.τ) (Cert.ReferenceNormIdeal.main (F := Ideal))) ⟨m, fun _ => 0, g⟩ (fun r => (∀ c : Dev Cert.ReferenceNormIdeal.nD,
      r.2.mem ((c.tc : Thread Cert.ReferenceNormIdeal.nD Cert.ReferenceNormIdeal.τ).loc Cert.ReferenceNormIdeal.main_arg0) = m ((c.tc : Thread Cert.ReferenceNormIdeal.nD Cert.ReferenceNormIdeal.τ).loc Cert.ReferenceNormIdeal.main_arg0)
      ∧ r.2.mem ((c.tc : Thread Cert.ReferenceNormIdeal.nD Cert.ReferenceNormIdeal.τ).loc Cert.ReferenceNormIdeal.main_arg1) = m ((c.tc : Thread Cert.ReferenceNormIdeal.nD Cert.ReferenceNormIdeal.τ).loc Cert.ReferenceNormIdeal.main_arg1)
      ∧ r.2.mem ((c.tc : Thread Cert.ReferenceNormIdeal.nD Cert.ReferenceNormIdeal.τ).loc Cert.ReferenceNormIdeal.main_arg2) = m ((c.tc : Thread Cert.ReferenceNormIdeal.nD Cert.ReferenceNormIdeal.τ).loc Cert.ReferenceNormIdeal.main_arg2)
      ∧ r.2.mem ((c.tc : Thread Cert.ReferenceNormIdeal.nD Cert.ReferenceNormIdeal.τ).loc Cert.ReferenceNormIdeal.main_arg3) = m ((c.tc : Thread Cert.ReferenceNormIdeal.nD Cert.ReferenceNormIdeal.τ).loc Cert.ReferenceNormIdeal.main_arg3)
      ∧ r.2.mem ((c.tc : Thread Cert.ReferenceNormIdeal.nD Cert.ReferenceNormIdeal.τ).loc Cert.ReferenceNormIdeal.main_arg4) = m ((c.tc : Thread Cert.ReferenceNormIdeal.nD Cert.ReferenceNormIdeal.τ).loc Cert.ReferenceNormIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)
      ∧ m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2)
      ∧ m' ((c.tc : Thread Cert.ReferenceOutIdeal.nD Cert.ReferenceOutIdeal.τ).loc Cert.ReferenceOutIdeal.main_arg3) = m ((c.tc : Thread Cert.KernelOutIdeal.nD Cert.KernelOutIdeal.τ).loc Cert.KernelOutIdeal.main_arg3)
      ∧ m' ((c.tc : Thread Cert.ReferenceOutIdeal.nD Cert.ReferenceOutIdeal.τ).loc Cert.ReferenceOutIdeal.main_arg4) = m ((c.tc : Thread Cert.KernelOutIdeal.nD Cert.KernelOutIdeal.τ).loc Cert.KernelOutIdeal.main_arg4)
      ∧ m' ((c.tc : Thread Cert.ReferenceOutIdeal.nD Cert.ReferenceOutIdeal.τ).loc Cert.ReferenceOutIdeal.main_arg5) = m ((c.tc : Thread Cert.KernelOutIdeal.nD Cert.KernelOutIdeal.τ).loc Cert.KernelOutIdeal.main_arg5)
      ∧ m' ((c.tc : Thread Cert.ReferenceOutIdeal.nD Cert.ReferenceOutIdeal.τ).loc Cert.ReferenceOutIdeal.main_arg6) = m ((c.tc : Thread Cert.KernelOutIdeal.nD Cert.KernelOutIdeal.τ).loc Cert.KernelOutIdeal.main_arg6)
      ∧ m' ((c.tc : Thread Cert.ReferenceOutIdeal.nD Cert.ReferenceOutIdeal.τ).loc Cert.ReferenceOutIdeal.main_arg7) = m ((c.tc : Thread Cert.KernelOutIdeal.nD Cert.KernelOutIdeal.τ).loc Cert.KernelOutIdeal.main_arg7)) →
    ∃ (v0 : (c : Dev Cert.KernelOutIdeal.nD) → Buf (Elt Ideal) ((c.tc : Thread Cert.KernelOutIdeal.nD Cert.KernelOutIdeal.τ).loc Cert.KernelOutIdeal.main_v12_0)) (v1 : (c : Dev Cert.KernelOutIdeal.nD) → Buf (Elt Ideal) ((c.tc : Thread Cert.KernelOutIdeal.nD Cert.KernelOutIdeal.τ).loc Cert.KernelOutIdeal.main_v12_1)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v12_0) = v0 c
          ∧ r.2.mem ((c.tc : Thread Cert.KernelOutIdeal.nD Cert.KernelOutIdeal.τ).loc Cert.KernelOutIdeal.main_v12_1) = v1 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
          ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
          ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4)
          ∧ r.2.mem ((c.tc : Thread Cert.KernelOutIdeal.nD Cert.KernelOutIdeal.τ).loc Cert.KernelOutIdeal.main_arg5) = m ((c.tc : Thread Cert.KernelOutIdeal.nD Cert.KernelOutIdeal.τ).loc Cert.KernelOutIdeal.main_arg5)
          ∧ r.2.mem ((c.tc : Thread Cert.KernelOutIdeal.nD Cert.KernelOutIdeal.τ).loc Cert.KernelOutIdeal.main_arg6) = m ((c.tc : Thread Cert.KernelOutIdeal.nD Cert.KernelOutIdeal.τ).loc Cert.KernelOutIdeal.main_arg6)
          ∧ r.2.mem ((c.tc : Thread Cert.KernelOutIdeal.nD Cert.KernelOutIdeal.τ).loc Cert.KernelOutIdeal.main_arg7) = m ((c.tc : Thread Cert.KernelOutIdeal.nD Cert.KernelOutIdeal.τ).loc Cert.KernelOutIdeal.main_arg7))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v29) = v0 c
          ∧ r.2.mem ((c.tc : Thread Cert.ReferenceOutIdeal.nD Cert.ReferenceOutIdeal.τ).loc Cert.ReferenceOutIdeal.main_v31) = v1 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1)
          ∧ r.2.mem ((c.tc : Thread Cert.ReferenceOutIdeal.nD Cert.ReferenceOutIdeal.τ).loc Cert.ReferenceOutIdeal.main_arg2) = m' ((c.tc : Thread Cert.ReferenceOutIdeal.nD Cert.ReferenceOutIdeal.τ).loc Cert.ReferenceOutIdeal.main_arg2)
          ∧ r.2.mem ((c.tc : Thread Cert.ReferenceOutIdeal.nD Cert.ReferenceOutIdeal.τ).loc Cert.ReferenceOutIdeal.main_arg3) = m' ((c.tc : Thread Cert.ReferenceOutIdeal.nD Cert.ReferenceOutIdeal.τ).loc Cert.ReferenceOutIdeal.main_arg3)
          ∧ r.2.mem ((c.tc : Thread Cert.ReferenceOutIdeal.nD Cert.ReferenceOutIdeal.τ).loc Cert.ReferenceOutIdeal.main_arg4) = m' ((c.tc : Thread Cert.ReferenceOutIdeal.nD Cert.ReferenceOutIdeal.τ).loc Cert.ReferenceOutIdeal.main_arg4)
          ∧ r.2.mem ((c.tc : Thread Cert.ReferenceOutIdeal.nD Cert.ReferenceOutIdeal.τ).loc Cert.ReferenceOutIdeal.main_arg5) = m' ((c.tc : Thread Cert.ReferenceOutIdeal.nD Cert.ReferenceOutIdeal.τ).loc Cert.ReferenceOutIdeal.main_arg5)
          ∧ r.2.mem ((c.tc : Thread Cert.ReferenceOutIdeal.nD Cert.ReferenceOutIdeal.τ).loc Cert.ReferenceOutIdeal.main_arg6) = m' ((c.tc : Thread Cert.ReferenceOutIdeal.nD Cert.ReferenceOutIdeal.τ).loc Cert.ReferenceOutIdeal.main_arg6)
          ∧ r.2.mem ((c.tc : Thread Cert.ReferenceOutIdeal.nD Cert.ReferenceOutIdeal.τ).loc Cert.ReferenceOutIdeal.main_arg7) = m' ((c.tc : Thread Cert.ReferenceOutIdeal.nD Cert.ReferenceOutIdeal.τ).loc Cert.ReferenceOutIdeal.main_arg7))

def preserves_KernelIn_KernelInIdeal : Prop :=
  True

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)) →
    ∃ (v0 : (c : Dev Cert.KernelInIdeal.nD) → Buf (Elt Ideal) ((c.tc : Thread Cert.KernelInIdeal.nD Cert.KernelInIdeal.τ).loc Cert.KernelInIdeal.main_v4)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v4) = v0 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v20) = v0 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1))

def preserves_KernelNorm_KernelNormIdeal : Prop :=
  True

def algebraic_KernelNormIdeal_ReferenceNormIdeal [hKernelNormIdeal : Cert.KernelNormIdeal.Facts] [hReferenceNormIdeal : Cert.ReferenceNormIdeal.Facts] : Prop :=
  ∀ (m : (ℓ : Loc Cert.KernelNormIdeal.nD Cert.KernelNormIdeal.τ Cert.KernelNormIdeal.sig) → Buf (Elt Ideal) ℓ) (g : Dev Cert.KernelNormIdeal.nD → PrngReg)
    (m' : (ℓ : Loc Cert.ReferenceNormIdeal.nD Cert.ReferenceNormIdeal.τ Cert.ReferenceNormIdeal.sig) → Buf (Elt Ideal) ℓ) (g' : Dev Cert.ReferenceNormIdeal.nD → PrngReg), Pre_KernelNormIdeal m →
    (∀ c : Dev Cert.KernelNormIdeal.nD,
      m' ((c.tc : Thread Cert.ReferenceNormIdeal.nD Cert.ReferenceNormIdeal.τ).loc Cert.ReferenceNormIdeal.main_arg0) = m ((c.tc : Thread Cert.KernelNormIdeal.nD Cert.KernelNormIdeal.τ).loc Cert.KernelNormIdeal.main_arg0)
      ∧ m' ((c.tc : Thread Cert.ReferenceNormIdeal.nD Cert.ReferenceNormIdeal.τ).loc Cert.ReferenceNormIdeal.main_arg1) = m ((c.tc : Thread Cert.KernelNormIdeal.nD Cert.KernelNormIdeal.τ).loc Cert.KernelNormIdeal.main_arg1)
      ∧ m' ((c.tc : Thread Cert.ReferenceNormIdeal.nD Cert.ReferenceNormIdeal.τ).loc Cert.ReferenceNormIdeal.main_arg2) = m ((c.tc : Thread Cert.KernelNormIdeal.nD Cert.KernelNormIdeal.τ).loc Cert.KernelNormIdeal.main_arg2)
      ∧ m' ((c.tc : Thread Cert.ReferenceNormIdeal.nD Cert.ReferenceNormIdeal.τ).loc Cert.ReferenceNormIdeal.main_arg3) = m ((c.tc : Thread Cert.KernelNormIdeal.nD Cert.KernelNormIdeal.τ).loc Cert.KernelNormIdeal.main_arg3)
      ∧ m' ((c.tc : Thread Cert.ReferenceNormIdeal.nD Cert.ReferenceNormIdeal.τ).loc Cert.ReferenceNormIdeal.main_arg4) = m ((c.tc : Thread Cert.KernelNormIdeal.nD Cert.KernelNormIdeal.τ).loc Cert.KernelNormIdeal.main_arg4)) →
    ∃ (v0 : (c : Dev Cert.KernelNormIdeal.nD) → Buf (Elt Ideal) ((c.tc : Thread Cert.KernelNormIdeal.nD Cert.KernelNormIdeal.τ).loc Cert.KernelNormIdeal.main_v14_0)) (v1 : (c : Dev Cert.KernelNormIdeal.nD) → Buf (Elt Ideal) ((c.tc : Thread Cert.KernelNormIdeal.nD Cert.KernelNormIdeal.τ).loc Cert.KernelNormIdeal.main_v14_1)),
      θ_run (Cert.KernelNormIdeal.defs (F := Ideal)) (onTc (τ := Cert.KernelNormIdeal.τ) (Cert.KernelNormIdeal.main (F := Ideal))) ⟨m, fun _ => 0, g⟩ (fun r => ∀ c : Dev Cert.KernelNormIdeal.nD,
          r.2.mem ((c.tc : Thread Cert.KernelNormIdeal.nD Cert.KernelNormIdeal.τ).loc Cert.KernelNormIdeal.main_v14_0) = v0 c
          ∧ r.2.mem ((c.tc : Thread Cert.KernelNormIdeal.nD Cert.KernelNormIdeal.τ).loc Cert.KernelNormIdeal.main_v14_1) = v1 c
          ∧ r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
          ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1)
          ∧ r.2.mem ((c.tc : Thread Cert.KernelNormIdeal.nD Cert.KernelNormIdeal.τ).loc Cert.KernelNormIdeal.main_arg2) = m ((c.tc : Thread Cert.KernelNormIdeal.nD Cert.KernelNormIdeal.τ).loc Cert.KernelNormIdeal.main_arg2)
          ∧ r.2.mem ((c.tc : Thread Cert.KernelNormIdeal.nD Cert.KernelNormIdeal.τ).loc Cert.KernelNormIdeal.main_arg3) = m ((c.tc : Thread Cert.KernelNormIdeal.nD Cert.KernelNormIdeal.τ).loc Cert.KernelNormIdeal.main_arg3)
          ∧ r.2.mem ((c.tc : Thread Cert.KernelNormIdeal.nD Cert.KernelNormIdeal.τ).loc Cert.KernelNormIdeal.main_arg4) = m ((c.tc : Thread Cert.KernelNormIdeal.nD Cert.KernelNormIdeal.τ).loc Cert.KernelNormIdeal.main_arg4))
      ∧ θ_run (Cert.ReferenceNormIdeal.defs (F := Ideal)) (onTc (τ := Cert.ReferenceNormIdeal.τ) (Cert.ReferenceNormIdeal.main (F := Ideal))) ⟨m', fun _ => 0, g'⟩ (fun r => ∀ c : Dev Cert.ReferenceNormIdeal.nD,
          r.2.mem ((c.tc : Thread Cert.ReferenceNormIdeal.nD Cert.ReferenceNormIdeal.τ).loc Cert.ReferenceNormIdeal.main_v33) = v0 c
          ∧ r.2.mem ((c.tc : Thread Cert.ReferenceNormIdeal.nD Cert.ReferenceNormIdeal.τ).loc Cert.ReferenceNormIdeal.main_v34) = v1 c
          ∧ r.2.mem ((c.tc : Thread Cert.ReferenceNormIdeal.nD Cert.ReferenceNormIdeal.τ).loc Cert.ReferenceNormIdeal.main_arg0) = m' ((c.tc : Thread Cert.ReferenceNormIdeal.nD Cert.ReferenceNormIdeal.τ).loc Cert.ReferenceNormIdeal.main_arg0)
          ∧ r.2.mem ((c.tc : Thread Cert.ReferenceNormIdeal.nD Cert.ReferenceNormIdeal.τ).loc Cert.ReferenceNormIdeal.main_arg1) = m' ((c.tc : Thread Cert.ReferenceNormIdeal.nD Cert.ReferenceNormIdeal.τ).loc Cert.ReferenceNormIdeal.main_arg1)
          ∧ r.2.mem ((c.tc : Thread Cert.ReferenceNormIdeal.nD Cert.ReferenceNormIdeal.τ).loc Cert.ReferenceNormIdeal.main_arg2) = m' ((c.tc : Thread Cert.ReferenceNormIdeal.nD Cert.ReferenceNormIdeal.τ).loc Cert.ReferenceNormIdeal.main_arg2)
          ∧ r.2.mem ((c.tc : Thread Cert.ReferenceNormIdeal.nD Cert.ReferenceNormIdeal.τ).loc Cert.ReferenceNormIdeal.main_arg3) = m' ((c.tc : Thread Cert.ReferenceNormIdeal.nD Cert.ReferenceNormIdeal.τ).loc Cert.ReferenceNormIdeal.main_arg3)
          ∧ r.2.mem ((c.tc : Thread Cert.ReferenceNormIdeal.nD Cert.ReferenceNormIdeal.τ).loc Cert.ReferenceNormIdeal.main_arg4) = m' ((c.tc : Thread Cert.ReferenceNormIdeal.nD Cert.ReferenceNormIdeal.τ).loc Cert.ReferenceNormIdeal.main_arg4))

def Claim : Prop :=
  ∃ (hKernel : Cert.Kernel.Facts) (hKernelIdeal : Cert.KernelIdeal.Facts) (hReferenceIdeal : Cert.ReferenceIdeal.Facts) (hKernelOut : Cert.KernelOut.Facts) (hKernelOutIdeal : Cert.KernelOutIdeal.Facts) (hReferenceOutIdeal : Cert.ReferenceOutIdeal.Facts) (hKernelIn : Cert.KernelIn.Facts) (hKernelInIdeal : Cert.KernelInIdeal.Facts) (hReferenceInIdeal : Cert.ReferenceInIdeal.Facts) (hKernelNorm : Cert.KernelNorm.Facts) (hKernelNormIdeal : Cert.KernelNormIdeal.Facts) (hReferenceNormIdeal : Cert.ReferenceNormIdeal.Facts),
    quiescent_Kernel (hKernel := hKernel)
    ∧ quiescent_KernelIdeal (hKernelIdeal := hKernelIdeal)
    ∧ quiescent_ReferenceIdeal (hReferenceIdeal := hReferenceIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelIn (hKernelIn := hKernelIn)
    ∧ quiescent_KernelInIdeal (hKernelInIdeal := hKernelInIdeal)
    ∧ quiescent_ReferenceInIdeal (hReferenceInIdeal := hReferenceInIdeal)
    ∧ quiescent_KernelNorm (hKernelNorm := hKernelNorm)
    ∧ quiescent_KernelNormIdeal (hKernelNormIdeal := hKernelNormIdeal)
    ∧ quiescent_ReferenceNormIdeal (hReferenceNormIdeal := hReferenceNormIdeal)
    ∧ preserves_Kernel_KernelIdeal
    ∧ algebraic_KernelIdeal_ReferenceIdeal (hKernelIdeal := hKernelIdeal) (hReferenceIdeal := hReferenceIdeal)
    ∧ preserves_KernelOut_KernelOutIdeal
    ∧ algebraic_KernelOutIdeal_ReferenceOutIdeal (hKernelOutIdeal := hKernelOutIdeal) (hReferenceOutIdeal := hReferenceOutIdeal)
    ∧ preserves_KernelIn_KernelInIdeal
    ∧ algebraic_KernelInIdeal_ReferenceInIdeal (hKernelInIdeal := hKernelInIdeal) (hReferenceInIdeal := hReferenceInIdeal)
    ∧ preserves_KernelNorm_KernelNormIdeal
    ∧ algebraic_KernelNormIdeal_ReferenceNormIdeal (hKernelNormIdeal := hKernelNormIdeal) (hReferenceNormIdeal := hReferenceNormIdeal)
-- ==== Kernel.lean ====
abbrev S4x2048x2048 : Shape := ⟨3, ![4, 2048, 2048]⟩
abbrev S4x2048 : Shape := ⟨2, ![4, 2048]⟩
abbrev S1x2048x11264 : Shape := ⟨3, ![1, 2048, 11264]⟩
abbrev S1x5632x2048 : Shape := ⟨3, ![1, 5632, 2048]⟩
abbrev S2048 : Shape := ⟨1, ![2048]⟩
abbrev S8192x2048 : Shape := ⟨2, ![8192, 2048]⟩
abbrev S4x1x2048 : Shape := ⟨3, ![4, 1, 2048]⟩
abbrev S2048x11264 : Shape := ⟨2, ![2048, 11264]⟩
abbrev S5632x2048 : Shape := ⟨2, ![5632, 2048]⟩
abbrev S1x2048 : Shape := ⟨2, ![1, 2048]⟩
abbrev S512x2048 : Shape := ⟨2, ![512, 2048]⟩
abbrev S1 : Shape := ⟨1, ![1]⟩
abbrev S2x512x2048 : Shape := ⟨3, ![2, 512, 2048]⟩
abbrev S2 : Shape := ⟨1, ![2]⟩
abbrev S3x2048x512 : Shape := ⟨3, ![3, 2048, 512]⟩
abbrev S3 : Shape := ⟨1, ![3]⟩
abbrev S3x512x2048 : Shape := ⟨3, ![3, 512, 2048]⟩
abbrev S_ : Shape := ⟨0, ![]⟩
abbrev S1x512x2048 : Shape := ⟨3, ![1, 512, 2048]⟩
abbrev S1x2048x512 : Shape := ⟨3, ![1, 2048, 512]⟩
abbrev S2048x512 : Shape := ⟨2, ![2048, 512]⟩
abbrev S512x512 : Shape := ⟨2, ![512, 512]⟩
abbrev S1x1x2048 : Shape := ⟨3, ![1, 1, 2048]⟩
abbrev S512 : Shape := ⟨1, ![512]⟩
abbrev S512x1 : Shape := ⟨2, ![512, 1]⟩

abbrev nBuf : Space → Nat
  | .hbm => 16
  | .vmem => 9
  | .smem => 1
  | _ => 0

abbrev bufTy : (tb : Table) → Fin (tcTables nBuf tb) → BufTy
  | .hbm, ⟨0, _⟩ => ⟨S4x2048x2048, .f32⟩
  | .hbm, ⟨1, _⟩ => ⟨S4x2048x2048, .f32⟩
  | .hbm, ⟨2, _⟩ => ⟨S4x2048, .f32⟩
  | .hbm, ⟨3, _⟩ => ⟨S1x2048x11264, .f32⟩
  | .hbm, ⟨4, _⟩ => ⟨S1x5632x2048, .f32⟩
  | .hbm, ⟨5, _⟩ => ⟨S2048, .f32⟩
  | .hbm, ⟨6, _⟩ => ⟨S8192x2048, .f32⟩
  | .hbm, ⟨7, _⟩ => ⟨S8192x2048, .f32⟩
  | .hbm, ⟨8, _⟩ => ⟨S8192x2048, .bf16⟩
  | .hbm, ⟨9, _⟩ => ⟨S4x1x2048, .f32⟩
  | .hbm, ⟨10, _⟩ => ⟨S2048x11264, .f32⟩
  | .hbm, ⟨11, _⟩ => ⟨S2048x11264, .bf16⟩
  | .hbm, ⟨12, _⟩ => ⟨S5632x2048, .f32⟩
  | .hbm, ⟨13, _⟩ => ⟨S5632x2048, .bf16⟩
  | .hbm, ⟨14, _⟩ => ⟨S1x2048, .f32⟩
  | .hbm, ⟨15, _⟩ => ⟨S8192x2048, .f32⟩
  | .local _ .vmem, ⟨0, _⟩ => ⟨S4x1x2048, .f32⟩
  | .local _ .vmem, ⟨1, _⟩ => ⟨S1x2048, .f32⟩
  | .local _ .vmem, ⟨2, _⟩ => ⟨S512x2048, .f32⟩
  | .local _ .vmem, ⟨3, _⟩ => ⟨S2x512x2048, .f32⟩
  | .local _ .vmem, ⟨4, _⟩ => ⟨S2x512x2048, .bf16⟩
  | .local _ .vmem, ⟨5, _⟩ => ⟨S3x2048x512, .bf16⟩
  | .local _ .vmem, ⟨6, _⟩ => ⟨S3x2048x512, .bf16⟩
  | .local _ .vmem, ⟨7, _⟩ => ⟨S3x512x2048, .bf16⟩
  | .local _ .vmem, ⟨8, _⟩ => ⟨S2x512x2048, .f32⟩
  | .local _ .smem, ⟨0, _⟩ => ⟨S1, .i32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scoped0 : Ref sig .tc := ⟨.vmem, 3, rfl⟩
abbrev cc0_scoped2 : Ref sig .tc := ⟨.vmem, 4, rfl⟩
abbrev cc0_scoped4 : Ref sig .tc := ⟨.vmem, 5, rfl⟩
abbrev cc0_scoped6 : Ref sig .tc := ⟨.vmem, 6, rfl⟩
abbrev cc0_scoped8 : Ref sig .tc := ⟨.vmem, 7, rfl⟩
abbrev cc0_scoped10 : Ref sig .tc := ⟨.vmem, 8, rfl⟩
abbrev cc0_scratch1 : Ref sig .tc := ⟨.smem, 0, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

def k0_off1 : Fin 1 → Nat :=
  let c0_i32_38_r0 : BitVec 32 := 0#32
  let c2_i32_r0 : BitVec 32 := 2#32
  let v43_r0 : BitVec 32 := Scalar.remui c0_i32_38_r0 c2_i32_r0
  ![v43_r0.toNat]
def k0_off2 : Fin 3 → Nat :=
  let c0_i32_38_r0 : BitVec 32 := 0#32
  let c2_i32_r0 : BitVec 32 := 2#32
  let v43_r0 : BitVec 32 := Scalar.remui c0_i32_38_r0 c2_i32_r0
  let c0_i32_39_r0 : BitVec 32 := 0#32
  let c0_i32_40_r0 : BitVec 32 := 0#32
  ![v43_r0.toNat, 0, 0]
def k0_off3 : Fin 1 → Nat :=
  let c0_i32_53_r0 : BitVec 32 := 0#32
  let c3_i32_r0 : BitVec 32 := 3#32
  let v57_r0 : BitVec 32 := Scalar.remui c0_i32_53_r0 c3_i32_r0
  ![v57_r0.toNat]
def k0_off4 : Fin 3 → Nat :=
  let c0_i32_53_r0 : BitVec 32 := 0#32
  let c3_i32_r0 : BitVec 32 := 3#32
  let v57_r0 : BitVec 32 := Scalar.remui c0_i32_53_r0 c3_i32_r0
  let c0_i32_54_r0 : BitVec 32 := 0#32
  let c0_i32_55_r0 : BitVec 32 := 0#32
  ![v57_r0.toNat, 0, 0]
def k0_off5 : Fin 3 → Nat :=
  let c0_i32_67_r0 : BitVec 32 := 0#32
  let c3_i32_68_r0 : BitVec 32 := 3#32
  let v71_r0 : BitVec 32 := Scalar.remui c0_i32_67_r0 c3_i32_68_r0
  let c0_i32_69_r0 : BitVec 32 := 0#32
  let c0_i32_70_r0 : BitVec 32 := 0#32
  ![v71_r0.toNat, 0, 0]
def k0_cond1 : BitVec 1 :=
  let true_76_r0 : BitVec 1 := 1#1
  let true_12_r0 : BitVec 1 := 1#1
  let c1_i32_r0 : BitVec 32 := 1#32
  let c0_i32_13_r0 : BitVec 32 := 0#32
  let v15_r0 : BitVec 32 := Scalar.select true_12_r0 c1_i32_r0 c0_i32_13_r0
  let c11_i32_r0 : BitVec 32 := 11#32
  let v16_r0 : BitVec 1 := Scalar.cmpi .eq v15_r0 c11_i32_r0
  let c0_i32_14_r0 : BitVec 32 := 0#32
  let v17_r0 : BitVec 32 := Scalar.select v16_r0 c0_i32_14_r0 v15_r0
  let c0_i32_19_r0 : BitVec 32 := 0#32
  let v22_r0 : BitVec 32 := Scalar.addi v17_r0 c0_i32_19_r0
  let c0_i32_75_r0 : BitVec 32 := 0#32
  let v78_r0 : BitVec 1 := Scalar.cmpi .ne v22_r0 c0_i32_75_r0
  let v79_r0 : BitVec 1 := Scalar.andi true_76_r0 v78_r0
  let true_77_r0 : BitVec 1 := 1#1
  let v80_r0 : BitVec 1 := Scalar.andi v79_r0 true_77_r0
  let v81_r0 : BitVec 32 := Scalar.extui v80_r0
  let c0_i32_78_r0 : BitVec 32 := 0#32
  let v82_r0 : BitVec 1 := Scalar.cmpi .ne v81_r0 c0_i32_78_r0
  v82_r0

def k0_off6 : Fin 1 → Nat :=
  let c0_i32_58_r0 : BitVec 32 := 0#32
  let c1_i32_59_r0 : BitVec 32 := 1#32
  let v63_r0 : BitVec 32 := Scalar.addi c0_i32_58_r0 c1_i32_59_r0
  let c3_i32_152_r0 : BitVec 32 := 3#32
  let v159_r0 : BitVec 32 := Scalar.remui v63_r0 c3_i32_152_r0
  ![v159_r0.toNat]
def k0_off7 : Fin 3 → Nat :=
  let c0_i32_58_r0 : BitVec 32 := 0#32
  let c1_i32_59_r0 : BitVec 32 := 1#32
  let v63_r0 : BitVec 32 := Scalar.addi c0_i32_58_r0 c1_i32_59_r0
  let c3_i32_152_r0 : BitVec 32 := 3#32
  let v159_r0 : BitVec 32 := Scalar.remui v63_r0 c3_i32_152_r0
  let c0_i32_154_r0 : BitVec 32 := 0#32
  let c0_i32_155_r0 : BitVec 32 := 0#32
  ![v159_r0.toNat, 0, 0]
def k0_off8 : Fin 2 → Nat :=
  let c0_i32_156_r0 : BitVec 32 := 0#32
  let c512_i32_153_r0 : BitVec 32 := 512#32
  let true_12_r0 : BitVec 1 := 1#1
  let c1_i32_r0 : BitVec 32 := 1#32
  let c0_i32_13_r0 : BitVec 32 := 0#32
  let v15_r0 : BitVec 32 := Scalar.select true_12_r0 c1_i32_r0 c0_i32_13_r0
  let c11_i32_r0 : BitVec 32 := 11#32
  let v16_r0 : BitVec 1 := Scalar.cmpi .eq v15_r0 c11_i32_r0
  let c0_i32_14_r0 : BitVec 32 := 0#32
  let v17_r0 : BitVec 32 := Scalar.select v16_r0 c0_i32_14_r0 v15_r0
  let c0_i32_19_r0 : BitVec 32 := 0#32
  let v22_r0 : BitVec 32 := Scalar.addi v17_r0 c0_i32_19_r0
  let v160_r0 : BitVec 32 := Scalar.muli c512_i32_153_r0 v22_r0
  ![0, v160_r0.toNat]
def k0_cond2 : BitVec 1 :=
  let true_82_r0 : BitVec 1 := 1#1
  let c11_i32_80_r0 : BitVec 32 := 11#32
  let true_12_r0 : BitVec 1 := 1#1
  let c1_i32_r0 : BitVec 32 := 1#32
  let c0_i32_13_r0 : BitVec 32 := 0#32
  let v15_r0 : BitVec 32 := Scalar.select true_12_r0 c1_i32_r0 c0_i32_13_r0
  let c11_i32_r0 : BitVec 32 := 11#32
  let v16_r0 : BitVec 1 := Scalar.cmpi .eq v15_r0 c11_i32_r0
  let c0_i32_14_r0 : BitVec 32 := 0#32
  let v17_r0 : BitVec 32 := Scalar.select v16_r0 c0_i32_14_r0 v15_r0
  let c0_i32_19_r0 : BitVec 32 := 0#32
  let v22_r0 : BitVec 32 := Scalar.addi v17_r0 c0_i32_19_r0
  let v85_r0 : BitVec 32 := Scalar.addi c11_i32_80_r0 v22_r0
  let c11_i32_81_r0 : BitVec 32 := 11#32
  let v86_r0 : BitVec 1 := Scalar.cmpi .ne v85_r0 c11_i32_81_r0
  let v87_r0 : BitVec 1 := Scalar.andi true_82_r0 v86_r0
  let true_83_r0 : BitVec 1 := 1#1
  let v88_r0 : BitVec 1 := Scalar.andi v87_r0 true_83_r0
  let v89_r0 : BitVec 32 := Scalar.extui v88_r0
  let c0_i32_84_r0 : BitVec 32 := 0#32
  let v90_r0 : BitVec 1 := Scalar.cmpi .ne v89_r0 c0_i32_84_r0
  v90_r0

def k0_off9 : Fin 1 → Nat :=
  let c0_i32_65_r0 : BitVec 32 := 0#32
  let c1_i32_66_r0 : BitVec 32 := 1#32
  let v70_r0 : BitVec 32 := Scalar.addi c0_i32_65_r0 c1_i32_66_r0
  let c3_i32_152_r0 : BitVec 32 := 3#32
  let v159_r0 : BitVec 32 := Scalar.remui v70_r0 c3_i32_152_r0
  ![v159_r0.toNat]
def k0_off10 : Fin 3 → Nat :=
  let c0_i32_65_r0 : BitVec 32 := 0#32
  let c1_i32_66_r0 : BitVec 32 := 1#32
  let v70_r0 : BitVec 32 := Scalar.addi c0_i32_65_r0 c1_i32_66_r0
  let c3_i32_152_r0 : BitVec 32 := 3#32
  let v159_r0 : BitVec 32 := Scalar.remui v70_r0 c3_i32_152_r0
  let c0_i32_155_r0 : BitVec 32 := 0#32
  let c0_i32_156_r0 : BitVec 32 := 0#32
  ![v159_r0.toNat, 0, 0]
def k0_off11 : Fin 2 → Nat :=
  let c0_i32_157_r0 : BitVec 32 := 0#32
  let c512_i32_154_r0 : BitVec 32 := 512#32
  let c11_i32_153_r0 : BitVec 32 := 11#32
  let true_12_r0 : BitVec 1 := 1#1
  let c1_i32_r0 : BitVec 32 := 1#32
  let c0_i32_13_r0 : BitVec 32 := 0#32
  let v15_r0 : BitVec 32 := Scalar.select true_12_r0 c1_i32_r0 c0_i32_13_r0
  let c11_i32_r0 : BitVec 32 := 11#32
  let v16_r0 : BitVec 1 := Scalar.cmpi .eq v15_r0 c11_i32_r0
  let c0_i32_14_r0 : BitVec 32 := 0#32
  let v17_r0 : BitVec 32 := Scalar.select v16_r0 c0_i32_14_r0 v15_r0
  let c0_i32_19_r0 : BitVec 32 := 0#32
  let v22_r0 : BitVec 32 := Scalar.addi v17_r0 c0_i32_19_r0
  let v160_r0 : BitVec 32 := Scalar.addi c11_i32_153_r0 v22_r0
  let v161_r0 : BitVec 32 := Scalar.muli c512_i32_154_r0 v160_r0
  ![0, v161_r0.toNat]
def k0_cond3 : BitVec 1 :=
  let true_87_r0 : BitVec 1 := 1#1
  let true_12_r0 : BitVec 1 := 1#1
  let c1_i32_r0 : BitVec 32 := 1#32
  let c0_i32_13_r0 : BitVec 32 := 0#32
  let v15_r0 : BitVec 32 := Scalar.select true_12_r0 c1_i32_r0 c0_i32_13_r0
  let c11_i32_r0 : BitVec 32 := 11#32
  let v16_r0 : BitVec 1 := Scalar.cmpi .eq v15_r0 c11_i32_r0
  let c0_i32_14_r0 : BitVec 32 := 0#32
  let v17_r0 : BitVec 32 := Scalar.select v16_r0 c0_i32_14_r0 v15_r0
  let c0_i32_19_r0 : BitVec 32 := 0#32
  let v22_r0 : BitVec 32 := Scalar.addi v17_r0 c0_i32_19_r0
  let c0_i32_86_r0 : BitVec 32 := 0#32
  let v93_r0 : BitVec 1 := Scalar.cmpi .ne v22_r0 c0_i32_86_r0
  let v94_r0 : BitVec 1 := Scalar.andi true_87_r0 v93_r0
  let true_88_r0 : BitVec 1 := 1#1
  let v95_r0 : BitVec 1 := Scalar.andi v94_r0 true_88_r0
  let v96_r0 : BitVec 32 := Scalar.extui v95_r0
  let c0_i32_89_r0 : BitVec 32 := 0#32
  let v97_r0 : BitVec 1 := Scalar.cmpi .ne v96_r0 c0_i32_89_r0
  v97_r0

def k0_off12 : Fin 1 → Nat :=
  let c0_i32_73_r0 : BitVec 32 := 0#32
  let c1_i32_74_r0 : BitVec 32 := 1#32
  let v77_r0 : BitVec 32 := Scalar.addi c0_i32_73_r0 c1_i32_74_r0
  let c3_i32_152_r0 : BitVec 32 := 3#32
  let v159_r0 : BitVec 32 := Scalar.remui v77_r0 c3_i32_152_r0
  ![v159_r0.toNat]
def k0_off13 : Fin 3 → Nat :=
  let c0_i32_73_r0 : BitVec 32 := 0#32
  let c1_i32_74_r0 : BitVec 32 := 1#32
  let v77_r0 : BitVec 32 := Scalar.addi c0_i32_73_r0 c1_i32_74_r0
  let c3_i32_152_r0 : BitVec 32 := 3#32
  let v159_r0 : BitVec 32 := Scalar.remui v77_r0 c3_i32_152_r0
  let c0_i32_154_r0 : BitVec 32 := 0#32
  let c0_i32_155_r0 : BitVec 32 := 0#32
  ![v159_r0.toNat, 0, 0]
def k0_off14 : Fin 2 → Nat :=
  let c512_i32_153_r0 : BitVec 32 := 512#32
  let true_12_r0 : BitVec 1 := 1#1
  let c1_i32_r0 : BitVec 32 := 1#32
  let c0_i32_13_r0 : BitVec 32 := 0#32
  let v15_r0 : BitVec 32 := Scalar.select true_12_r0 c1_i32_r0 c0_i32_13_r0
  let c11_i32_r0 : BitVec 32 := 11#32
  let v16_r0 : BitVec 1 := Scalar.cmpi .eq v15_r0 c11_i32_r0
  let c0_i32_14_r0 : BitVec 32 := 0#32
  let v17_r0 : BitVec 32 := Scalar.select v16_r0 c0_i32_14_r0 v15_r0
  let c0_i32_19_r0 : BitVec 32 := 0#32
  let v22_r0 : BitVec 32 := Scalar.addi v17_r0 c0_i32_19_r0
  let v160_r0 : BitVec 32 := Scalar.muli c512_i32_153_r0 v22_r0
  let c0_i32_156_r0 : BitVec 32 := 0#32
  ![v160_r0.toNat, 0]
@[reducible] def k0_t1_loop : Scf.Loop 32 :=
  let c0_i32_100_r0 : BitVec 32 := 0#32
  let c176_i32_r0 : BitVec 32 := 176#32
  let v100_r0 : BitVec 32 := Scalar.addi c0_i32_100_r0 c176_i32_r0
  let c1_i32_101_r0 : BitVec 32 := 1#32
  ⟨c0_i32_100_r0, v100_r0, c1_i32_101_r0⟩
def k0_off15 (arg10_r0 : BitVec 32) : Fin 1 → Nat :=
  let c2_i32_321_r0 : BitVec 32 := 2#32
  let v461_r0 : BitVec 32 := Scalar.remui arg10_r0 c2_i32_321_r0
  ![v461_r0.toNat]
def k0_cond4 (k0_t1 : Fin k0_t1_loop.trips) (arg22_r0 : BitVec 32) (arg23_r0 : BitVec 32) : BitVec 1 :=
  let c0_i32_153_r0 : BitVec 32 := 0#32
  let v161_r0 : BitVec 32 := Scalar.addi arg22_r0 c0_i32_153_r0
  let true_165_r0 : BitVec 1 := 1#1
  let c1_i32_164_r0 : BitVec 32 := 1#32
  let v173_r0 : BitVec 32 := Scalar.addi arg23_r0 c1_i32_164_r0
  let v174_r0 : BitVec 32 := Scalar.select true_165_r0 v173_r0 arg23_r0
  let c11_i32_166_r0 : BitVec 32 := 11#32
  let v175_r0 : BitVec 1 := Scalar.cmpi .eq v174_r0 c11_i32_166_r0
  let c1_i32_168_r0 : BitVec 32 := 1#32
  let v177_r0 : BitVec 32 := Scalar.addi arg22_r0 c1_i32_168_r0
  let v178_r0 : BitVec 32 := Scalar.select v175_r0 v177_r0 arg22_r0
  let c16_i32_169_r0 : BitVec 32 := 16#32
  let v179_r0 : BitVec 1 := Scalar.cmpi .eq v178_r0 c16_i32_169_r0
  let c0_i32_170_r0 : BitVec 32 := 0#32
  let v180_r0 : BitVec 32 := Scalar.select v179_r0 c0_i32_170_r0 v178_r0
  let c0_i32_171_r0 : BitVec 32 := 0#32
  let v181_r0 : BitVec 32 := Scalar.addi v180_r0 c0_i32_171_r0
  let v203_r0 : BitVec 1 := Scalar.cmpi .ne v161_r0 v181_r0
  let c0_i32_100_r0 : BitVec 32 := 0#32
  let c1_i32_101_r0 : BitVec 32 := 1#32
  let arg9_r0 : BitVec 32 := Scf.iv c0_i32_100_r0 c1_i32_101_r0 k0_t1
  let c175_i32_191_r0 : BitVec 32 := 175#32
  let v204_r0 : BitVec 1 := Scalar.cmpi .sge arg9_r0 c175_i32_191_r0
  let true_192_r0 : BitVec 1 := 1#1
  let v205_r0 : BitVec 1 := Scalar.xori v204_r0 true_192_r0
  let v206_r0 : BitVec 1 := Scalar.andi v203_r0 v205_r0
  let true_193_r0 : BitVec 1 := 1#1
  let v207_r0 : BitVec 1 := Scalar.andi v206_r0 true_193_r0
  let v208_r0 : BitVec 32 := Scalar.extui v207_r0
  let c0_i32_194_r0 : BitVec 32 := 0#32
  let v209_r0 : BitVec 1 := Scalar.cmpi .ne v208_r0 c0_i32_194_r0
  v209_r0

def k0_off16 (arg10_r0 : BitVec 32) : Fin 3 → Nat :=
  let c2_i32_321_r0 : BitVec 32 := 2#32
  let v461_r0 : BitVec 32 := Scalar.remui arg10_r0 c2_i32_321_r0
  let c0_i32_323_r0 : BitVec 32 := 0#32
  let c0_i32_324_r0 : BitVec 32 := 0#32
  ![v461_r0.toNat, 0, 0]
def k0_off17 (arg22_r0 : BitVec 32) (arg23_r0 : BitVec 32) : Fin 2 → Nat :=
  let c512_i32_322_r0 : BitVec 32 := 512#32
  let true_165_r0 : BitVec 1 := 1#1
  let c1_i32_164_r0 : BitVec 32 := 1#32
  let v173_r0 : BitVec 32 := Scalar.addi arg23_r0 c1_i32_164_r0
  let v174_r0 : BitVec 32 := Scalar.select true_165_r0 v173_r0 arg23_r0
  let c11_i32_166_r0 : BitVec 32 := 11#32
  let v175_r0 : BitVec 1 := Scalar.cmpi .eq v174_r0 c11_i32_166_r0
  let c1_i32_168_r0 : BitVec 32 := 1#32
  let v177_r0 : BitVec 32 := Scalar.addi arg22_r0 c1_i32_168_r0
  let v178_r0 : BitVec 32 := Scalar.select v175_r0 v177_r0 arg22_r0
  let c16_i32_169_r0 : BitVec 32 := 16#32
  let v179_r0 : BitVec 1 := Scalar.cmpi .eq v178_r0 c16_i32_169_r0
  let c0_i32_170_r0 : BitVec 32 := 0#32
  let v180_r0 : BitVec 32 := Scalar.select v179_r0 c0_i32_170_r0 v178_r0
  let c0_i32_171_r0 : BitVec 32 := 0#32
  let v181_r0 : BitVec 32 := Scalar.addi v180_r0 c0_i32_171_r0
  let v462_r0 : BitVec 32 := Scalar.muli c512_i32_322_r0 v181_r0
  let c0_i32_325_r0 : BitVec 32 := 0#32
  ![v462_r0.toNat, 0]
def k0_off18 (arg12_r0 : BitVec 32) : Fin 1 → Nat :=
  let c2_i32_321_r0 : BitVec 32 := 2#32
  let v461_r0 : BitVec 32 := Scalar.remui arg12_r0 c2_i32_321_r0
  ![v461_r0.toNat]
def k0_cond5 (k0_t1 : Fin k0_t1_loop.trips) (arg22_r0 : BitVec 32) (arg23_r0 : BitVec 32) : BitVec 1 :=
  let c0_i32_153_r0 : BitVec 32 := 0#32
  let v161_r0 : BitVec 32 := Scalar.addi arg22_r0 c0_i32_153_r0
  let true_165_r0 : BitVec 1 := 1#1
  let c1_i32_164_r0 : BitVec 32 := 1#32
  let v173_r0 : BitVec 32 := Scalar.addi arg23_r0 c1_i32_164_r0
  let v174_r0 : BitVec 32 := Scalar.select true_165_r0 v173_r0 arg23_r0
  let c11_i32_166_r0 : BitVec 32 := 11#32
  let v175_r0 : BitVec 1 := Scalar.cmpi .eq v174_r0 c11_i32_166_r0
  let c1_i32_168_r0 : BitVec 32 := 1#32
  let v177_r0 : BitVec 32 := Scalar.addi arg22_r0 c1_i32_168_r0
  let v178_r0 : BitVec 32 := Scalar.select v175_r0 v177_r0 arg22_r0
  let c16_i32_169_r0 : BitVec 32 := 16#32
  let v179_r0 : BitVec 1 := Scalar.cmpi .eq v178_r0 c16_i32_169_r0
  let c0_i32_170_r0 : BitVec 32 := 0#32
  let v180_r0 : BitVec 32 := Scalar.select v179_r0 c0_i32_170_r0 v178_r0
  let c0_i32_171_r0 : BitVec 32 := 0#32
  let v181_r0 : BitVec 32 := Scalar.addi v180_r0 c0_i32_171_r0
  let v213_r0 : BitVec 1 := Scalar.cmpi .ne v161_r0 v181_r0
  let c0_i32_100_r0 : BitVec 32 := 0#32
  let c1_i32_101_r0 : BitVec 32 := 1#32
  let arg9_r0 : BitVec 32 := Scf.iv c0_i32_100_r0 c1_i32_101_r0 k0_t1
  let c175_i32_197_r0 : BitVec 32 := 175#32
  let v214_r0 : BitVec 1 := Scalar.cmpi .sge arg9_r0 c175_i32_197_r0
  let true_198_r0 : BitVec 1 := 1#1
  let v215_r0 : BitVec 1 := Scalar.xori v214_r0 true_198_r0
  let v216_r0 : BitVec 1 := Scalar.andi v213_r0 v215_r0
  let true_199_r0 : BitVec 1 := 1#1
  let v217_r0 : BitVec 1 := Scalar.andi v216_r0 true_199_r0
  let v218_r0 : BitVec 32 := Scalar.extui v217_r0
  let c0_i32_200_r0 : BitVec 32 := 0#32
  let v219_r0 : BitVec 1 := Scalar.cmpi .ne v218_r0 c0_i32_200_r0
  v219_r0

def k0_off19 (arg12_r0 : BitVec 32) : Fin 3 → Nat :=
  let c2_i32_321_r0 : BitVec 32 := 2#32
  let v461_r0 : BitVec 32 := Scalar.remui arg12_r0 c2_i32_321_r0
  let c0_i32_323_r0 : BitVec 32 := 0#32
  let c0_i32_324_r0 : BitVec 32 := 0#32
  ![v461_r0.toNat, 0, 0]
def k0_off20 (arg22_r0 : BitVec 32) (arg23_r0 : BitVec 32) : Fin 2 → Nat :=
  let c512_i32_322_r0 : BitVec 32 := 512#32
  let true_165_r0 : BitVec 1 := 1#1
  let c1_i32_164_r0 : BitVec 32 := 1#32
  let v173_r0 : BitVec 32 := Scalar.addi arg23_r0 c1_i32_164_r0
  let v174_r0 : BitVec 32 := Scalar.select true_165_r0 v173_r0 arg23_r0
  let c11_i32_166_r0 : BitVec 32 := 11#32
  let v175_r0 : BitVec 1 := Scalar.cmpi .eq v174_r0 c11_i32_166_r0
  let c1_i32_168_r0 : BitVec 32 := 1#32
  let v177_r0 : BitVec 32 := Scalar.addi arg22_r0 c1_i32_168_r0
  let v178_r0 : BitVec 32 := Scalar.select v175_r0 v177_r0 arg22_r0
  let c16_i32_169_r0 : BitVec 32 := 16#32
  let v179_r0 : BitVec 1 := Scalar.cmpi .eq v178_r0 c16_i32_169_r0
  let c0_i32_170_r0 : BitVec 32 := 0#32
  let v180_r0 : BitVec 32 := Scalar.select v179_r0 c0_i32_170_r0 v178_r0
  let c0_i32_171_r0 : BitVec 32 := 0#32
  let v181_r0 : BitVec 32 := Scalar.addi v180_r0 c0_i32_171_r0
  let v462_r0 : BitVec 32 := Scalar.muli c512_i32_322_r0 v181_r0
  let c0_i32_325_r0 : BitVec 32 := 0#32
  ![v462_r0.toNat, 0]
def k0_off21 (arg14_r0 : BitVec 32) : Fin 1 → Nat :=
  let c3_i32_321_r0 : BitVec 32 := 3#32
  let v461_r0 : BitVec 32 := Scalar.remui arg14_r0 c3_i32_321_r0
  ![v461_r0.toNat]
def k0_cond6 (k0_t1 : Fin k0_t1_loop.trips) (arg23_r0 : BitVec 32) : BitVec 1 :=
  let true_165_r0 : BitVec 1 := 1#1
  let c1_i32_164_r0 : BitVec 32 := 1#32
  let v173_r0 : BitVec 32 := Scalar.addi arg23_r0 c1_i32_164_r0
  let v174_r0 : BitVec 32 := Scalar.select true_165_r0 v173_r0 arg23_r0
  let c11_i32_166_r0 : BitVec 32 := 11#32
  let v175_r0 : BitVec 1 := Scalar.cmpi .eq v174_r0 c11_i32_166_r0
  let c0_i32_167_r0 : BitVec 32 := 0#32
  let v176_r0 : BitVec 32 := Scalar.select v175_r0 c0_i32_167_r0 v174_r0
  let c0_i32_172_r0 : BitVec 32 := 0#32
  let v182_r0 : BitVec 32 := Scalar.addi v176_r0 c0_i32_172_r0
  let true_174_r0 : BitVec 1 := 1#1
  let c1_i32_173_r0 : BitVec 32 := 1#32
  let v183_r0 : BitVec 32 := Scalar.addi v176_r0 c1_i32_173_r0
  let v184_r0 : BitVec 32 := Scalar.select true_174_r0 v183_r0 v176_r0
  let c11_i32_175_r0 : BitVec 32 := 11#32
  let v185_r0 : BitVec 1 := Scalar.cmpi .eq v184_r0 c11_i32_175_r0
  let c0_i32_176_r0 : BitVec 32 := 0#32
  let v186_r0 : BitVec 32 := Scalar.select v185_r0 c0_i32_176_r0 v184_r0
  let c0_i32_181_r0 : BitVec 32 := 0#32
  let v192_r0 : BitVec 32 := Scalar.addi v186_r0 c0_i32_181_r0
  let v223_r0 : BitVec 1 := Scalar.cmpi .ne v182_r0 v192_r0
  let c0_i32_100_r0 : BitVec 32 := 0#32
  let c1_i32_101_r0 : BitVec 32 := 1#32
  let arg9_r0 : BitVec 32 := Scf.iv c0_i32_100_r0 c1_i32_101_r0 k0_t1
  let c174_i32_r0 : BitVec 32 := 174#32
  let v224_r0 : BitVec 1 := Scalar.cmpi .sge arg9_r0 c174_i32_r0
  let true_203_r0 : BitVec 1 := 1#1
  let v225_r0 : BitVec 1 := Scalar.xori v224_r0 true_203_r0
  let v226_r0 : BitVec 1 := Scalar.andi v223_r0 v225_r0
  let true_204_r0 : BitVec 1 := 1#1
  let v227_r0 : BitVec 1 := Scalar.andi v226_r0 true_204_r0
  let v228_r0 : BitVec 32 := Scalar.extui v227_r0
  let c0_i32_205_r0 : BitVec 32 := 0#32
  let v229_r0 : BitVec 1 := Scalar.cmpi .ne v228_r0 c0_i32_205_r0
  v229_r0

def k0_off22 (arg14_r0 : BitVec 32) : Fin 3 → Nat :=
  let c3_i32_321_r0 : BitVec 32 := 3#32
  let v461_r0 : BitVec 32 := Scalar.remui arg14_r0 c3_i32_321_r0
  let c0_i32_323_r0 : BitVec 32 := 0#32
  let c0_i32_324_r0 : BitVec 32 := 0#32
  ![v461_r0.toNat, 0, 0]
def k0_off23 (arg23_r0 : BitVec 32) : Fin 2 → Nat :=
  let c0_i32_325_r0 : BitVec 32 := 0#32
  let c512_i32_322_r0 : BitVec 32 := 512#32
  let true_174_r0 : BitVec 1 := 1#1
  let true_165_r0 : BitVec 1 := 1#1
  let c1_i32_164_r0 : BitVec 32 := 1#32
  let v173_r0 : BitVec 32 := Scalar.addi arg23_r0 c1_i32_164_r0
  let v174_r0 : BitVec 32 := Scalar.select true_165_r0 v173_r0 arg23_r0
  let c11_i32_166_r0 : BitVec 32 := 11#32
  let v175_r0 : BitVec 1 := Scalar.cmpi .eq v174_r0 c11_i32_166_r0
  let c0_i32_167_r0 : BitVec 32 := 0#32
  let v176_r0 : BitVec 32 := Scalar.select v175_r0 c0_i32_167_r0 v174_r0
  let c1_i32_173_r0 : BitVec 32 := 1#32
  let v183_r0 : BitVec 32 := Scalar.addi v176_r0 c1_i32_173_r0
  let v184_r0 : BitVec 32 := Scalar.select true_174_r0 v183_r0 v176_r0
  let c11_i32_175_r0 : BitVec 32 := 11#32
  let v185_r0 : BitVec 1 := Scalar.cmpi .eq v184_r0 c11_i32_175_r0
  let c0_i32_176_r0 : BitVec 32 := 0#32
  let v186_r0 : BitVec 32 := Scalar.select v185_r0 c0_i32_176_r0 v184_r0
  let c0_i32_181_r0 : BitVec 32 := 0#32
  let v192_r0 : BitVec 32 := Scalar.addi v186_r0 c0_i32_181_r0
  let v462_r0 : BitVec 32 := Scalar.muli c512_i32_322_r0 v192_r0
  ![0, v462_r0.toNat]
def k0_off24 (arg16_r0 : BitVec 32) : Fin 1 → Nat :=
  let c3_i32_321_r0 : BitVec 32 := 3#32
  let v461_r0 : BitVec 32 := Scalar.remui arg16_r0 c3_i32_321_r0
  ![v461_r0.toNat]
def k0_cond7 (k0_t1 : Fin k0_t1_loop.trips) (arg23_r0 : BitVec 32) : BitVec 1 :=
  let c11_i32_208_r0 : BitVec 32 := 11#32
  let true_165_r0 : BitVec 1 := 1#1
  let c1_i32_164_r0 : BitVec 32 := 1#32
  let v173_r0 : BitVec 32 := Scalar.addi arg23_r0 c1_i32_164_r0
  let v174_r0 : BitVec 32 := Scalar.select true_165_r0 v173_r0 arg23_r0
  let c11_i32_166_r0 : BitVec 32 := 11#32
  let v175_r0 : BitVec 1 := Scalar.cmpi .eq v174_r0 c11_i32_166_r0
  let c0_i32_167_r0 : BitVec 32 := 0#32
  let v176_r0 : BitVec 32 := Scalar.select v175_r0 c0_i32_167_r0 v174_r0
  let c0_i32_172_r0 : BitVec 32 := 0#32
  let v182_r0 : BitVec 32 := Scalar.addi v176_r0 c0_i32_172_r0
  let v233_r0 : BitVec 32 := Scalar.addi c11_i32_208_r0 v182_r0
  let c11_i32_209_r0 : BitVec 32 := 11#32
  let true_174_r0 : BitVec 1 := 1#1
  let c1_i32_173_r0 : BitVec 32 := 1#32
  let v183_r0 : BitVec 32 := Scalar.addi v176_r0 c1_i32_173_r0
  let v184_r0 : BitVec 32 := Scalar.select true_174_r0 v183_r0 v176_r0
  let c11_i32_175_r0 : BitVec 32 := 11#32
  let v185_r0 : BitVec 1 := Scalar.cmpi .eq v184_r0 c11_i32_175_r0
  let c0_i32_176_r0 : BitVec 32 := 0#32
  let v186_r0 : BitVec 32 := Scalar.select v185_r0 c0_i32_176_r0 v184_r0
  let c0_i32_181_r0 : BitVec 32 := 0#32
  let v192_r0 : BitVec 32 := Scalar.addi v186_r0 c0_i32_181_r0
  let v234_r0 : BitVec 32 := Scalar.addi c11_i32_209_r0 v192_r0
  let v235_r0 : BitVec 1 := Scalar.cmpi .ne v233_r0 v234_r0
  let c0_i32_100_r0 : BitVec 32 := 0#32
  let c1_i32_101_r0 : BitVec 32 := 1#32
  let arg9_r0 : BitVec 32 := Scf.iv c0_i32_100_r0 c1_i32_101_r0 k0_t1
  let c174_i32_210_r0 : BitVec 32 := 174#32
  let v236_r0 : BitVec 1 := Scalar.cmpi .sge arg9_r0 c174_i32_210_r0
  let true_211_r0 : BitVec 1 := 1#1
  let v237_r0 : BitVec 1 := Scalar.xori v236_r0 true_211_r0
  let v238_r0 : BitVec 1 := Scalar.andi v235_r0 v237_r0
  let true_212_r0 : BitVec 1 := 1#1
  let v239_r0 : BitVec 1 := Scalar.andi v238_r0 true_212_r0
  let v240_r0 : BitVec 32 := Scalar.extui v239_r0
  let c0_i32_213_r0 : BitVec 32 := 0#32
  let v241_r0 : BitVec 1 := Scalar.cmpi .ne v240_r0 c0_i32_213_r0
  v241_r0

def k0_off25 (arg16_r0 : BitVec 32) : Fin 3 → Nat :=
  let c3_i32_321_r0 : BitVec 32 := 3#32
  let v461_r0 : BitVec 32 := Scalar.remui arg16_r0 c3_i32_321_r0
  let c0_i32_324_r0 : BitVec 32 := 0#32
  let c0_i32_325_r0 : BitVec 32 := 0#32
  ![v461_r0.toNat, 0, 0]
def k0_off26 (arg23_r0 : BitVec 32) : Fin 2 → Nat :=
  let c0_i32_326_r0 : BitVec 32 := 0#32
  let c512_i32_323_r0 : BitVec 32 := 512#32
  let c11_i32_322_r0 : BitVec 32 := 11#32
  let true_174_r0 : BitVec 1 := 1#1
  let true_165_r0 : BitVec 1 := 1#1
  let c1_i32_164_r0 : BitVec 32 := 1#32
  let v173_r0 : BitVec 32 := Scalar.addi arg23_r0 c1_i32_164_r0
  let v174_r0 : BitVec 32 := Scalar.select true_165_r0 v173_r0 arg23_r0
  let c11_i32_166_r0 : BitVec 32 := 11#32
  let v175_r0 : BitVec 1 := Scalar.cmpi .eq v174_r0 c11_i32_166_r0
  let c0_i32_167_r0 : BitVec 32 := 0#32
  let v176_r0 : BitVec 32 := Scalar.select v175_r0 c0_i32_167_r0 v174_r0
  let c1_i32_173_r0 : BitVec 32 := 1#32
  let v183_r0 : BitVec 32 := Scalar.addi v176_r0 c1_i32_173_r0
  let v184_r0 : BitVec 32 := Scalar.select true_174_r0 v183_r0 v176_r0
  let c11_i32_175_r0 : BitVec 32 := 11#32
  let v185_r0 : BitVec 1 := Scalar.cmpi .eq v184_r0 c11_i32_175_r0
  let c0_i32_176_r0 : BitVec 32 := 0#32
  let v186_r0 : BitVec 32 := Scalar.select v185_r0 c0_i32_176_r0 v184_r0
  let c0_i32_181_r0 : BitVec 32 := 0#32
  let v192_r0 : BitVec 32 := Scalar.addi v186_r0 c0_i32_181_r0
  let v462_r0 : BitVec 32 := Scalar.addi c11_i32_322_r0 v192_r0
  let v463_r0 : BitVec 32 := Scalar.muli c512_i32_323_r0 v462_r0
  ![0, v463_r0.toNat]
def k0_off27 (arg18_r0 : BitVec 32) : Fin 1 → Nat :=
  let c3_i32_321_r0 : BitVec 32 := 3#32
  let v461_r0 : BitVec 32 := Scalar.remui arg18_r0 c3_i32_321_r0
  ![v461_r0.toNat]
def k0_cond8 (k0_t1 : Fin k0_t1_loop.trips) (arg23_r0 : BitVec 32) : BitVec 1 :=
  let true_165_r0 : BitVec 1 := 1#1
  let c1_i32_164_r0 : BitVec 32 := 1#32
  let v173_r0 : BitVec 32 := Scalar.addi arg23_r0 c1_i32_164_r0
  let v174_r0 : BitVec 32 := Scalar.select true_165_r0 v173_r0 arg23_r0
  let c11_i32_166_r0 : BitVec 32 := 11#32
  let v175_r0 : BitVec 1 := Scalar.cmpi .eq v174_r0 c11_i32_166_r0
  let c0_i32_167_r0 : BitVec 32 := 0#32
  let v176_r0 : BitVec 32 := Scalar.select v175_r0 c0_i32_167_r0 v174_r0
  let c0_i32_172_r0 : BitVec 32 := 0#32
  let v182_r0 : BitVec 32 := Scalar.addi v176_r0 c0_i32_172_r0
  let true_174_r0 : BitVec 1 := 1#1
  let c1_i32_173_r0 : BitVec 32 := 1#32
  let v183_r0 : BitVec 32 := Scalar.addi v176_r0 c1_i32_173_r0
  let v184_r0 : BitVec 32 := Scalar.select true_174_r0 v183_r0 v176_r0
  let c11_i32_175_r0 : BitVec 32 := 11#32
  let v185_r0 : BitVec 1 := Scalar.cmpi .eq v184_r0 c11_i32_175_r0
  let c0_i32_176_r0 : BitVec 32 := 0#32
  let v186_r0 : BitVec 32 := Scalar.select v185_r0 c0_i32_176_r0 v184_r0
  let c0_i32_181_r0 : BitVec 32 := 0#32
  let v192_r0 : BitVec 32 := Scalar.addi v186_r0 c0_i32_181_r0
  let v245_r0 : BitVec 1 := Scalar.cmpi .ne v182_r0 v192_r0
  let c0_i32_100_r0 : BitVec 32 := 0#32
  let c1_i32_101_r0 : BitVec 32 := 1#32
  let arg9_r0 : BitVec 32 := Scf.iv c0_i32_100_r0 c1_i32_101_r0 k0_t1
  let c174_i32_216_r0 : BitVec 32 := 174#32
  let v246_r0 : BitVec 1 := Scalar.cmpi .sge arg9_r0 c174_i32_216_r0
  let true_217_r0 : BitVec 1 := 1#1
  let v247_r0 : BitVec 1 := Scalar.xori v246_r0 true_217_r0
  let v248_r0 : BitVec 1 := Scalar.andi v245_r0 v247_r0
  let true_218_r0 : BitVec 1 := 1#1
  let v249_r0 : BitVec 1 := Scalar.andi v248_r0 true_218_r0
  let v250_r0 : BitVec 32 := Scalar.extui v249_r0
  let c0_i32_219_r0 : BitVec 32 := 0#32
  let v251_r0 : BitVec 1 := Scalar.cmpi .ne v250_r0 c0_i32_219_r0
  v251_r0

def k0_off28 (arg18_r0 : BitVec 32) : Fin 3 → Nat :=
  let c3_i32_321_r0 : BitVec 32 := 3#32
  let v461_r0 : BitVec 32 := Scalar.remui arg18_r0 c3_i32_321_r0
  let c0_i32_323_r0 : BitVec 32 := 0#32
  let c0_i32_324_r0 : BitVec 32 := 0#32
  ![v461_r0.toNat, 0, 0]
def k0_off29 (arg23_r0 : BitVec 32) : Fin 2 → Nat :=
  let c512_i32_322_r0 : BitVec 32 := 512#32
  let true_174_r0 : BitVec 1 := 1#1
  let true_165_r0 : BitVec 1 := 1#1
  let c1_i32_164_r0 : BitVec 32 := 1#32
  let v173_r0 : BitVec 32 := Scalar.addi arg23_r0 c1_i32_164_r0
  let v174_r0 : BitVec 32 := Scalar.select true_165_r0 v173_r0 arg23_r0
  let c11_i32_166_r0 : BitVec 32 := 11#32
  let v175_r0 : BitVec 1 := Scalar.cmpi .eq v174_r0 c11_i32_166_r0
  let c0_i32_167_r0 : BitVec 32 := 0#32
  let v176_r0 : BitVec 32 := Scalar.select v175_r0 c0_i32_167_r0 v174_r0
  let c1_i32_173_r0 : BitVec 32 := 1#32
  let v183_r0 : BitVec 32 := Scalar.addi v176_r0 c1_i32_173_r0
  let v184_r0 : BitVec 32 := Scalar.select true_174_r0 v183_r0 v176_r0
  let c11_i32_175_r0 : BitVec 32 := 11#32
  let v185_r0 : BitVec 1 := Scalar.cmpi .eq v184_r0 c11_i32_175_r0
  let c0_i32_176_r0 : BitVec 32 := 0#32
  let v186_r0 : BitVec 32 := Scalar.select v185_r0 c0_i32_176_r0 v184_r0
  let c0_i32_181_r0 : BitVec 32 := 0#32
  let v192_r0 : BitVec 32 := Scalar.addi v186_r0 c0_i32_181_r0
  let v462_r0 : BitVec 32 := Scalar.muli c512_i32_322_r0 v192_r0
  let c0_i32_325_r0 : BitVec 32 := 0#32
  ![v462_r0.toNat, 0]
def k0_off30 (arg11_r0 : BitVec 32) : Fin 1 → Nat :=
  let c2_i32_322_r0 : BitVec 32 := 2#32
  let v462_r0 : BitVec 32 := Scalar.remui arg11_r0 c2_i32_322_r0
  ![v462_r0.toNat]
def k0_cond9 (k0_t1 : Fin k0_t1_loop.trips) (arg22_r0 : BitVec 32) (arg23_r0 : BitVec 32) : BitVec 1 :=
  let c0_i32_153_r0 : BitVec 32 := 0#32
  let v161_r0 : BitVec 32 := Scalar.addi arg22_r0 c0_i32_153_r0
  let true_156_r0 : BitVec 1 := 1#1
  let c1_i32_155_r0 : BitVec 32 := 1#32
  let v163_r0 : BitVec 32 := Scalar.subi arg23_r0 c1_i32_155_r0
  let v164_r0 : BitVec 32 := Scalar.select true_156_r0 v163_r0 arg23_r0
  let c_m1_i32_157_r0 : BitVec 32 := 4294967295#32
  let v165_r0 : BitVec 1 := Scalar.cmpi .eq v164_r0 c_m1_i32_157_r0
  let c1_i32_159_r0 : BitVec 32 := 1#32
  let v167_r0 : BitVec 32 := Scalar.subi arg22_r0 c1_i32_159_r0
  let v168_r0 : BitVec 32 := Scalar.select v165_r0 v167_r0 arg22_r0
  let c_m1_i32_160_r0 : BitVec 32 := 4294967295#32
  let v169_r0 : BitVec 1 := Scalar.cmpi .eq v168_r0 c_m1_i32_160_r0
  let c15_i32_161_r0 : BitVec 32 := 15#32
  let v170_r0 : BitVec 32 := Scalar.select v169_r0 c15_i32_161_r0 v168_r0
  let c0_i32_162_r0 : BitVec 32 := 0#32
  let v171_r0 : BitVec 32 := Scalar.addi v170_r0 c0_i32_162_r0
  let v259_r0 : BitVec 1 := Scalar.cmpi .ne v161_r0 v171_r0
  let c0_i32_100_r0 : BitVec 32 := 0#32
  let c1_i32_101_r0 : BitVec 32 := 1#32
  let arg9_r0 : BitVec 32 := Scf.iv c0_i32_100_r0 c1_i32_101_r0 k0_t1
  let c0_i32_152_r0 : BitVec 32 := 0#32
  let v159_r0 : BitVec 1 := Scalar.cmpi .eq arg9_r0 c0_i32_152_r0
  let v260_r0 : BitVec 1 := Scalar.ori v259_r0 v159_r0
  let c0_i32_224_r0 : BitVec 32 := 0#32
  let v261_r0 : BitVec 1 := Scalar.cmpi .sge arg9_r0 c0_i32_224_r0
  let v262_r0 : BitVec 1 := Scalar.andi v260_r0 v261_r0
  let v263_r0 : BitVec 32 := Scalar.extui v262_r0
  let c0_i32_225_r0 : BitVec 32 := 0#32
  let v264_r0 : BitVec 1 := Scalar.cmpi .ne v263_r0 c0_i32_225_r0
  v264_r0

def k0_off31 (arg11_r0 : BitVec 32) : Fin 3 → Nat :=
  let c2_i32_322_r0 : BitVec 32 := 2#32
  let v462_r0 : BitVec 32 := Scalar.remui arg11_r0 c2_i32_322_r0
  let c0_i32_323_r0 : BitVec 32 := 0#32
  let c0_i32_324_r0 : BitVec 32 := 0#32
  ![v462_r0.toNat, 0, 0]
def k0_off32 (arg22_r0 : BitVec 32) : Fin 2 → Nat :=
  let c512_i32_321_r0 : BitVec 32 := 512#32
  let c0_i32_153_r0 : BitVec 32 := 0#32
  let v161_r0 : BitVec 32 := Scalar.addi arg22_r0 c0_i32_153_r0
  let v461_r0 : BitVec 32 := Scalar.muli c512_i32_321_r0 v161_r0
  let c0_i32_325_r0 : BitVec 32 := 0#32
  ![v461_r0.toNat, 0]
def k0_off33 (arg13_r0 : BitVec 32) : Fin 1 → Nat :=
  let c2_i32_322_r0 : BitVec 32 := 2#32
  let v462_r0 : BitVec 32 := Scalar.remui arg13_r0 c2_i32_322_r0
  ![v462_r0.toNat]
def k0_cond10 (k0_t1 : Fin k0_t1_loop.trips) (arg22_r0 : BitVec 32) (arg23_r0 : BitVec 32) : BitVec 1 :=
  let c0_i32_153_r0 : BitVec 32 := 0#32
  let v161_r0 : BitVec 32 := Scalar.addi arg22_r0 c0_i32_153_r0
  let true_156_r0 : BitVec 1 := 1#1
  let c1_i32_155_r0 : BitVec 32 := 1#32
  let v163_r0 : BitVec 32 := Scalar.subi arg23_r0 c1_i32_155_r0
  let v164_r0 : BitVec 32 := Scalar.select true_156_r0 v163_r0 arg23_r0
  let c_m1_i32_157_r0 : BitVec 32 := 4294967295#32
  let v165_r0 : BitVec 1 := Scalar.cmpi .eq v164_r0 c_m1_i32_157_r0
  let c1_i32_159_r0 : BitVec 32 := 1#32
  let v167_r0 : BitVec 32 := Scalar.subi arg22_r0 c1_i32_159_r0
  let v168_r0 : BitVec 32 := Scalar.select v165_r0 v167_r0 arg22_r0
  let c_m1_i32_160_r0 : BitVec 32 := 4294967295#32
  let v169_r0 : BitVec 1 := Scalar.cmpi .eq v168_r0 c_m1_i32_160_r0
  let c15_i32_161_r0 : BitVec 32 := 15#32
  let v170_r0 : BitVec 32 := Scalar.select v169_r0 c15_i32_161_r0 v168_r0
  let c0_i32_162_r0 : BitVec 32 := 0#32
  let v171_r0 : BitVec 32 := Scalar.addi v170_r0 c0_i32_162_r0
  let v265_r0 : BitVec 1 := Scalar.cmpi .ne v161_r0 v171_r0
  let c0_i32_100_r0 : BitVec 32 := 0#32
  let c1_i32_101_r0 : BitVec 32 := 1#32
  let arg9_r0 : BitVec 32 := Scf.iv c0_i32_100_r0 c1_i32_101_r0 k0_t1
  let c0_i32_152_r0 : BitVec 32 := 0#32
  let v159_r0 : BitVec 1 := Scalar.cmpi .eq arg9_r0 c0_i32_152_r0
  let v266_r0 : BitVec 1 := Scalar.ori v265_r0 v159_r0
  let c0_i32_226_r0 : BitVec 32 := 0#32
  let v267_r0 : BitVec 1 := Scalar.cmpi .sge arg9_r0 c0_i32_226_r0
  let v268_r0 : BitVec 1 := Scalar.andi v266_r0 v267_r0
  let v269_r0 : BitVec 32 := Scalar.extui v268_r0
  let c0_i32_227_r0 : BitVec 32 := 0#32
  let v270_r0 : BitVec 1 := Scalar.cmpi .ne v269_r0 c0_i32_227_r0
  v270_r0

def k0_off34 (arg13_r0 : BitVec 32) : Fin 3 → Nat :=
  let c2_i32_322_r0 : BitVec 32 := 2#32
  let v462_r0 : BitVec 32 := Scalar.remui arg13_r0 c2_i32_322_r0
  let c0_i32_323_r0 : BitVec 32 := 0#32
  let c0_i32_324_r0 : BitVec 32 := 0#32
  ![v462_r0.toNat, 0, 0]
def k0_off35 (arg22_r0 : BitVec 32) : Fin 2 → Nat :=
  let c512_i32_321_r0 : BitVec 32 := 512#32
  let c0_i32_153_r0 : BitVec 32 := 0#32
  let v161_r0 : BitVec 32 := Scalar.addi arg22_r0 c0_i32_153_r0
  let v461_r0 : BitVec 32 := Scalar.muli c512_i32_321_r0 v161_r0
  let c0_i32_325_r0 : BitVec 32 := 0#32
  ![v461_r0.toNat, 0]
def k0_off36 (arg15_r0 : BitVec 32) : Fin 1 → Nat :=
  let c3_i32_322_r0 : BitVec 32 := 3#32
  let v462_r0 : BitVec 32 := Scalar.remui arg15_r0 c3_i32_322_r0
  ![v462_r0.toNat]
def k0_cond11 (k0_t1 : Fin k0_t1_loop.trips) (arg23_r0 : BitVec 32) : BitVec 1 :=
  let c0_i32_154_r0 : BitVec 32 := 0#32
  let v162_r0 : BitVec 32 := Scalar.addi arg23_r0 c0_i32_154_r0
  let true_156_r0 : BitVec 1 := 1#1
  let c1_i32_155_r0 : BitVec 32 := 1#32
  let v163_r0 : BitVec 32 := Scalar.subi arg23_r0 c1_i32_155_r0
  let v164_r0 : BitVec 32 := Scalar.select true_156_r0 v163_r0 arg23_r0
  let c_m1_i32_157_r0 : BitVec 32 := 4294967295#32
  let v165_r0 : BitVec 1 := Scalar.cmpi .eq v164_r0 c_m1_i32_157_r0
  let c10_i32_158_r0 : BitVec 32 := 10#32
  let v166_r0 : BitVec 32 := Scalar.select v165_r0 c10_i32_158_r0 v164_r0
  let c0_i32_163_r0 : BitVec 32 := 0#32
  let v172_r0 : BitVec 32 := Scalar.addi v166_r0 c0_i32_163_r0
  let v271_r0 : BitVec 1 := Scalar.cmpi .ne v162_r0 v172_r0
  let c0_i32_100_r0 : BitVec 32 := 0#32
  let c1_i32_101_r0 : BitVec 32 := 1#32
  let arg9_r0 : BitVec 32 := Scf.iv c0_i32_100_r0 c1_i32_101_r0 k0_t1
  let c0_i32_152_r0 : BitVec 32 := 0#32
  let v159_r0 : BitVec 1 := Scalar.cmpi .eq arg9_r0 c0_i32_152_r0
  let v272_r0 : BitVec 1 := Scalar.ori v271_r0 v159_r0
  let c0_i32_228_r0 : BitVec 32 := 0#32
  let v273_r0 : BitVec 1 := Scalar.cmpi .sge arg9_r0 c0_i32_228_r0
  let v274_r0 : BitVec 1 := Scalar.andi v272_r0 v273_r0
  let v275_r0 : BitVec 32 := Scalar.extui v274_r0
  let c0_i32_229_r0 : BitVec 32 := 0#32
  let v276_r0 : BitVec 1 := Scalar.cmpi .ne v275_r0 c0_i32_229_r0
  v276_r0

def k0_off37 (arg15_r0 : BitVec 32) : Fin 3 → Nat :=
  let c3_i32_322_r0 : BitVec 32 := 3#32
  let v462_r0 : BitVec 32 := Scalar.remui arg15_r0 c3_i32_322_r0
  let c0_i32_323_r0 : BitVec 32 := 0#32
  let c0_i32_324_r0 : BitVec 32 := 0#32
  ![v462_r0.toNat, 0, 0]
def k0_off38 (arg23_r0 : BitVec 32) : Fin 2 → Nat :=
  let c0_i32_325_r0 : BitVec 32 := 0#32
  let c512_i32_321_r0 : BitVec 32 := 512#32
  let c0_i32_154_r0 : BitVec 32 := 0#32
  let v162_r0 : BitVec 32 := Scalar.addi arg23_r0 c0_i32_154_r0
  let v461_r0 : BitVec 32 := Scalar.muli c512_i32_321_r0 v162_r0
  ![0, v461_r0.toNat]
def k0_off39 (arg17_r0 : BitVec 32) : Fin 1 → Nat :=
  let c3_i32_323_r0 : BitVec 32 := 3#32
  let v463_r0 : BitVec 32 := Scalar.remui arg17_r0 c3_i32_323_r0
  ![v463_r0.toNat]
def k0_cond12 (k0_t1 : Fin k0_t1_loop.trips) (arg23_r0 : BitVec 32) : BitVec 1 :=
  let c11_i32_230_r0 : BitVec 32 := 11#32
  let c0_i32_154_r0 : BitVec 32 := 0#32
  let v162_r0 : BitVec 32 := Scalar.addi arg23_r0 c0_i32_154_r0
  let v277_r0 : BitVec 32 := Scalar.addi c11_i32_230_r0 v162_r0
  let c11_i32_231_r0 : BitVec 32 := 11#32
  let true_156_r0 : BitVec 1 := 1#1
  let c1_i32_155_r0 : BitVec 32 := 1#32
  let v163_r0 : BitVec 32 := Scalar.subi arg23_r0 c1_i32_155_r0
  let v164_r0 : BitVec 32 := Scalar.select true_156_r0 v163_r0 arg23_r0
  let c_m1_i32_157_r0 : BitVec 32 := 4294967295#32
  let v165_r0 : BitVec 1 := Scalar.cmpi .eq v164_r0 c_m1_i32_157_r0
  let c10_i32_158_r0 : BitVec 32 := 10#32
  let v166_r0 : BitVec 32 := Scalar.select v165_r0 c10_i32_158_r0 v164_r0
  let c0_i32_163_r0 : BitVec 32 := 0#32
  let v172_r0 : BitVec 32 := Scalar.addi v166_r0 c0_i32_163_r0
  let v278_r0 : BitVec 32 := Scalar.addi c11_i32_231_r0 v172_r0
  let v279_r0 : BitVec 1 := Scalar.cmpi .ne v277_r0 v278_r0
  let c0_i32_100_r0 : BitVec 32 := 0#32
  let c1_i32_101_r0 : BitVec 32 := 1#32
  let arg9_r0 : BitVec 32 := Scf.iv c0_i32_100_r0 c1_i32_101_r0 k0_t1
  let c0_i32_152_r0 : BitVec 32 := 0#32
  let v159_r0 : BitVec 1 := Scalar.cmpi .eq arg9_r0 c0_i32_152_r0
  let v280_r0 : BitVec 1 := Scalar.ori v279_r0 v159_r0
  let c0_i32_232_r0 : BitVec 32 := 0#32
  let v281_r0 : BitVec 1 := Scalar.cmpi .sge arg9_r0 c0_i32_232_r0
  let v282_r0 : BitVec 1 := Scalar.andi v280_r0 v281_r0
  let v283_r0 : BitVec 32 := Scalar.extui v282_r0
  let c0_i32_233_r0 : BitVec 32 := 0#32
  let v284_r0 : BitVec 1 := Scalar.cmpi .ne v283_r0 c0_i32_233_r0
  v284_r0

def k0_off40 (arg17_r0 : BitVec 32) : Fin 3 → Nat :=
  let c3_i32_323_r0 : BitVec 32 := 3#32
  let v463_r0 : BitVec 32 := Scalar.remui arg17_r0 c3_i32_323_r0
  let c0_i32_324_r0 : BitVec 32 := 0#32
  let c0_i32_325_r0 : BitVec 32 := 0#32
  ![v463_r0.toNat, 0, 0]
def k0_off41 (arg23_r0 : BitVec 32) : Fin 2 → Nat :=
  let c0_i32_326_r0 : BitVec 32 := 0#32
  let c512_i32_322_r0 : BitVec 32 := 512#32
  let c11_i32_321_r0 : BitVec 32 := 11#32
  let c0_i32_154_r0 : BitVec 32 := 0#32
  let v162_r0 : BitVec 32 := Scalar.addi arg23_r0 c0_i32_154_r0
  let v461_r0 : BitVec 32 := Scalar.addi c11_i32_321_r0 v162_r0
  let v462_r0 : BitVec 32 := Scalar.muli c512_i32_322_r0 v461_r0
  ![0, v462_r0.toNat]
def k0_off42 (arg19_r0 : BitVec 32) : Fin 1 → Nat :=
  let c3_i32_322_r0 : BitVec 32 := 3#32
  let v462_r0 : BitVec 32 := Scalar.remui arg19_r0 c3_i32_322_r0
  ![v462_r0.toNat]
def k0_cond13 (k0_t1 : Fin k0_t1_loop.trips) (arg23_r0 : BitVec 32) : BitVec 1 :=
  let c0_i32_154_r0 : BitVec 32 := 0#32
  let v162_r0 : BitVec 32 := Scalar.addi arg23_r0 c0_i32_154_r0
  let true_156_r0 : BitVec 1 := 1#1
  let c1_i32_155_r0 : BitVec 32 := 1#32
  let v163_r0 : BitVec 32 := Scalar.subi arg23_r0 c1_i32_155_r0
  let v164_r0 : BitVec 32 := Scalar.select true_156_r0 v163_r0 arg23_r0
  let c_m1_i32_157_r0 : BitVec 32 := 4294967295#32
  let v165_r0 : BitVec 1 := Scalar.cmpi .eq v164_r0 c_m1_i32_157_r0
  let c10_i32_158_r0 : BitVec 32 := 10#32
  let v166_r0 : BitVec 32 := Scalar.select v165_r0 c10_i32_158_r0 v164_r0
  let c0_i32_163_r0 : BitVec 32 := 0#32
  let v172_r0 : BitVec 32 := Scalar.addi v166_r0 c0_i32_163_r0
  let v285_r0 : BitVec 1 := Scalar.cmpi .ne v162_r0 v172_r0
  let c0_i32_100_r0 : BitVec 32 := 0#32
  let c1_i32_101_r0 : BitVec 32 := 1#32
  let arg9_r0 : BitVec 32 := Scf.iv c0_i32_100_r0 c1_i32_101_r0 k0_t1
  let c0_i32_152_r0 : BitVec 32 := 0#32
  let v159_r0 : BitVec 1 := Scalar.cmpi .eq arg9_r0 c0_i32_152_r0
  let v286_r0 : BitVec 1 := Scalar.ori v285_r0 v159_r0
  let c0_i32_234_r0 : BitVec 32 := 0#32
  let v287_r0 : BitVec 1 := Scalar.cmpi .sge arg9_r0 c0_i32_234_r0
  let v288_r0 : BitVec 1 := Scalar.andi v286_r0 v287_r0
  let v289_r0 : BitVec 32 := Scalar.extui v288_r0
  let c0_i32_235_r0 : BitVec 32 := 0#32
  let v290_r0 : BitVec 1 := Scalar.cmpi .ne v289_r0 c0_i32_235_r0
  v290_r0

def k0_off43 (arg19_r0 : BitVec 32) : Fin 3 → Nat :=
  let c3_i32_322_r0 : BitVec 32 := 3#32
  let v462_r0 : BitVec 32 := Scalar.remui arg19_r0 c3_i32_322_r0
  let c0_i32_323_r0 : BitVec 32 := 0#32
  let c0_i32_324_r0 : BitVec 32 := 0#32
  ![v462_r0.toNat, 0, 0]
def k0_off44 (arg23_r0 : BitVec 32) : Fin 2 → Nat :=
  let c512_i32_321_r0 : BitVec 32 := 512#32
  let c0_i32_154_r0 : BitVec 32 := 0#32
  let v162_r0 : BitVec 32 := Scalar.addi arg23_r0 c0_i32_154_r0
  let v461_r0 : BitVec 32 := Scalar.muli c512_i32_321_r0 v162_r0
  let c0_i32_325_r0 : BitVec 32 := 0#32
  ![v461_r0.toNat, 0]
def k0_off45 (arg13_r0 : BitVec 32) : Fin 3 → Nat :=
  let c2_i32_239_r0 : BitVec 32 := 2#32
  let v298_r0 : BitVec 32 := Scalar.remui arg13_r0 c2_i32_239_r0
  let v336_r0 : Index := Scalar.indexCast v298_r0
  let c0_262_r0 : Index := 0#32
  let c0_263_r0 : Index := 0#32
  ![v336_r0.toNat, 0, 0]

def k0_chk2 (arg13_r0 : BitVec 32) : Prop :=
  (∀ a, (k0_off45 arg13_r0) a + S1x512x2048.size a ≤ S2x512x2048.size a)
theorem k0_off45_inb : ∀ (arg13_r0 : BitVec 32) (k0_hw2 : k0_chk2 arg13_r0), ∀ a, (k0_off45 arg13_r0) a + S1x512x2048.size a ≤ S2x512x2048.size a := fun arg13_r0 k0_hw2 => k0_hw2

def k0_off46 (arg15_r0 : BitVec 32) : Fin 3 → Nat :=
  let c3_i32_240_r0 : BitVec 32 := 3#32
  let v299_r0 : BitVec 32 := Scalar.remui arg15_r0 c3_i32_240_r0
  let v339_r0 : Index := Scalar.indexCast v299_r0
  let c0_264_r0 : Index := 0#32
  let c0_265_r0 : Index := 0#32
  ![v339_r0.toNat, 0, 0]

def k0_chk3 (arg15_r0 : BitVec 32) : Prop :=
  (∀ a, (k0_off46 arg15_r0) a + S1x2048x512.size a ≤ S3x2048x512.size a)
theorem k0_off46_inb : ∀ (arg15_r0 : BitVec 32) (k0_hw3 : k0_chk3 arg15_r0), ∀ a, (k0_off46 arg15_r0) a + S1x2048x512.size a ≤ S3x2048x512.size a := fun arg15_r0 k0_hw3 => k0_hw3

def k0_off47 (arg17_r0 : BitVec 32) : Fin 3 → Nat :=
  let c3_i32_241_r0 : BitVec 32 := 3#32
  let v300_r0 : BitVec 32 := Scalar.remui arg17_r0 c3_i32_241_r0
  let v343_r0 : Index := Scalar.indexCast v300_r0
  let c0_266_r0 : Index := 0#32
  let c0_267_r0 : Index := 0#32
  ![v343_r0.toNat, 0, 0]

def k0_chk4 (arg17_r0 : BitVec 32) : Prop :=
  (∀ a, (k0_off47 arg17_r0) a + S1x2048x512.size a ≤ S3x2048x512.size a)
theorem k0_off47_inb : ∀ (arg17_r0 : BitVec 32) (k0_hw4 : k0_chk4 arg17_r0), ∀ a, (k0_off47 arg17_r0) a + S1x2048x512.size a ≤ S3x2048x512.size a := fun arg17_r0 k0_hw4 => k0_hw4

def k0_off48 (arg19_r0 : BitVec 32) : Fin 3 → Nat :=
  let c3_i32_242_r0 : BitVec 32 := 3#32
  let v301_r0 : BitVec 32 := Scalar.remui arg19_r0 c3_i32_242_r0
  let v352_r0 : Index := Scalar.indexCast v301_r0
  let c0_271_r0 : Index := 0#32
  let c0_272_r0 : Index := 0#32
  ![v352_r0.toNat, 0, 0]

def k0_chk5 (arg19_r0 : BitVec 32) : Prop :=
  (∀ a, (k0_off48 arg19_r0) a + S1x512x2048.size a ≤ S3x512x2048.size a)
theorem k0_off48_inb : ∀ (arg19_r0 : BitVec 32) (k0_hw5 : k0_chk5 arg19_r0), ∀ a, (k0_off48 arg19_r0) a + S1x512x2048.size a ≤ S3x512x2048.size a := fun arg19_r0 k0_hw5 => k0_hw5

def k0_off49 (arg11_r0 : BitVec 32) : Fin 3 → Nat :=
  let c2_i32_238_r0 : BitVec 32 := 2#32
  let v297_r0 : BitVec 32 := Scalar.remui arg11_r0 c2_i32_238_r0
  let v461_r0 : Index := Scalar.indexCast v297_r0
  let c0_321_r0 : Index := 0#32
  let c0_322_r0 : Index := 0#32
  ![v461_r0.toNat, 0, 0]
def k0_cond16 (v303_r0 : BitVec 32) : BitVec 1 :=
  let c11_i32_254_r0 : BitVec 32 := 11#32
  let c0_i32_255_r0 : BitVec 32 := 0#32
  let v323_r0 : BitVec 1 := Scalar.cmpi .eq c11_i32_254_r0 c0_i32_255_r0
  let c1_i32_256_r0 : BitVec 32 := 1#32
  let v324_r0 : BitVec 32 := Scalar.select v323_r0 c1_i32_256_r0 c11_i32_254_r0
  let v325_r0 : BitVec 32 := Scalar.remsi v303_r0 v324_r0
  let c0_i32_258_r0 : BitVec 32 := 0#32
  let v327_r0 : BitVec 1 := Scalar.cmpi .slt v325_r0 c0_i32_258_r0
  let c0_i32_259_r0 : BitVec 32 := 0#32
  let v328_r0 : BitVec 1 := Scalar.cmpi .slt v324_r0 c0_i32_259_r0
  let v329_r0 : BitVec 1 := Scalar.xori v327_r0 v328_r0
  let c0_i32_257_r0 : BitVec 32 := 0#32
  let v326_r0 : BitVec 1 := Scalar.cmpi .ne v325_r0 c0_i32_257_r0
  let v330_r0 : BitVec 1 := Scalar.andi v329_r0 v326_r0
  let v331_r0 : BitVec 32 := Scalar.addi v325_r0 v324_r0
  let v332_r0 : BitVec 32 := Scalar.select v330_r0 v331_r0 v325_r0
  let c10_i32_276_r0 : BitVec 32 := 10#32
  let v360_r0 : BitVec 1 := Scalar.cmpi .eq v332_r0 c10_i32_276_r0
  let v361_r0 : BitVec 32 := Scalar.extui v360_r0
  let c0_i32_277_r0 : BitVec 32 := 0#32
  let v362_r0 : BitVec 1 := Scalar.cmpi .ne v361_r0 c0_i32_277_r0
  v362_r0

def k0_off50 (v303_r0 : BitVec 32) : Fin 3 → Nat :=
  let c0_i32_248_r0 : BitVec 32 := 0#32
  let v307_r0 : BitVec 1 := Scalar.cmpi .sgt v303_r0 c0_i32_248_r0
  let v308_r0 : BitVec 32 := Scalar.extui v307_r0
  let c0_i32_249_r0 : BitVec 32 := 0#32
  let v309_r0 : BitVec 1 := Scalar.cmpi .slt v303_r0 c0_i32_249_r0
  let v310_r0 : BitVec 32 := Scalar.extui v309_r0
  let v311_r0 : BitVec 32 := Scalar.subi v308_r0 v310_r0
  let c11_i32_247_r0 : BitVec 32 := 11#32
  let c0_i32_250_r0 : BitVec 32 := 0#32
  let v312_r0 : BitVec 1 := Scalar.cmpi .sgt c11_i32_247_r0 c0_i32_250_r0
  let v313_r0 : BitVec 32 := Scalar.extui v312_r0
  let c0_i32_251_r0 : BitVec 32 := 0#32
  let v314_r0 : BitVec 1 := Scalar.cmpi .slt c11_i32_247_r0 c0_i32_251_r0
  let v315_r0 : BitVec 32 := Scalar.extui v314_r0
  let v316_r0 : BitVec 32 := Scalar.subi v313_r0 v315_r0
  let v317_r0 : BitVec 1 := Scalar.cmpi .ne v311_r0 v316_r0
  let v318_r0 : BitVec 32 := Scalar.remsi v303_r0 c11_i32_247_r0
  let c0_i32_252_r0 : BitVec 32 := 0#32
  let v319_r0 : BitVec 1 := Scalar.cmpi .ne v318_r0 c0_i32_252_r0
  let v320_r0 : BitVec 1 := Scalar.andi v317_r0 v319_r0
  let v306_r0 : BitVec 32 := Scalar.divsi v303_r0 c11_i32_247_r0
  let c1_i32_253_r0 : BitVec 32 := 1#32
  let v321_r0 : BitVec 32 := Scalar.subi v306_r0 c1_i32_253_r0
  let v322_r0 : BitVec 32 := Scalar.select v320_r0 v321_r0 v306_r0
  let c0_i32_323_r0 : BitVec 32 := 0#32
  let v465_r0 : BitVec 1 := Scalar.cmpi .sgt v322_r0 c0_i32_323_r0
  let v466_r0 : BitVec 32 := Scalar.extui v465_r0
  let c0_i32_324_r0 : BitVec 32 := 0#32
  let v467_r0 : BitVec 1 := Scalar.cmpi .slt v322_r0 c0_i32_324_r0
  let v468_r0 : BitVec 32 := Scalar.extui v467_r0
  let v469_r0 : BitVec 32 := Scalar.subi v466_r0 v468_r0
  let c4_i32_r0 : BitVec 32 := 4#32
  let c0_i32_325_r0 : BitVec 32 := 0#32
  let v470_r0 : BitVec 1 := Scalar.cmpi .sgt c4_i32_r0 c0_i32_325_r0
  let v471_r0 : BitVec 32 := Scalar.extui v470_r0
  let c0_i32_326_r0 : BitVec 32 := 0#32
  let v472_r0 : BitVec 1 := Scalar.cmpi .slt c4_i32_r0 c0_i32_326_r0
  let v473_r0 : BitVec 32 := Scalar.extui v472_r0
  let v474_r0 : BitVec 32 := Scalar.subi v471_r0 v473_r0
  let v475_r0 : BitVec 1 := Scalar.cmpi .ne v469_r0 v474_r0
  let v476_r0 : BitVec 32 := Scalar.remsi v322_r0 c4_i32_r0
  let c0_i32_327_r0 : BitVec 32 := 0#32
  let v477_r0 : BitVec 1 := Scalar.cmpi .ne v476_r0 c0_i32_327_r0
  let v478_r0 : BitVec 1 := Scalar.andi v475_r0 v477_r0
  let v464_r0 : BitVec 32 := Scalar.divsi v322_r0 c4_i32_r0
  let c1_i32_328_r0 : BitVec 32 := 1#32
  let v479_r0 : BitVec 32 := Scalar.subi v464_r0 c1_i32_328_r0
  let v480_r0 : BitVec 32 := Scalar.select v478_r0 v479_r0 v464_r0
  let v481_r0 : Index := Scalar.indexCast v480_r0
  let c0_329_r0 : Index := 0#32
  let c0_330_r0 : Index := 0#32
  ![v481_r0.toNat, 0, 0]
def k0_off51 (arg20_r0 : BitVec 32) : Fin 3 → Nat :=
  let c2_i32_243_r0 : BitVec 32 := 2#32
  let v302_r0 : BitVec 32 := Scalar.remui arg20_r0 c2_i32_243_r0
  let v502_r0 : Index := Scalar.indexCast v302_r0
  let c0_338_r0 : Index := 0#32
  let c0_339_r0 : Index := 0#32
  ![v502_r0.toNat, 0, 0]

def k0_chk6 (arg11_r0 : BitVec 32) (arg20_r0 : BitVec 32) (v303_r0 : BitVec 32) : Prop :=
  (∀ (k0_h16 : k0_cond16 v303_r0 = 1#1), ∀ a, (k0_off49 arg11_r0) a + S1x512x2048.size a ≤ S2x512x2048.size a) ∧
  (∀ (k0_h16 : k0_cond16 v303_r0 = 1#1), ∀ a, (k0_off50 v303_r0) a + S1x1x2048.size a ≤ S4x1x2048.size a) ∧
  (∀ (k0_h16 : k0_cond16 v303_r0 = 1#1), ∀ a, (k0_off51 arg20_r0) a + S1x512x2048.size a ≤ S2x512x2048.size a)
theorem k0_off49_inb : ∀ (arg11_r0 : BitVec 32) (arg20_r0 : BitVec 32) (v303_r0 : BitVec 32) (k0_hw6 : k0_chk6 arg11_r0 arg20_r0 v303_r0), ∀ (k0_h16 : k0_cond16 v303_r0 = 1#1), ∀ a, (k0_off49 arg11_r0) a + S1x512x2048.size a ≤ S2x512x2048.size a := fun arg11_r0 arg20_r0 v303_r0 k0_hw6 k0_h16 => k0_hw6.1 k0_h16
theorem k0_off50_inb : ∀ (arg11_r0 : BitVec 32) (arg20_r0 : BitVec 32) (v303_r0 : BitVec 32) (k0_hw6 : k0_chk6 arg11_r0 arg20_r0 v303_r0), ∀ (k0_h16 : k0_cond16 v303_r0 = 1#1), ∀ a, (k0_off50 v303_r0) a + S1x1x2048.size a ≤ S4x1x2048.size a := fun arg11_r0 arg20_r0 v303_r0 k0_hw6 k0_h16 => k0_hw6.2.1 k0_h16
theorem k0_off51_inb : ∀ (arg11_r0 : BitVec 32) (arg20_r0 : BitVec 32) (v303_r0 : BitVec 32) (k0_hw6 : k0_chk6 arg11_r0 arg20_r0 v303_r0), ∀ (k0_h16 : k0_cond16 v303_r0 = 1#1), ∀ a, (k0_off51 arg20_r0) a + S1x512x2048.size a ≤ S2x512x2048.size a := fun arg11_r0 arg20_r0 v303_r0 k0_hw6 k0_h16 => k0_hw6.2.2 k0_h16

def k0_off52 (arg20_r0 : BitVec 32) : Fin 1 → Nat :=
  let c2_i32_321_r0 : BitVec 32 := 2#32
  let v461_r0 : BitVec 32 := Scalar.remui arg20_r0 c2_i32_321_r0
  ![v461_r0.toNat]
def k0_cond22 (k0_t1 : Fin k0_t1_loop.trips) (arg22_r0 : BitVec 32) (arg23_r0 : BitVec 32) : BitVec 1 :=
  let c0_i32_153_r0 : BitVec 32 := 0#32
  let v161_r0 : BitVec 32 := Scalar.addi arg22_r0 c0_i32_153_r0
  let true_165_r0 : BitVec 1 := 1#1
  let c1_i32_164_r0 : BitVec 32 := 1#32
  let v173_r0 : BitVec 32 := Scalar.addi arg23_r0 c1_i32_164_r0
  let v174_r0 : BitVec 32 := Scalar.select true_165_r0 v173_r0 arg23_r0
  let c11_i32_166_r0 : BitVec 32 := 11#32
  let v175_r0 : BitVec 1 := Scalar.cmpi .eq v174_r0 c11_i32_166_r0
  let c1_i32_168_r0 : BitVec 32 := 1#32
  let v177_r0 : BitVec 32 := Scalar.addi arg22_r0 c1_i32_168_r0
  let v178_r0 : BitVec 32 := Scalar.select v175_r0 v177_r0 arg22_r0
  let c16_i32_169_r0 : BitVec 32 := 16#32
  let v179_r0 : BitVec 1 := Scalar.cmpi .eq v178_r0 c16_i32_169_r0
  let c0_i32_170_r0 : BitVec 32 := 0#32
  let v180_r0 : BitVec 32 := Scalar.select v179_r0 c0_i32_170_r0 v178_r0
  let c0_i32_171_r0 : BitVec 32 := 0#32
  let v181_r0 : BitVec 32 := Scalar.addi v180_r0 c0_i32_171_r0
  let v388_r0 : BitVec 1 := Scalar.cmpi .ne v161_r0 v181_r0
  let c0_i32_100_r0 : BitVec 32 := 0#32
  let c1_i32_101_r0 : BitVec 32 := 1#32
  let arg9_r0 : BitVec 32 := Scf.iv c0_i32_100_r0 c1_i32_101_r0 k0_t1
  let c175_i32_r0 : BitVec 32 := 175#32
  let v160_r0 : BitVec 1 := Scalar.cmpi .eq arg9_r0 c175_i32_r0
  let v389_r0 : BitVec 1 := Scalar.ori v388_r0 v160_r0
  let v390_r0 : BitVec 32 := Scalar.extui v389_r0
  let c0_i32_287_r0 : BitVec 32 := 0#32
  let v391_r0 : BitVec 1 := Scalar.cmpi .ne v390_r0 c0_i32_287_r0
  v391_r0

def k0_off53 (arg22_r0 : BitVec 32) : Fin 2 → Nat :=
  let c512_i32_322_r0 : BitVec 32 := 512#32
  let c0_i32_153_r0 : BitVec 32 := 0#32
  let v161_r0 : BitVec 32 := Scalar.addi arg22_r0 c0_i32_153_r0
  let v462_r0 : BitVec 32 := Scalar.muli c512_i32_322_r0 v161_r0
  let c0_i32_323_r0 : BitVec 32 := 0#32
  ![v462_r0.toNat, 0]
def k0_off54 (arg20_r0 : BitVec 32) : Fin 3 → Nat :=
  let c2_i32_321_r0 : BitVec 32 := 2#32
  let v461_r0 : BitVec 32 := Scalar.remui arg20_r0 c2_i32_321_r0
  let c0_i32_324_r0 : BitVec 32 := 0#32
  let c0_i32_325_r0 : BitVec 32 := 0#32
  ![v461_r0.toNat, 0, 0]
def k0_off55 (arg21_r0 : BitVec 32) : Fin 1 → Nat :=
  let c2_i32_321_r0 : BitVec 32 := 2#32
  let v461_r0 : BitVec 32 := Scalar.remui arg21_r0 c2_i32_321_r0
  ![v461_r0.toNat]
def k0_cond28 (k0_t1 : Fin k0_t1_loop.trips) (arg22_r0 : BitVec 32) (arg23_r0 : BitVec 32) : BitVec 1 :=
  let c0_i32_153_r0 : BitVec 32 := 0#32
  let v161_r0 : BitVec 32 := Scalar.addi arg22_r0 c0_i32_153_r0
  let true_156_r0 : BitVec 1 := 1#1
  let c1_i32_155_r0 : BitVec 32 := 1#32
  let v163_r0 : BitVec 32 := Scalar.subi arg23_r0 c1_i32_155_r0
  let v164_r0 : BitVec 32 := Scalar.select true_156_r0 v163_r0 arg23_r0
  let c_m1_i32_157_r0 : BitVec 32 := 4294967295#32
  let v165_r0 : BitVec 1 := Scalar.cmpi .eq v164_r0 c_m1_i32_157_r0
  let c1_i32_159_r0 : BitVec 32 := 1#32
  let v167_r0 : BitVec 32 := Scalar.subi arg22_r0 c1_i32_159_r0
  let v168_r0 : BitVec 32 := Scalar.select v165_r0 v167_r0 arg22_r0
  let c_m1_i32_160_r0 : BitVec 32 := 4294967295#32
  let v169_r0 : BitVec 1 := Scalar.cmpi .eq v168_r0 c_m1_i32_160_r0
  let c15_i32_161_r0 : BitVec 32 := 15#32
  let v170_r0 : BitVec 32 := Scalar.select v169_r0 c15_i32_161_r0 v168_r0
  let c0_i32_162_r0 : BitVec 32 := 0#32
  let v171_r0 : BitVec 32 := Scalar.addi v170_r0 c0_i32_162_r0
  let v425_r0 : BitVec 1 := Scalar.cmpi .ne v161_r0 v171_r0
  let c0_i32_100_r0 : BitVec 32 := 0#32
  let c1_i32_101_r0 : BitVec 32 := 1#32
  let arg9_r0 : BitVec 32 := Scf.iv c0_i32_100_r0 c1_i32_101_r0 k0_t1
  let c0_i32_152_r0 : BitVec 32 := 0#32
  let v159_r0 : BitVec 1 := Scalar.cmpi .eq arg9_r0 c0_i32_152_r0
  let true_305_r0 : BitVec 1 := 1#1
  let v426_r0 : BitVec 1 := Scalar.xori v159_r0 true_305_r0
  let v427_r0 : BitVec 1 := Scalar.andi v425_r0 v426_r0
  let v428_r0 : BitVec 32 := Scalar.extui v427_r0
  let c0_i32_306_r0 : BitVec 32 := 0#32
  let v429_r0 : BitVec 1 := Scalar.cmpi .ne v428_r0 c0_i32_306_r0
  v429_r0

def k0_off56 (arg22_r0 : BitVec 32) (arg23_r0 : BitVec 32) : Fin 2 → Nat :=
  let c512_i32_322_r0 : BitVec 32 := 512#32
  let true_156_r0 : BitVec 1 := 1#1
  let c1_i32_155_r0 : BitVec 32 := 1#32
  let v163_r0 : BitVec 32 := Scalar.subi arg23_r0 c1_i32_155_r0
  let v164_r0 : BitVec 32 := Scalar.select true_156_r0 v163_r0 arg23_r0
  let c_m1_i32_157_r0 : BitVec 32 := 4294967295#32
  let v165_r0 : BitVec 1 := Scalar.cmpi .eq v164_r0 c_m1_i32_157_r0
  let c1_i32_159_r0 : BitVec 32 := 1#32
  let v167_r0 : BitVec 32 := Scalar.subi arg22_r0 c1_i32_159_r0
  let v168_r0 : BitVec 32 := Scalar.select v165_r0 v167_r0 arg22_r0
  let c_m1_i32_160_r0 : BitVec 32 := 4294967295#32
  let v169_r0 : BitVec 1 := Scalar.cmpi .eq v168_r0 c_m1_i32_160_r0
  let c15_i32_161_r0 : BitVec 32 := 15#32
  let v170_r0 : BitVec 32 := Scalar.select v169_r0 c15_i32_161_r0 v168_r0
  let c0_i32_162_r0 : BitVec 32 := 0#32
  let v171_r0 : BitVec 32 := Scalar.addi v170_r0 c0_i32_162_r0
  let v462_r0 : BitVec 32 := Scalar.muli c512_i32_322_r0 v171_r0
  let c0_i32_323_r0 : BitVec 32 := 0#32
  ![v462_r0.toNat, 0]
def k0_off57 (arg21_r0 : BitVec 32) : Fin 3 → Nat :=
  let c2_i32_321_r0 : BitVec 32 := 2#32
  let v461_r0 : BitVec 32 := Scalar.remui arg21_r0 c2_i32_321_r0
  let c0_i32_324_r0 : BitVec 32 := 0#32
  let c0_i32_325_r0 : BitVec 32 := 0#32
  ![v461_r0.toNat, 0, 0]

def k0_chk1_0 (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) : Prop :=
  (∀ (k0_h4 : k0_cond4 k0_t1 arg22_r0 arg23_r0 = 1#1), ∀ a, (k0_off15 arg10_r0) a + S1.size a ≤ S2.size a) ∧
  (∀ (k0_h4 : k0_cond4 k0_t1 arg22_r0 arg23_r0 = 1#1), ∀ a, (k0_off16 arg10_r0) a + S1x512x2048.size a ≤ S2x512x2048.size a) ∧
  (∀ (k0_h4 : k0_cond4 k0_t1 arg22_r0 arg23_r0 = 1#1), ∀ a, (k0_off17 arg22_r0 arg23_r0) a + S512x2048.size a ≤ S8192x2048.size a) ∧
  (∀ (k0_h5 : k0_cond5 k0_t1 arg22_r0 arg23_r0 = 1#1), ∀ a, (k0_off18 arg12_r0) a + S1.size a ≤ S2.size a) ∧
  (∀ (k0_h5 : k0_cond5 k0_t1 arg22_r0 arg23_r0 = 1#1), ∀ a, (k0_off19 arg12_r0) a + S1x512x2048.size a ≤ S2x512x2048.size a) ∧
  (∀ (k0_h5 : k0_cond5 k0_t1 arg22_r0 arg23_r0 = 1#1), ∀ a, (k0_off20 arg22_r0 arg23_r0) a + S512x2048.size a ≤ S8192x2048.size a) ∧
  (∀ (k0_h5 : k0_cond5 k0_t1 arg22_r0 arg23_r0 = 1#1), ∀ (hinb : ∀ a, (k0_off20 arg22_r0 arg23_r0) a + S512x2048.size a ≤ S8192x2048.size a), (Rect.unit (s := S8192x2048) (k0_off20 arg22_r0 arg23_r0) S512x2048.size hinb).WholeWords (EltTy.packing .bf16)) ∧
  (∀ (k0_h5 : k0_cond5 k0_t1 arg22_r0 arg23_r0 = 1#1), ∀ (hinb : ∀ a, (k0_off19 arg12_r0) a + S1x512x2048.size a ≤ S2x512x2048.size a), (Rect.unit (s := S2x512x2048) (k0_off19 arg12_r0) S1x512x2048.size hinb).WholeWords (EltTy.packing .bf16)) ∧
  (∀ (k0_h6 : k0_cond6 k0_t1 arg23_r0 = 1#1), ∀ a, (k0_off21 arg14_r0) a + S1.size a ≤ S3.size a) ∧
  (∀ (k0_h6 : k0_cond6 k0_t1 arg23_r0 = 1#1), ∀ a, (k0_off22 arg14_r0) a + S1x2048x512.size a ≤ S3x2048x512.size a) ∧
  (∀ (k0_h6 : k0_cond6 k0_t1 arg23_r0 = 1#1), ∀ a, (k0_off23 arg23_r0) a + S2048x512.size a ≤ S2048x11264.size a) ∧
  (∀ (k0_h6 : k0_cond6 k0_t1 arg23_r0 = 1#1), ∀ (hinb : ∀ a, (k0_off23 arg23_r0) a + S2048x512.size a ≤ S2048x11264.size a), (Rect.unit (s := S2048x11264) (k0_off23 arg23_r0) S2048x512.size hinb).WholeWords (EltTy.packing .bf16)) ∧
  (∀ (k0_h6 : k0_cond6 k0_t1 arg23_r0 = 1#1), ∀ (hinb : ∀ a, (k0_off22 arg14_r0) a + S1x2048x512.size a ≤ S3x2048x512.size a), (Rect.unit (s := S3x2048x512) (k0_off22 arg14_r0) S1x2048x512.size hinb).WholeWords (EltTy.packing .bf16)) ∧
  (∀ (k0_h7 : k0_cond7 k0_t1 arg23_r0 = 1#1), ∀ a, (k0_off24 arg16_r0) a + S1.size a ≤ S3.size a) ∧
  (∀ (k0_h7 : k0_cond7 k0_t1 arg23_r0 = 1#1), ∀ a, (k0_off25 arg16_r0) a + S1x2048x512.size a ≤ S3x2048x512.size a) ∧
  (∀ (k0_h7 : k0_cond7 k0_t1 arg23_r0 = 1#1), ∀ a, (k0_off26 arg23_r0) a + S2048x512.size a ≤ S2048x11264.size a) ∧
  (∀ (k0_h7 : k0_cond7 k0_t1 arg23_r0 = 1#1), ∀ (hinb : ∀ a, (k0_off26 arg23_r0) a + S2048x512.size a ≤ S2048x11264.size a), (Rect.unit (s := S2048x11264) (k0_off26 arg23_r0) S2048x512.size hinb).WholeWords (EltTy.packing .bf16)) ∧
  (∀ (k0_h7 : k0_cond7 k0_t1 arg23_r0 = 1#1), ∀ (hinb : ∀ a, (k0_off25 arg16_r0) a + S1x2048x512.size a ≤ S3x2048x512.size a), (Rect.unit (s := S3x2048x512) (k0_off25 arg16_r0) S1x2048x512.size hinb).WholeWords (EltTy.packing .bf16)) ∧
  (∀ (k0_h8 : k0_cond8 k0_t1 arg23_r0 = 1#1), ∀ a, (k0_off27 arg18_r0) a + S1.size a ≤ S3.size a) ∧
  (∀ (k0_h8 : k0_cond8 k0_t1 arg23_r0 = 1#1), ∀ a, (k0_off28 arg18_r0) a + S1x512x2048.size a ≤ S3x512x2048.size a) ∧
  (∀ (k0_h8 : k0_cond8 k0_t1 arg23_r0 = 1#1), ∀ a, (k0_off29 arg23_r0) a + S512x2048.size a ≤ S5632x2048.size a) ∧
  (∀ (k0_h8 : k0_cond8 k0_t1 arg23_r0 = 1#1), ∀ (hinb : ∀ a, (k0_off29 arg23_r0) a + S512x2048.size a ≤ S5632x2048.size a), (Rect.unit (s := S5632x2048) (k0_off29 arg23_r0) S512x2048.size hinb).WholeWords (EltTy.packing .bf16)) ∧
  (∀ (k0_h8 : k0_cond8 k0_t1 arg23_r0 = 1#1), ∀ (hinb : ∀ a, (k0_off28 arg18_r0) a + S1x512x2048.size a ≤ S3x512x2048.size a), (Rect.unit (s := S3x512x2048) (k0_off28 arg18_r0) S1x512x2048.size hinb).WholeWords (EltTy.packing .bf16)) ∧
  (∀ (k0_h9 : k0_cond9 k0_t1 arg22_r0 arg23_r0 = 1#1), ∀ a, (k0_off30 arg11_r0) a + S1.size a ≤ S2.size a) ∧
  (∀ (k0_h9 : k0_cond9 k0_t1 arg22_r0 arg23_r0 = 1#1), ∀ a, (k0_off31 arg11_r0) a + S1x512x2048.size a ≤ S2x512x2048.size a) ∧
  (∀ (k0_h9 : k0_cond9 k0_t1 arg22_r0 arg23_r0 = 1#1), ∀ a, (k0_off32 arg22_r0) a + S512x2048.size a ≤ S8192x2048.size a) ∧
  (∀ (k0_h10 : k0_cond10 k0_t1 arg22_r0 arg23_r0 = 1#1), ∀ a, (k0_off33 arg13_r0) a + S1.size a ≤ S2.size a) ∧
  (∀ (k0_h10 : k0_cond10 k0_t1 arg22_r0 arg23_r0 = 1#1), ∀ a, (k0_off34 arg13_r0) a + S1x512x2048.size a ≤ S2x512x2048.size a) ∧
  (∀ (k0_h10 : k0_cond10 k0_t1 arg22_r0 arg23_r0 = 1#1), ∀ a, (k0_off35 arg22_r0) a + S512x2048.size a ≤ S8192x2048.size a) ∧
  (∀ (k0_h10 : k0_cond10 k0_t1 arg22_r0 arg23_r0 = 1#1), ∀ (hinb : ∀ a, (k0_off35 arg22_r0) a + S512x2048.size a ≤ S8192x2048.size a), (Rect.unit (s := S8192x2048) (k0_off35 arg22_r0) S512x2048.size hinb).WholeWords (EltTy.packing .bf16)) ∧
  (∀ (k0_h10 : k0_cond10 k0_t1 arg22_r0 arg23_r0 = 1#1), ∀ (hinb : ∀ a, (k0_off34 arg13_r0) a + S1x512x2048.size a ≤ S2x512x2048.size a), (Rect.unit (s := S2x512x2048) (k0_off34 arg13_r0) S1x512x2048.size hinb).WholeWords (EltTy.packing .bf16)) ∧
  (∀ (k0_h11 : k0_cond11 k0_t1 arg23_r0 = 1#1), ∀ a, (k0_off36 arg15_r0) a + S1.size a ≤ S3.size a)
def k0_chk1_1 (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) : Prop :=
  (∀ (k0_h11 : k0_cond11 k0_t1 arg23_r0 = 1#1), ∀ a, (k0_off37 arg15_r0) a + S1x2048x512.size a ≤ S3x2048x512.size a) ∧
  (∀ (k0_h11 : k0_cond11 k0_t1 arg23_r0 = 1#1), ∀ a, (k0_off38 arg23_r0) a + S2048x512.size a ≤ S2048x11264.size a) ∧
  (∀ (k0_h11 : k0_cond11 k0_t1 arg23_r0 = 1#1), ∀ (hinb : ∀ a, (k0_off38 arg23_r0) a + S2048x512.size a ≤ S2048x11264.size a), (Rect.unit (s := S2048x11264) (k0_off38 arg23_r0) S2048x512.size hinb).WholeWords (EltTy.packing .bf16)) ∧
  (∀ (k0_h11 : k0_cond11 k0_t1 arg23_r0 = 1#1), ∀ (hinb : ∀ a, (k0_off37 arg15_r0) a + S1x2048x512.size a ≤ S3x2048x512.size a), (Rect.unit (s := S3x2048x512) (k0_off37 arg15_r0) S1x2048x512.size hinb).WholeWords (EltTy.packing .bf16)) ∧
  (∀ (k0_h12 : k0_cond12 k0_t1 arg23_r0 = 1#1), ∀ a, (k0_off39 arg17_r0) a + S1.size a ≤ S3.size a) ∧
  (∀ (k0_h12 : k0_cond12 k0_t1 arg23_r0 = 1#1), ∀ a, (k0_off40 arg17_r0) a + S1x2048x512.size a ≤ S3x2048x512.size a) ∧
  (∀ (k0_h12 : k0_cond12 k0_t1 arg23_r0 = 1#1), ∀ a, (k0_off41 arg23_r0) a + S2048x512.size a ≤ S2048x11264.size a) ∧
  (∀ (k0_h12 : k0_cond12 k0_t1 arg23_r0 = 1#1), ∀ (hinb : ∀ a, (k0_off41 arg23_r0) a + S2048x512.size a ≤ S2048x11264.size a), (Rect.unit (s := S2048x11264) (k0_off41 arg23_r0) S2048x512.size hinb).WholeWords (EltTy.packing .bf16)) ∧
  (∀ (k0_h12 : k0_cond12 k0_t1 arg23_r0 = 1#1), ∀ (hinb : ∀ a, (k0_off40 arg17_r0) a + S1x2048x512.size a ≤ S3x2048x512.size a), (Rect.unit (s := S3x2048x512) (k0_off40 arg17_r0) S1x2048x512.size hinb).WholeWords (EltTy.packing .bf16)) ∧
  (∀ (k0_h13 : k0_cond13 k0_t1 arg23_r0 = 1#1), ∀ a, (k0_off42 arg19_r0) a + S1.size a ≤ S3.size a) ∧
  (∀ (k0_h13 : k0_cond13 k0_t1 arg23_r0 = 1#1), ∀ a, (k0_off43 arg19_r0) a + S1x512x2048.size a ≤ S3x512x2048.size a) ∧
  (∀ (k0_h13 : k0_cond13 k0_t1 arg23_r0 = 1#1), ∀ a, (k0_off44 arg23_r0) a + S512x2048.size a ≤ S5632x2048.size a) ∧
  (∀ (k0_h13 : k0_cond13 k0_t1 arg23_r0 = 1#1), ∀ (hinb : ∀ a, (k0_off44 arg23_r0) a + S512x2048.size a ≤ S5632x2048.size a), (Rect.unit (s := S5632x2048) (k0_off44 arg23_r0) S512x2048.size hinb).WholeWords (EltTy.packing .bf16)) ∧
  (∀ (k0_h13 : k0_cond13 k0_t1 arg23_r0 = 1#1), ∀ (hinb : ∀ a, (k0_off43 arg19_r0) a + S1x512x2048.size a ≤ S3x512x2048.size a), (Rect.unit (s := S3x512x2048) (k0_off43 arg19_r0) S1x512x2048.size hinb).WholeWords (EltTy.packing .bf16)) ∧
  (∀ (k0_h22 : k0_cond22 k0_t1 arg22_r0 arg23_r0 = 1#1), ∀ a, (k0_off52 arg20_r0) a + S1.size a ≤ S2.size a) ∧
  (∀ (k0_h22 : k0_cond22 k0_t1 arg22_r0 arg23_r0 = 1#1), ∀ a, (k0_off53 arg22_r0) a + S512x2048.size a ≤ S8192x2048.size a) ∧
  (∀ (k0_h22 : k0_cond22 k0_t1 arg22_r0 arg23_r0 = 1#1), ∀ a, (k0_off54 arg20_r0) a + S1x512x2048.size a ≤ S2x512x2048.size a) ∧
  (∀ (k0_h28 : k0_cond28 k0_t1 arg22_r0 arg23_r0 = 1#1), ∀ a, (k0_off55 arg21_r0) a + S1.size a ≤ S2.size a) ∧
  (∀ (k0_h28 : k0_cond28 k0_t1 arg22_r0 arg23_r0 = 1#1), ∀ a, (k0_off56 arg22_r0 arg23_r0) a + S512x2048.size a ≤ S8192x2048.size a) ∧
  (∀ (k0_h28 : k0_cond28 k0_t1 arg22_r0 arg23_r0 = 1#1), ∀ a, (k0_off57 arg21_r0) a + S1x512x2048.size a ≤ S2x512x2048.size a)
def k0_chk1 (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) : Prop :=
  k0_chk1_0 k0_t1 arg10_r0 arg11_r0 arg12_r0 arg13_r0 arg14_r0 arg15_r0 arg16_r0 arg17_r0 arg18_r0 arg19_r0 arg20_r0 arg21_r0 arg22_r0 arg23_r0 ∧
  k0_chk1_1 k0_t1 arg10_r0 arg11_r0 arg12_r0 arg13_r0 arg14_r0 arg15_r0 arg16_r0 arg17_r0 arg18_r0 arg19_r0 arg20_r0 arg21_r0 arg22_r0 arg23_r0
theorem k0_off15_inb : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg10_r0 arg11_r0 arg12_r0 arg13_r0 arg14_r0 arg15_r0 arg16_r0 arg17_r0 arg18_r0 arg19_r0 arg20_r0 arg21_r0 arg22_r0 arg23_r0), ∀ (k0_h4 : k0_cond4 k0_t1 arg22_r0 arg23_r0 = 1#1), ∀ a, (k0_off15 arg10_r0) a + S1.size a ≤ S2.size a := fun k0_t1 arg10_r0 arg11_r0 arg12_r0 arg13_r0 arg14_r0 arg15_r0 arg16_r0 arg17_r0 arg18_r0 arg19_r0 arg20_r0 arg21_r0 arg22_r0 arg23_r0 k0_hw1 k0_h4 => k0_hw1.1.1 k0_h4
theorem k0_off16_inb : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg10_r0 arg11_r0 arg12_r0 arg13_r0 arg14_r0 arg15_r0 arg16_r0 arg17_r0 arg18_r0 arg19_r0 arg20_r0 arg21_r0 arg22_r0 arg23_r0), ∀ (k0_h4 : k0_cond4 k0_t1 arg22_r0 arg23_r0 = 1#1), ∀ a, (k0_off16 arg10_r0) a + S1x512x2048.size a ≤ S2x512x2048.size a := fun k0_t1 arg10_r0 arg11_r0 arg12_r0 arg13_r0 arg14_r0 arg15_r0 arg16_r0 arg17_r0 arg18_r0 arg19_r0 arg20_r0 arg21_r0 arg22_r0 arg23_r0 k0_hw1 k0_h4 => k0_hw1.1.2.1 k0_h4
theorem k0_off17_inb : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg10_r0 arg11_r0 arg12_r0 arg13_r0 arg14_r0 arg15_r0 arg16_r0 arg17_r0 arg18_r0 arg19_r0 arg20_r0 arg21_r0 arg22_r0 arg23_r0), ∀ (k0_h4 : k0_cond4 k0_t1 arg22_r0 arg23_r0 = 1#1), ∀ a, (k0_off17 arg22_r0 arg23_r0) a + S512x2048.size a ≤ S8192x2048.size a := fun k0_t1 arg10_r0 arg11_r0 arg12_r0 arg13_r0 arg14_r0 arg15_r0 arg16_r0 arg17_r0 arg18_r0 arg19_r0 arg20_r0 arg21_r0 arg22_r0 arg23_r0 k0_hw1 k0_h4 => k0_hw1.1.2.2.1 k0_h4
theorem k0_off18_inb : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg10_r0 arg11_r0 arg12_r0 arg13_r0 arg14_r0 arg15_r0 arg16_r0 arg17_r0 arg18_r0 arg19_r0 arg20_r0 arg21_r0 arg22_r0 arg23_r0), ∀ (k0_h5 : k0_cond5 k0_t1 arg22_r0 arg23_r0 = 1#1), ∀ a, (k0_off18 arg12_r0) a + S1.size a ≤ S2.size a := fun k0_t1 arg10_r0 arg11_r0 arg12_r0 arg13_r0 arg14_r0 arg15_r0 arg16_r0 arg17_r0 arg18_r0 arg19_r0 arg20_r0 arg21_r0 arg22_r0 arg23_r0 k0_hw1 k0_h5 => k0_hw1.1.2.2.2.1 k0_h5
theorem k0_off19_inb : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg10_r0 arg11_r0 arg12_r0 arg13_r0 arg14_r0 arg15_r0 arg16_r0 arg17_r0 arg18_r0 arg19_r0 arg20_r0 arg21_r0 arg22_r0 arg23_r0), ∀ (k0_h5 : k0_cond5 k0_t1 arg22_r0 arg23_r0 = 1#1), ∀ a, (k0_off19 arg12_r0) a + S1x512x2048.size a ≤ S2x512x2048.size a := fun k0_t1 arg10_r0 arg11_r0 arg12_r0 arg13_r0 arg14_r0 arg15_r0 arg16_r0 arg17_r0 arg18_r0 arg19_r0 arg20_r0 arg21_r0 arg22_r0 arg23_r0 k0_hw1 k0_h5 => k0_hw1.1.2.2.2.2.1 k0_h5
theorem k0_off20_inb : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg10_r0 arg11_r0 arg12_r0 arg13_r0 arg14_r0 arg15_r0 arg16_r0 arg17_r0 arg18_r0 arg19_r0 arg20_r0 arg21_r0 arg22_r0 arg23_r0), ∀ (k0_h5 : k0_cond5 k0_t1 arg22_r0 arg23_r0 = 1#1), ∀ a, (k0_off20 arg22_r0 arg23_r0) a + S512x2048.size a ≤ S8192x2048.size a := fun k0_t1 arg10_r0 arg11_r0 arg12_r0 arg13_r0 arg14_r0 arg15_r0 arg16_r0 arg17_r0 arg18_r0 arg19_r0 arg20_r0 arg21_r0 arg22_r0 arg23_r0 k0_hw1 k0_h5 => k0_hw1.1.2.2.2.2.2.1 k0_h5
theorem k0_off20_wordsbf16 : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg10_r0 arg11_r0 arg12_r0 arg13_r0 arg14_r0 arg15_r0 arg16_r0 arg17_r0 arg18_r0 arg19_r0 arg20_r0 arg21_r0 arg22_r0 arg23_r0), ∀ (k0_h5 : k0_cond5 k0_t1 arg22_r0 arg23_r0 = 1#1), (Rect.unit (s := S8192x2048) (k0_off20 arg22_r0 arg23_r0) S512x2048.size (k0_off20_inb k0_t1 arg10_r0 arg11_r0 arg12_r0 arg13_r0 arg14_r0 arg15_r0 arg16_r0 arg17_r0 arg18_r0 arg19_r0 arg20_r0 arg21_r0 arg22_r0 arg23_r0 k0_hw1 k0_h5)).WholeWords (EltTy.packing .bf16) := fun k0_t1 arg10_r0 arg11_r0 arg12_r0 arg13_r0 arg14_r0 arg15_r0 arg16_r0 arg17_r0 arg18_r0 arg19_r0 arg20_r0 arg21_r0 arg22_r0 arg23_r0 k0_hw1 k0_h5 => k0_hw1.1.2.2.2.2.2.2.1 k0_h5 (k0_off20_inb k0_t1 arg10_r0 arg11_r0 arg12_r0 arg13_r0 arg14_r0 arg15_r0 arg16_r0 arg17_r0 arg18_r0 arg19_r0 arg20_r0 arg21_r0 arg22_r0 arg23_r0 k0_hw1 k0_h5)
theorem k0_off19_wordsbf16 : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg10_r0 arg11_r0 arg12_r0 arg13_r0 arg14_r0 arg15_r0 arg16_r0 arg17_r0 arg18_r0 arg19_r0 arg20_r0 arg21_r0 arg22_r0 arg23_r0), ∀ (k0_h5 : k0_cond5 k0_t1 arg22_r0 arg23_r0 = 1#1), (Rect.unit (s := S2x512x2048) (k0_off19 arg12_r0) S1x512x2048.size (k0_off19_inb k0_t1 arg10_r0 arg11_r0 arg12_r0 arg13_r0 arg14_r0 arg15_r0 arg16_r0 arg17_r0 arg18_r0 arg19_r0 arg20_r0 arg21_r0 arg22_r0 arg23_r0 k0_hw1 k0_h5)).WholeWords (EltTy.packing .bf16) := fun k0_t1 arg10_r0 arg11_r0 arg12_r0 arg13_r0 arg14_r0 arg15_r0 arg16_r0 arg17_r0 arg18_r0 arg19_r0 arg20_r0 arg21_r0 arg22_r0 arg23_r0 k0_hw1 k0_h5 => k0_hw1.1.2.2.2.2.2.2.2.1 k0_h5 (k0_off19_inb k0_t1 arg10_r0 arg11_r0 arg12_r0 arg13_r0 arg14_r0 arg15_r0 arg16_r0 arg17_r0 arg18_r0 arg19_r0 arg20_r0 arg21_r0 arg22_r0 arg23_r0 k0_hw1 k0_h5)
theorem k0_off21_inb : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg10_r0 arg11_r0 arg12_r0 arg13_r0 arg14_r0 arg15_r0 arg16_r0 arg17_r0 arg18_r0 arg19_r0 arg20_r0 arg21_r0 arg22_r0 arg23_r0), ∀ (k0_h6 : k0_cond6 k0_t1 arg23_r0 = 1#1), ∀ a, (k0_off21 arg14_r0) a + S1.size a ≤ S3.size a := fun k0_t1 arg10_r0 arg11_r0 arg12_r0 arg13_r0 arg14_r0 arg15_r0 arg16_r0 arg17_r0 arg18_r0 arg19_r0 arg20_r0 arg21_r0 arg22_r0 arg23_r0 k0_hw1 k0_h6 => k0_hw1.1.2.2.2.2.2.2.2.2.1 k0_h6
theorem k0_off22_inb : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg10_r0 arg11_r0 arg12_r0 arg13_r0 arg14_r0 arg15_r0 arg16_r0 arg17_r0 arg18_r0 arg19_r0 arg20_r0 arg21_r0 arg22_r0 arg23_r0), ∀ (k0_h6 : k0_cond6 k0_t1 arg23_r0 = 1#1), ∀ a, (k0_off22 arg14_r0) a + S1x2048x512.size a ≤ S3x2048x512.size a := fun k0_t1 arg10_r0 arg11_r0 arg12_r0 arg13_r0 arg14_r0 arg15_r0 arg16_r0 arg17_r0 arg18_r0 arg19_r0 arg20_r0 arg21_r0 arg22_r0 arg23_r0 k0_hw1 k0_h6 => k0_hw1.1.2.2.2.2.2.2.2.2.2.1 k0_h6
theorem k0_off23_inb : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg10_r0 arg11_r0 arg12_r0 arg13_r0 arg14_r0 arg15_r0 arg16_r0 arg17_r0 arg18_r0 arg19_r0 arg20_r0 arg21_r0 arg22_r0 arg23_r0), ∀ (k0_h6 : k0_cond6 k0_t1 arg23_r0 = 1#1), ∀ a, (k0_off23 arg23_r0) a + S2048x512.size a ≤ S2048x11264.size a := fun k0_t1 arg10_r0 arg11_r0 arg12_r0 arg13_r0 arg14_r0 arg15_r0 arg16_r0 arg17_r0 arg18_r0 arg19_r0 arg20_r0 arg21_r0 arg22_r0 arg23_r0 k0_hw1 k0_h6 => k0_hw1.1.2.2.2.2.2.2.2.2.2.2.1 k0_h6
theorem k0_off23_wordsbf16 : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg10_r0 arg11_r0 arg12_r0 arg13_r0 arg14_r0 arg15_r0 arg16_r0 arg17_r0 arg18_r0 arg19_r0 arg20_r0 arg21_r0 arg22_r0 arg23_r0), ∀ (k0_h6 : k0_cond6 k0_t1 arg23_r0 = 1#1), (Rect.unit (s := S2048x11264) (k0_off23 arg23_r0) S2048x512.size (k0_off23_inb k0_t1 arg10_r0 arg11_r0 arg12_r0 arg13_r0 arg14_r0 arg15_r0 arg16_r0 arg17_r0 arg18_r0 arg19_r0 arg20_r0 arg21_r0 arg22_r0 arg23_r0 k0_hw1 k0_h6)).WholeWords (EltTy.packing .bf16) := fun k0_t1 arg10_r0 arg11_r0 arg12_r0 arg13_r0 arg14_r0 arg15_r0 arg16_r0 arg17_r0 arg18_r0 arg19_r0 arg20_r0 arg21_r0 arg22_r0 arg23_r0 k0_hw1 k0_h6 => k0_hw1.1.2.2.2.2.2.2.2.2.2.2.2.1 k0_h6 (k0_off23_inb k0_t1 arg10_r0 arg11_r0 arg12_r0 arg13_r0 arg14_r0 arg15_r0 arg16_r0 arg17_r0 arg18_r0 arg19_r0 arg20_r0 arg21_r0 arg22_r0 arg23_r0 k0_hw1 k0_h6)
theorem k0_off22_wordsbf16 : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg10_r0 arg11_r0 arg12_r0 arg13_r0 arg14_r0 arg15_r0 arg16_r0 arg17_r0 arg18_r0 arg19_r0 arg20_r0 arg21_r0 arg22_r0 arg23_r0), ∀ (k0_h6 : k0_cond6 k0_t1 arg23_r0 = 1#1), (Rect.unit (s := S3x2048x512) (k0_off22 arg14_r0) S1x2048x512.size (k0_off22_inb k0_t1 arg10_r0 arg11_r0 arg12_r0 arg13_r0 arg14_r0 arg15_r0 arg16_r0 arg17_r0 arg18_r0 arg19_r0 arg20_r0 arg21_r0 arg22_r0 arg23_r0 k0_hw1 k0_h6)).WholeWords (EltTy.packing .bf16) := fun k0_t1 arg10_r0 arg11_r0 arg12_r0 arg13_r0 arg14_r0 arg15_r0 arg16_r0 arg17_r0 arg18_r0 arg19_r0 arg20_r0 arg21_r0 arg22_r0 arg23_r0 k0_hw1 k0_h6 => k0_hw1.1.2.2.2.2.2.2.2.2.2.2.2.2.1 k0_h6 (k0_off22_inb k0_t1 arg10_r0 arg11_r0 arg12_r0 arg13_r0 arg14_r0 arg15_r0 arg16_r0 arg17_r0 arg18_r0 arg19_r0 arg20_r0 arg21_r0 arg22_r0 arg23_r0 k0_hw1 k0_h6)
theorem k0_off24_inb : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg10_r0 arg11_r0 arg12_r0 arg13_r0 arg14_r0 arg15_r0 arg16_r0 arg17_r0 arg18_r0 arg19_r0 arg20_r0 arg21_r0 arg22_r0 arg23_r0), ∀ (k0_h7 : k0_cond7 k0_t1 arg23_r0 = 1#1), ∀ a, (k0_off24 arg16_r0) a + S1.size a ≤ S3.size a := fun k0_t1 arg10_r0 arg11_r0 arg12_r0 arg13_r0 arg14_r0 arg15_r0 arg16_r0 arg17_r0 arg18_r0 arg19_r0 arg20_r0 arg21_r0 arg22_r0 arg23_r0 k0_hw1 k0_h7 => k0_hw1.1.2.2.2.2.2.2.2.2.2.2.2.2.2.1 k0_h7
theorem k0_off25_inb : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg10_r0 arg11_r0 arg12_r0 arg13_r0 arg14_r0 arg15_r0 arg16_r0 arg17_r0 arg18_r0 arg19_r0 arg20_r0 arg21_r0 arg22_r0 arg23_r0), ∀ (k0_h7 : k0_cond7 k0_t1 arg23_r0 = 1#1), ∀ a, (k0_off25 arg16_r0) a + S1x2048x512.size a ≤ S3x2048x512.size a := fun k0_t1 arg10_r0 arg11_r0 arg12_r0 arg13_r0 arg14_r0 arg15_r0 arg16_r0 arg17_r0 arg18_r0 arg19_r0 arg20_r0 arg21_r0 arg22_r0 arg23_r0 k0_hw1 k0_h7 => k0_hw1.1.2.2.2.2.2.2.2.2.2.2.2.2.2.2.1 k0_h7
theorem k0_off26_inb : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg10_r0 arg11_r0 arg12_r0 arg13_r0 arg14_r0 arg15_r0 arg16_r0 arg17_r0 arg18_r0 arg19_r0 arg20_r0 arg21_r0 arg22_r0 arg23_r0), ∀ (k0_h7 : k0_cond7 k0_t1 arg23_r0 = 1#1), ∀ a, (k0_off26 arg23_r0) a + S2048x512.size a ≤ S2048x11264.size a := fun k0_t1 arg10_r0 arg11_r0 arg12_r0 arg13_r0 arg14_r0 arg15_r0 arg16_r0 arg17_r0 arg18_r0 arg19_r0 arg20_r0 arg21_r0 arg22_r0 arg23_r0 k0_hw1 k0_h7 => k0_hw1.1.2.2.2.2.2.2.2.2.2.2.2.2.2.2.2.1 k0_h7
theorem k0_off26_wordsbf16 : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg10_r0 arg11_r0 arg12_r0 arg13_r0 arg14_r0 arg15_r0 arg16_r0 arg17_r0 arg18_r0 arg19_r0 arg20_r0 arg21_r0 arg22_r0 arg23_r0), ∀ (k0_h7 : k0_cond7 k0_t1 arg23_r0 = 1#1), (Rect.unit (s := S2048x11264) (k0_off26 arg23_r0) S2048x512.size (k0_off26_inb k0_t1 arg10_r0 arg11_r0 arg12_r0 arg13_r0 arg14_r0 arg15_r0 arg16_r0 arg17_r0 arg18_r0 arg19_r0 arg20_r0 arg21_r0 arg22_r0 arg23_r0 k0_hw1 k0_h7)).WholeWords (EltTy.packing .bf16) := fun k0_t1 arg10_r0 arg11_r0 arg12_r0 arg13_r0 arg14_r0 arg15_r0 arg16_r0 arg17_r0 arg18_r0 arg19_r0 arg20_r0 arg21_r0 arg22_r0 arg23_r0 k0_hw1 k0_h7 => k0_hw1.1.2.2.2.2.2.2.2.2.2.2.2.2.2.2.2.2.1 k0_h7 (k0_off26_inb k0_t1 arg10_r0 arg11_r0 arg12_r0 arg13_r0 arg14_r0 arg15_r0 arg16_r0 arg17_r0 arg18_r0 arg19_r0 arg20_r0 arg21_r0 arg22_r0 arg23_r0 k0_hw1 k0_h7)
theorem k0_off25_wordsbf16 : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg10_r0 arg11_r0 arg12_r0 arg13_r0 arg14_r0 arg15_r0 arg16_r0 arg17_r0 arg18_r0 arg19_r0 arg20_r0 arg21_r0 arg22_r0 arg23_r0), ∀ (k0_h7 : k0_cond7 k0_t1 arg23_r0 = 1#1), (Rect.unit (s := S3x2048x512) (k0_off25 arg16_r0) S1x2048x512.size (k0_off25_inb k0_t1 arg10_r0 arg11_r0 arg12_r0 arg13_r0 arg14_r0 arg15_r0 arg16_r0 arg17_r0 arg18_r0 arg19_r0 arg20_r0 arg21_r0 arg22_r0 arg23_r0 k0_hw1 k0_h7)).WholeWords (EltTy.packing .bf16) := fun k0_t1 arg10_r0 arg11_r0 arg12_r0 arg13_r0 arg14_r0 arg15_r0 arg16_r0 arg17_r0 arg18_r0 arg19_r0 arg20_r0 arg21_r0 arg22_r0 arg23_r0 k0_hw1 k0_h7 => k0_hw1.1.2.2.2.2.2.2.2.2.2.2.2.2.2.2.2.2.2.1 k0_h7 (k0_off25_inb k0_t1 arg10_r0 arg11_r0 arg12_r0 arg13_r0 arg14_r0 arg15_r0 arg16_r0 arg17_r0 arg18_r0 arg19_r0 arg20_r0 arg21_r0 arg22_r0 arg23_r0 k0_hw1 k0_h7)
theorem k0_off27_inb : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg10_r0 arg11_r0 arg12_r0 arg13_r0 arg14_r0 arg15_r0 arg16_r0 arg17_r0 arg18_r0 arg19_r0 arg20_r0 arg21_r0 arg22_r0 arg23_r0), ∀ (k0_h8 : k0_cond8 k0_t1 arg23_r0 = 1#1), ∀ a, (k0_off27 arg18_r0) a + S1.size a ≤ S3.size a := fun k0_t1 arg10_r0 arg11_r0 arg12_r0 arg13_r0 arg14_r0 arg15_r0 arg16_r0 arg17_r0 arg18_r0 arg19_r0 arg20_r0 arg21_r0 arg22_r0 arg23_r0 k0_hw1 k0_h8 => k0_hw1.1.2.2.2.2.2.2.2.2.2.2.2.2.2.2.2.2.2.2.1 k0_h8
theorem k0_off28_inb : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg10_r0 arg11_r0 arg12_r0 arg13_r0 arg14_r0 arg15_r0 arg16_r0 arg17_r0 arg18_r0 arg19_r0 arg20_r0 arg21_r0 arg22_r0 arg23_r0), ∀ (k0_h8 : k0_cond8 k0_t1 arg23_r0 = 1#1), ∀ a, (k0_off28 arg18_r0) a + S1x512x2048.size a ≤ S3x512x2048.size a := fun k0_t1 arg10_r0 arg11_r0 arg12_r0 arg13_r0 arg14_r0 arg15_r0 arg16_r0 arg17_r0 arg18_r0 arg19_r0 arg20_r0 arg21_r0 arg22_r0 arg23_r0 k0_hw1 k0_h8 => k0_hw1.1.2.2.2.2.2.2.2.2.2.2.2.2.2.2.2.2.2.2.2.1 k0_h8
theorem k0_off29_inb : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg10_r0 arg11_r0 arg12_r0 arg13_r0 arg14_r0 arg15_r0 arg16_r0 arg17_r0 arg18_r0 arg19_r0 arg20_r0 arg21_r0 arg22_r0 arg23_r0), ∀ (k0_h8 : k0_cond8 k0_t1 arg23_r0 = 1#1), ∀ a, (k0_off29 arg23_r0) a + S512x2048.size a ≤ S5632x2048.size a := fun k0_t1 arg10_r0 arg11_r0 arg12_r0 arg13_r0 arg14_r0 arg15_r0 arg16_r0 arg17_r0 arg18_r0 arg19_r0 arg20_r0 arg21_r0 arg22_r0 arg23_r0 k0_hw1 k0_h8 => k0_hw1.1.2.2.2.2.2.2.2.2.2.2.2.2.2.2.2.2.2.2.2.2.1 k0_h8
theorem k0_off29_wordsbf16 : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg10_r0 arg11_r0 arg12_r0 arg13_r0 arg14_r0 arg15_r0 arg16_r0 arg17_r0 arg18_r0 arg19_r0 arg20_r0 arg21_r0 arg22_r0 arg23_r0), ∀ (k0_h8 : k0_cond8 k0_t1 arg23_r0 = 1#1), (Rect.unit (s := S5632x2048) (k0_off29 arg23_r0) S512x2048.size (k0_off29_inb k0_t1 arg10_r0 arg11_r0 arg12_r0 arg13_r0 arg14_r0 arg15_r0 arg16_r0 arg17_r0 arg18_r0 arg19_r0 arg20_r0 arg21_r0 arg22_r0 arg23_r0 k0_hw1 k0_h8)).WholeWords (EltTy.packing .bf16) := fun k0_t1 arg10_r0 arg11_r0 arg12_r0 arg13_r0 arg14_r0 arg15_r0 arg16_r0 arg17_r0 arg18_r0 arg19_r0 arg20_r0 arg21_r0 arg22_r0 arg23_r0 k0_hw1 k0_h8 => k0_hw1.1.2.2.2.2.2.2.2.2.2.2.2.2.2.2.2.2.2.2.2.2.2.1 k0_h8 (k0_off29_inb k0_t1 arg10_r0 arg11_r0 arg12_r0 arg13_r0 arg14_r0 arg15_r0 arg16_r0 arg17_r0 arg18_r0 arg19_r0 arg20_r0 arg21_r0 arg22_r0 arg23_r0 k0_hw1 k0_h8)
theorem k0_off28_wordsbf16 : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg10_r0 arg11_r0 arg12_r0 arg13_r0 arg14_r0 arg15_r0 arg16_r0 arg17_r0 arg18_r0 arg19_r0 arg20_r0 arg21_r0 arg22_r0 arg23_r0), ∀ (k0_h8 : k0_cond8 k0_t1 arg23_r0 = 1#1), (Rect.unit (s := S3x512x2048) (k0_off28 arg18_r0) S1x512x2048.size (k0_off28_inb k0_t1 arg10_r0 arg11_r0 arg12_r0 arg13_r0 arg14_r0 arg15_r0 arg16_r0 arg17_r0 arg18_r0 arg19_r0 arg20_r0 arg21_r0 arg22_r0 arg23_r0 k0_hw1 k0_h8)).WholeWords (EltTy.packing .bf16) := fun k0_t1 arg10_r0 arg11_r0 arg12_r0 arg13_r0 arg14_r0 arg15_r0 arg16_r0 arg17_r0 arg18_r0 arg19_r0 arg20_r0 arg21_r0 arg22_r0 arg23_r0 k0_hw1 k0_h8 => k0_hw1.1.2.2.2.2.2.2.2.2.2.2.2.2.2.2.2.2.2.2.2.2.2.2.1 k0_h8 (k0_off28_inb k0_t1 arg10_r0 arg11_r0 arg12_r0 arg13_r0 arg14_r0 arg15_r0 arg16_r0 arg17_r0 arg18_r0 arg19_r0 arg20_r0 arg21_r0 arg22_r0 arg23_r0 k0_hw1 k0_h8)
theorem k0_off30_inb : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg10_r0 arg11_r0 arg12_r0 arg13_r0 arg14_r0 arg15_r0 arg16_r0 arg17_r0 arg18_r0 arg19_r0 arg20_r0 arg21_r0 arg22_r0 arg23_r0), ∀ (k0_h9 : k0_cond9 k0_t1 arg22_r0 arg23_r0 = 1#1), ∀ a, (k0_off30 arg11_r0) a + S1.size a ≤ S2.size a := fun k0_t1 arg10_r0 arg11_r0 arg12_r0 arg13_r0 arg14_r0 arg15_r0 arg16_r0 arg17_r0 arg18_r0 arg19_r0 arg20_r0 arg21_r0 arg22_r0 arg23_r0 k0_hw1 k0_h9 => k0_hw1.1.2.2.2.2.2.2.2.2.2.2.2.2.2.2.2.2.2.2.2.2.2.2.2.1 k0_h9
theorem k0_off31_inb : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg10_r0 arg11_r0 arg12_r0 arg13_r0 arg14_r0 arg15_r0 arg16_r0 arg17_r0 arg18_r0 arg19_r0 arg20_r0 arg21_r0 arg22_r0 arg23_r0), ∀ (k0_h9 : k0_cond9 k0_t1 arg22_r0 arg23_r0 = 1#1), ∀ a, (k0_off31 arg11_r0) a + S1x512x2048.size a ≤ S2x512x2048.size a := fun k0_t1 arg10_r0 arg11_r0 arg12_r0 arg13_r0 arg14_r0 arg15_r0 arg16_r0 arg17_r0 arg18_r0 arg19_r0 arg20_r0 arg21_r0 arg22_r0 arg23_r0 k0_hw1 k0_h9 => k0_hw1.1.2.2.2.2.2.2.2.2.2.2.2.2.2.2.2.2.2.2.2.2.2.2.2.2.1 k0_h9
theorem k0_off32_inb : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg10_r0 arg11_r0 arg12_r0 arg13_r0 arg14_r0 arg15_r0 arg16_r0 arg17_r0 arg18_r0 arg19_r0 arg20_r0 arg21_r0 arg22_r0 arg23_r0), ∀ (k0_h9 : k0_cond9 k0_t1 arg22_r0 arg23_r0 = 1#1), ∀ a, (k0_off32 arg22_r0) a + S512x2048.size a ≤ S8192x2048.size a := fun k0_t1 arg10_r0 arg11_r0 arg12_r0 arg13_r0 arg14_r0 arg15_r0 arg16_r0 arg17_r0 arg18_r0 arg19_r0 arg20_r0 arg21_r0 arg22_r0 arg23_r0 k0_hw1 k0_h9 => k0_hw1.1.2.2.2.2.2.2.2.2.2.2.2.2.2.2.2.2.2.2.2.2.2.2.2.2.2.1 k0_h9
theorem k0_off33_inb : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg10_r0 arg11_r0 arg12_r0 arg13_r0 arg14_r0 arg15_r0 arg16_r0 arg17_r0 arg18_r0 arg19_r0 arg20_r0 arg21_r0 arg22_r0 arg23_r0), ∀ (k0_h10 : k0_cond10 k0_t1 arg22_r0 arg23_r0 = 1#1), ∀ a, (k0_off33 arg13_r0) a + S1.size a ≤ S2.size a := fun k0_t1 arg10_r0 arg11_r0 arg12_r0 arg13_r0 arg14_r0 arg15_r0 arg16_r0 arg17_r0 arg18_r0 arg19_r0 arg20_r0 arg21_r0 arg22_r0 arg23_r0 k0_hw1 k0_h10 => k0_hw1.1.2.2.2.2.2.2.2.2.2.2.2.2.2.2.2.2.2.2.2.2.2.2.2.2.2.2.1 k0_h10
theorem k0_off34_inb : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg10_r0 arg11_r0 arg12_r0 arg13_r0 arg14_r0 arg15_r0 arg16_r0 arg17_r0 arg18_r0 arg19_r0 arg20_r0 arg21_r0 arg22_r0 arg23_r0), ∀ (k0_h10 : k0_cond10 k0_t1 arg22_r0 arg23_r0 = 1#1), ∀ a, (k0_off34 arg13_r0) a + S1x512x2048.size a ≤ S2x512x2048.size a := fun k0_t1 arg10_r0 arg11_r0 arg12_r0 arg13_r0 arg14_r0 arg15_r0 arg16_r0 arg17_r0 arg18_r0 arg19_r0 arg20_r0 arg21_r0 arg22_r0 arg23_r0 k0_hw1 k0_h10 => k0_hw1.1.2.2.2.2.2.2.2.2.2.2.2.2.2.2.2.2.2.2.2.2.2.2.2.2.2.2.2.1 k0_h10
theorem k0_off35_inb : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg10_r0 arg11_r0 arg12_r0 arg13_r0 arg14_r0 arg15_r0 arg16_r0 arg17_r0 arg18_r0 arg19_r0 arg20_r0 arg21_r0 arg22_r0 arg23_r0), ∀ (k0_h10 : k0_cond10 k0_t1 arg22_r0 arg23_r0 = 1#1), ∀ a, (k0_off35 arg22_r0) a + S512x2048.size a ≤ S8192x2048.size a := fun k0_t1 arg10_r0 arg11_r0 arg12_r0 arg13_r0 arg14_r0 arg15_r0 arg16_r0 arg17_r0 arg18_r0 arg19_r0 arg20_r0 arg21_r0 arg22_r0 arg23_r0 k0_hw1 k0_h10 => k0_hw1.1.2.2.2.2.2.2.2.2.2.2.2.2.2.2.2.2.2.2.2.2.2.2.2.2.2.2.2.2.1 k0_h10
theorem k0_off35_wordsbf16 : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg10_r0 arg11_r0 arg12_r0 arg13_r0 arg14_r0 arg15_r0 arg16_r0 arg17_r0 arg18_r0 arg19_r0 arg20_r0 arg21_r0 arg22_r0 arg23_r0), ∀ (k0_h10 : k0_cond10 k0_t1 arg22_r0 arg23_r0 = 1#1), (Rect.unit (s := S8192x2048) (k0_off35 arg22_r0) S512x2048.size (k0_off35_inb k0_t1 arg10_r0 arg11_r0 arg12_r0 arg13_r0 arg14_r0 arg15_r0 arg16_r0 arg17_r0 arg18_r0 arg19_r0 arg20_r0 arg21_r0 arg22_r0 arg23_r0 k0_hw1 k0_h10)).WholeWords (EltTy.packing .bf16) := fun k0_t1 arg10_r0 arg11_r0 arg12_r0 arg13_r0 arg14_r0 arg15_r0 arg16_r0 arg17_r0 arg18_r0 arg19_r0 arg20_r0 arg21_r0 arg22_r0 arg23_r0 k0_hw1 k0_h10 => k0_hw1.1.2.2.2.2.2.2.2.2.2.2.2.2.2.2.2.2.2.2.2.2.2.2.2.2.2.2.2.2.2.1 k0_h10 (k0_off35_inb k0_t1 arg10_r0 arg11_r0 arg12_r0 arg13_r0 arg14_r0 arg15_r0 arg16_r0 arg17_r0 arg18_r0 arg19_r0 arg20_r0 arg21_r0 arg22_r0 arg23_r0 k0_hw1 k0_h10)
theorem k0_off34_wordsbf16 : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg10_r0 arg11_r0 arg12_r0 arg13_r0 arg14_r0 arg15_r0 arg16_r0 arg17_r0 arg18_r0 arg19_r0 arg20_r0 arg21_r0 arg22_r0 arg23_r0), ∀ (k0_h10 : k0_cond10 k0_t1 arg22_r0 arg23_r0 = 1#1), (Rect.unit (s := S2x512x2048) (k0_off34 arg13_r0) S1x512x2048.size (k0_off34_inb k0_t1 arg10_r0 arg11_r0 arg12_r0 arg13_r0 arg14_r0 arg15_r0 arg16_r0 arg17_r0 arg18_r0 arg19_r0 arg20_r0 arg21_r0 arg22_r0 arg23_r0 k0_hw1 k0_h10)).WholeWords (EltTy.packing .bf16) := fun k0_t1 arg10_r0 arg11_r0 arg12_r0 arg13_r0 arg14_r0 arg15_r0 arg16_r0 arg17_r0 arg18_r0 arg19_r0 arg20_r0 arg21_r0 arg22_r0 arg23_r0 k0_hw1 k0_h10 => k0_hw1.1.2.2.2.2.2.2.2.2.2.2.2.2.2.2.2.2.2.2.2.2.2.2.2.2.2.2.2.2.2.2.1 k0_h10 (k0_off34_inb k0_t1 arg10_r0 arg11_r0 arg12_r0 arg13_r0 arg14_r0 arg15_r0 arg16_r0 arg17_r0 arg18_r0 arg19_r0 arg20_r0 arg21_r0 arg22_r0 arg23_r0 k0_hw1 k0_h10)
theorem k0_off36_inb : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg10_r0 arg11_r0 arg12_r0 arg13_r0 arg14_r0 arg15_r0 arg16_r0 arg17_r0 arg18_r0 arg19_r0 arg20_r0 arg21_r0 arg22_r0 arg23_r0), ∀ (k0_h11 : k0_cond11 k0_t1 arg23_r0 = 1#1), ∀ a, (k0_off36 arg15_r0) a + S1.size a ≤ S3.size a := fun k0_t1 arg10_r0 arg11_r0 arg12_r0 arg13_r0 arg14_r0 arg15_r0 arg16_r0 arg17_r0 arg18_r0 arg19_r0 arg20_r0 arg21_r0 arg22_r0 arg23_r0 k0_hw1 k0_h11 => k0_hw1.1.2.2.2.2.2.2.2.2.2.2.2.2.2.2.2.2.2.2.2.2.2.2.2.2.2.2.2.2.2.2.2 k0_h11
theorem k0_off37_inb : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg10_r0 arg11_r0 arg12_r0 arg13_r0 arg14_r0 arg15_r0 arg16_r0 arg17_r0 arg18_r0 arg19_r0 arg20_r0 arg21_r0 arg22_r0 arg23_r0), ∀ (k0_h11 : k0_cond11 k0_t1 arg23_r0 = 1#1), ∀ a, (k0_off37 arg15_r0) a + S1x2048x512.size a ≤ S3x2048x512.size a := fun k0_t1 arg10_r0 arg11_r0 arg12_r0 arg13_r0 arg14_r0 arg15_r0 arg16_r0 arg17_r0 arg18_r0 arg19_r0 arg20_r0 arg21_r0 arg22_r0 arg23_r0 k0_hw1 k0_h11 => k0_hw1.2.1 k0_h11
theorem k0_off38_inb : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg10_r0 arg11_r0 arg12_r0 arg13_r0 arg14_r0 arg15_r0 arg16_r0 arg17_r0 arg18_r0 arg19_r0 arg20_r0 arg21_r0 arg22_r0 arg23_r0), ∀ (k0_h11 : k0_cond11 k0_t1 arg23_r0 = 1#1), ∀ a, (k0_off38 arg23_r0) a + S2048x512.size a ≤ S2048x11264.size a := fun k0_t1 arg10_r0 arg11_r0 arg12_r0 arg13_r0 arg14_r0 arg15_r0 arg16_r0 arg17_r0 arg18_r0 arg19_r0 arg20_r0 arg21_r0 arg22_r0 arg23_r0 k0_hw1 k0_h11 => k0_hw1.2.2.1 k0_h11
theorem k0_off38_wordsbf16 : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg10_r0 arg11_r0 arg12_r0 arg13_r0 arg14_r0 arg15_r0 arg16_r0 arg17_r0 arg18_r0 arg19_r0 arg20_r0 arg21_r0 arg22_r0 arg23_r0), ∀ (k0_h11 : k0_cond11 k0_t1 arg23_r0 = 1#1), (Rect.unit (s := S2048x11264) (k0_off38 arg23_r0) S2048x512.size (k0_off38_inb k0_t1 arg10_r0 arg11_r0 arg12_r0 arg13_r0 arg14_r0 arg15_r0 arg16_r0 arg17_r0 arg18_r0 arg19_r0 arg20_r0 arg21_r0 arg22_r0 arg23_r0 k0_hw1 k0_h11)).WholeWords (EltTy.packing .bf16) := fun k0_t1 arg10_r0 arg11_r0 arg12_r0 arg13_r0 arg14_r0 arg15_r0 arg16_r0 arg17_r0 arg18_r0 arg19_r0 arg20_r0 arg21_r0 arg22_r0 arg23_r0 k0_hw1 k0_h11 => k0_hw1.2.2.2.1 k0_h11 (k0_off38_inb k0_t1 arg10_r0 arg11_r0 arg12_r0 arg13_r0 arg14_r0 arg15_r0 arg16_r0 arg17_r0 arg18_r0 arg19_r0 arg20_r0 arg21_r0 arg22_r0 arg23_r0 k0_hw1 k0_h11)
theorem k0_off37_wordsbf16 : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg10_r0 arg11_r0 arg12_r0 arg13_r0 arg14_r0 arg15_r0 arg16_r0 arg17_r0 arg18_r0 arg19_r0 arg20_r0 arg21_r0 arg22_r0 arg23_r0), ∀ (k0_h11 : k0_cond11 k0_t1 arg23_r0 = 1#1), (Rect.unit (s := S3x2048x512) (k0_off37 arg15_r0) S1x2048x512.size (k0_off37_inb k0_t1 arg10_r0 arg11_r0 arg12_r0 arg13_r0 arg14_r0 arg15_r0 arg16_r0 arg17_r0 arg18_r0 arg19_r0 arg20_r0 arg21_r0 arg22_r0 arg23_r0 k0_hw1 k0_h11)).WholeWords (EltTy.packing .bf16) := fun k0_t1 arg10_r0 arg11_r0 arg12_r0 arg13_r0 arg14_r0 arg15_r0 arg16_r0 arg17_r0 arg18_r0 arg19_r0 arg20_r0 arg21_r0 arg22_r0 arg23_r0 k0_hw1 k0_h11 => k0_hw1.2.2.2.2.1 k0_h11 (k0_off37_inb k0_t1 arg10_r0 arg11_r0 arg12_r0 arg13_r0 arg14_r0 arg15_r0 arg16_r0 arg17_r0 arg18_r0 arg19_r0 arg20_r0 arg21_r0 arg22_r0 arg23_r0 k0_hw1 k0_h11)
theorem k0_off39_inb : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg10_r0 arg11_r0 arg12_r0 arg13_r0 arg14_r0 arg15_r0 arg16_r0 arg17_r0 arg18_r0 arg19_r0 arg20_r0 arg21_r0 arg22_r0 arg23_r0), ∀ (k0_h12 : k0_cond12 k0_t1 arg23_r0 = 1#1), ∀ a, (k0_off39 arg17_r0) a + S1.size a ≤ S3.size a := fun k0_t1 arg10_r0 arg11_r0 arg12_r0 arg13_r0 arg14_r0 arg15_r0 arg16_r0 arg17_r0 arg18_r0 arg19_r0 arg20_r0 arg21_r0 arg22_r0 arg23_r0 k0_hw1 k0_h12 => k0_hw1.2.2.2.2.2.1 k0_h12
theorem k0_off40_inb : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg10_r0 arg11_r0 arg12_r0 arg13_r0 arg14_r0 arg15_r0 arg16_r0 arg17_r0 arg18_r0 arg19_r0 arg20_r0 arg21_r0 arg22_r0 arg23_r0), ∀ (k0_h12 : k0_cond12 k0_t1 arg23_r0 = 1#1), ∀ a, (k0_off40 arg17_r0) a + S1x2048x512.size a ≤ S3x2048x512.size a := fun k0_t1 arg10_r0 arg11_r0 arg12_r0 arg13_r0 arg14_r0 arg15_r0 arg16_r0 arg17_r0 arg18_r0 arg19_r0 arg20_r0 arg21_r0 arg22_r0 arg23_r0 k0_hw1 k0_h12 => k0_hw1.2.2.2.2.2.2.1 k0_h12
theorem k0_off41_inb : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg10_r0 arg11_r0 arg12_r0 arg13_r0 arg14_r0 arg15_r0 arg16_r0 arg17_r0 arg18_r0 arg19_r0 arg20_r0 arg21_r0 arg22_r0 arg23_r0), ∀ (k0_h12 : k0_cond12 k0_t1 arg23_r0 = 1#1), ∀ a, (k0_off41 arg23_r0) a + S2048x512.size a ≤ S2048x11264.size a := fun k0_t1 arg10_r0 arg11_r0 arg12_r0 arg13_r0 arg14_r0 arg15_r0 arg16_r0 arg17_r0 arg18_r0 arg19_r0 arg20_r0 arg21_r0 arg22_r0 arg23_r0 k0_hw1 k0_h12 => k0_hw1.2.2.2.2.2.2.2.1 k0_h12
theorem k0_off41_wordsbf16 : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg10_r0 arg11_r0 arg12_r0 arg13_r0 arg14_r0 arg15_r0 arg16_r0 arg17_r0 arg18_r0 arg19_r0 arg20_r0 arg21_r0 arg22_r0 arg23_r0), ∀ (k0_h12 : k0_cond12 k0_t1 arg23_r0 = 1#1), (Rect.unit (s := S2048x11264) (k0_off41 arg23_r0) S2048x512.size (k0_off41_inb k0_t1 arg10_r0 arg11_r0 arg12_r0 arg13_r0 arg14_r0 arg15_r0 arg16_r0 arg17_r0 arg18_r0 arg19_r0 arg20_r0 arg21_r0 arg22_r0 arg23_r0 k0_hw1 k0_h12)).WholeWords (EltTy.packing .bf16) := fun k0_t1 arg10_r0 arg11_r0 arg12_r0 arg13_r0 arg14_r0 arg15_r0 arg16_r0 arg17_r0 arg18_r0 arg19_r0 arg20_r0 arg21_r0 arg22_r0 arg23_r0 k0_hw1 k0_h12 => k0_hw1.2.2.2.2.2.2.2.2.1 k0_h12 (k0_off41_inb k0_t1 arg10_r0 arg11_r0 arg12_r0 arg13_r0 arg14_r0 arg15_r0 arg16_r0 arg17_r0 arg18_r0 arg19_r0 arg20_r0 arg21_r0 arg22_r0 arg23_r0 k0_hw1 k0_h12)
theorem k0_off40_wordsbf16 : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg10_r0 arg11_r0 arg12_r0 arg13_r0 arg14_r0 arg15_r0 arg16_r0 arg17_r0 arg18_r0 arg19_r0 arg20_r0 arg21_r0 arg22_r0 arg23_r0), ∀ (k0_h12 : k0_cond12 k0_t1 arg23_r0 = 1#1), (Rect.unit (s := S3x2048x512) (k0_off40 arg17_r0) S1x2048x512.size (k0_off40_inb k0_t1 arg10_r0 arg11_r0 arg12_r0 arg13_r0 arg14_r0 arg15_r0 arg16_r0 arg17_r0 arg18_r0 arg19_r0 arg20_r0 arg21_r0 arg22_r0 arg23_r0 k0_hw1 k0_h12)).WholeWords (EltTy.packing .bf16) := fun k0_t1 arg10_r0 arg11_r0 arg12_r0 arg13_r0 arg14_r0 arg15_r0 arg16_r0 arg17_r0 arg18_r0 arg19_r0 arg20_r0 arg21_r0 arg22_r0 arg23_r0 k0_hw1 k0_h12 => k0_hw1.2.2.2.2.2.2.2.2.2.1 k0_h12 (k0_off40_inb k0_t1 arg10_r0 arg11_r0 arg12_r0 arg13_r0 arg14_r0 arg15_r0 arg16_r0 arg17_r0 arg18_r0 arg19_r0 arg20_r0 arg21_r0 arg22_r0 arg23_r0 k0_hw1 k0_h12)
theorem k0_off42_inb : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg10_r0 arg11_r0 arg12_r0 arg13_r0 arg14_r0 arg15_r0 arg16_r0 arg17_r0 arg18_r0 arg19_r0 arg20_r0 arg21_r0 arg22_r0 arg23_r0), ∀ (k0_h13 : k0_cond13 k0_t1 arg23_r0 = 1#1), ∀ a, (k0_off42 arg19_r0) a + S1.size a ≤ S3.size a := fun k0_t1 arg10_r0 arg11_r0 arg12_r0 arg13_r0 arg14_r0 arg15_r0 arg16_r0 arg17_r0 arg18_r0 arg19_r0 arg20_r0 arg21_r0 arg22_r0 arg23_r0 k0_hw1 k0_h13 => k0_hw1.2.2.2.2.2.2.2.2.2.2.1 k0_h13
theorem k0_off43_inb : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg10_r0 arg11_r0 arg12_r0 arg13_r0 arg14_r0 arg15_r0 arg16_r0 arg17_r0 arg18_r0 arg19_r0 arg20_r0 arg21_r0 arg22_r0 arg23_r0), ∀ (k0_h13 : k0_cond13 k0_t1 arg23_r0 = 1#1), ∀ a, (k0_off43 arg19_r0) a + S1x512x2048.size a ≤ S3x512x2048.size a := fun k0_t1 arg10_r0 arg11_r0 arg12_r0 arg13_r0 arg14_r0 arg15_r0 arg16_r0 arg17_r0 arg18_r0 arg19_r0 arg20_r0 arg21_r0 arg22_r0 arg23_r0 k0_hw1 k0_h13 => k0_hw1.2.2.2.2.2.2.2.2.2.2.2.1 k0_h13
theorem k0_off44_inb : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg10_r0 arg11_r0 arg12_r0 arg13_r0 arg14_r0 arg15_r0 arg16_r0 arg17_r0 arg18_r0 arg19_r0 arg20_r0 arg21_r0 arg22_r0 arg23_r0), ∀ (k0_h13 : k0_cond13 k0_t1 arg23_r0 = 1#1), ∀ a, (k0_off44 arg23_r0) a + S512x2048.size a ≤ S5632x2048.size a := fun k0_t1 arg10_r0 arg11_r0 arg12_r0 arg13_r0 arg14_r0 arg15_r0 arg16_r0 arg17_r0 arg18_r0 arg19_r0 arg20_r0 arg21_r0 arg22_r0 arg23_r0 k0_hw1 k0_h13 => k0_hw1.2.2.2.2.2.2.2.2.2.2.2.2.1 k0_h13
theorem k0_off44_wordsbf16 : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg10_r0 arg11_r0 arg12_r0 arg13_r0 arg14_r0 arg15_r0 arg16_r0 arg17_r0 arg18_r0 arg19_r0 arg20_r0 arg21_r0 arg22_r0 arg23_r0), ∀ (k0_h13 : k0_cond13 k0_t1 arg23_r0 = 1#1), (Rect.unit (s := S5632x2048) (k0_off44 arg23_r0) S512x2048.size (k0_off44_inb k0_t1 arg10_r0 arg11_r0 arg12_r0 arg13_r0 arg14_r0 arg15_r0 arg16_r0 arg17_r0 arg18_r0 arg19_r0 arg20_r0 arg21_r0 arg22_r0 arg23_r0 k0_hw1 k0_h13)).WholeWords (EltTy.packing .bf16) := fun k0_t1 arg10_r0 arg11_r0 arg12_r0 arg13_r0 arg14_r0 arg15_r0 arg16_r0 arg17_r0 arg18_r0 arg19_r0 arg20_r0 arg21_r0 arg22_r0 arg23_r0 k0_hw1 k0_h13 => k0_hw1.2.2.2.2.2.2.2.2.2.2.2.2.2.1 k0_h13 (k0_off44_inb k0_t1 arg10_r0 arg11_r0 arg12_r0 arg13_r0 arg14_r0 arg15_r0 arg16_r0 arg17_r0 arg18_r0 arg19_r0 arg20_r0 arg21_r0 arg22_r0 arg23_r0 k0_hw1 k0_h13)
theorem k0_off43_wordsbf16 : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg10_r0 arg11_r0 arg12_r0 arg13_r0 arg14_r0 arg15_r0 arg16_r0 arg17_r0 arg18_r0 arg19_r0 arg20_r0 arg21_r0 arg22_r0 arg23_r0), ∀ (k0_h13 : k0_cond13 k0_t1 arg23_r0 = 1#1), (Rect.unit (s := S3x512x2048) (k0_off43 arg19_r0) S1x512x2048.size (k0_off43_inb k0_t1 arg10_r0 arg11_r0 arg12_r0 arg13_r0 arg14_r0 arg15_r0 arg16_r0 arg17_r0 arg18_r0 arg19_r0 arg20_r0 arg21_r0 arg22_r0 arg23_r0 k0_hw1 k0_h13)).WholeWords (EltTy.packing .bf16) := fun k0_t1 arg10_r0 arg11_r0 arg12_r0 arg13_r0 arg14_r0 arg15_r0 arg16_r0 arg17_r0 arg18_r0 arg19_r0 arg20_r0 arg21_r0 arg22_r0 arg23_r0 k0_hw1 k0_h13 => k0_hw1.2.2.2.2.2.2.2.2.2.2.2.2.2.2.1 k0_h13 (k0_off43_inb k0_t1 arg10_r0 arg11_r0 arg12_r0 arg13_r0 arg14_r0 arg15_r0 arg16_r0 arg17_r0 arg18_r0 arg19_r0 arg20_r0 arg21_r0 arg22_r0 arg23_r0 k0_hw1 k0_h13)
theorem k0_off52_inb : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg10_r0 arg11_r0 arg12_r0 arg13_r0 arg14_r0 arg15_r0 arg16_r0 arg17_r0 arg18_r0 arg19_r0 arg20_r0 arg21_r0 arg22_r0 arg23_r0), ∀ (k0_h22 : k0_cond22 k0_t1 arg22_r0 arg23_r0 = 1#1), ∀ a, (k0_off52 arg20_r0) a + S1.size a ≤ S2.size a := fun k0_t1 arg10_r0 arg11_r0 arg12_r0 arg13_r0 arg14_r0 arg15_r0 arg16_r0 arg17_r0 arg18_r0 arg19_r0 arg20_r0 arg21_r0 arg22_r0 arg23_r0 k0_hw1 k0_h22 => k0_hw1.2.2.2.2.2.2.2.2.2.2.2.2.2.2.2.1 k0_h22
theorem k0_off53_inb : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg10_r0 arg11_r0 arg12_r0 arg13_r0 arg14_r0 arg15_r0 arg16_r0 arg17_r0 arg18_r0 arg19_r0 arg20_r0 arg21_r0 arg22_r0 arg23_r0), ∀ (k0_h22 : k0_cond22 k0_t1 arg22_r0 arg23_r0 = 1#1), ∀ a, (k0_off53 arg22_r0) a + S512x2048.size a ≤ S8192x2048.size a := fun k0_t1 arg10_r0 arg11_r0 arg12_r0 arg13_r0 arg14_r0 arg15_r0 arg16_r0 arg17_r0 arg18_r0 arg19_r0 arg20_r0 arg21_r0 arg22_r0 arg23_r0 k0_hw1 k0_h22 => k0_hw1.2.2.2.2.2.2.2.2.2.2.2.2.2.2.2.2.1 k0_h22
theorem k0_off54_inb : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg10_r0 arg11_r0 arg12_r0 arg13_r0 arg14_r0 arg15_r0 arg16_r0 arg17_r0 arg18_r0 arg19_r0 arg20_r0 arg21_r0 arg22_r0 arg23_r0), ∀ (k0_h22 : k0_cond22 k0_t1 arg22_r0 arg23_r0 = 1#1), ∀ a, (k0_off54 arg20_r0) a + S1x512x2048.size a ≤ S2x512x2048.size a := fun k0_t1 arg10_r0 arg11_r0 arg12_r0 arg13_r0 arg14_r0 arg15_r0 arg16_r0 arg17_r0 arg18_r0 arg19_r0 arg20_r0 arg21_r0 arg22_r0 arg23_r0 k0_hw1 k0_h22 => k0_hw1.2.2.2.2.2.2.2.2.2.2.2.2.2.2.2.2.2.1 k0_h22
theorem k0_off55_inb : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg10_r0 arg11_r0 arg12_r0 arg13_r0 arg14_r0 arg15_r0 arg16_r0 arg17_r0 arg18_r0 arg19_r0 arg20_r0 arg21_r0 arg22_r0 arg23_r0), ∀ (k0_h28 : k0_cond28 k0_t1 arg22_r0 arg23_r0 = 1#1), ∀ a, (k0_off55 arg21_r0) a + S1.size a ≤ S2.size a := fun k0_t1 arg10_r0 arg11_r0 arg12_r0 arg13_r0 arg14_r0 arg15_r0 arg16_r0 arg17_r0 arg18_r0 arg19_r0 arg20_r0 arg21_r0 arg22_r0 arg23_r0 k0_hw1 k0_h28 => k0_hw1.2.2.2.2.2.2.2.2.2.2.2.2.2.2.2.2.2.2.1 k0_h28
theorem k0_off56_inb : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg10_r0 arg11_r0 arg12_r0 arg13_r0 arg14_r0 arg15_r0 arg16_r0 arg17_r0 arg18_r0 arg19_r0 arg20_r0 arg21_r0 arg22_r0 arg23_r0), ∀ (k0_h28 : k0_cond28 k0_t1 arg22_r0 arg23_r0 = 1#1), ∀ a, (k0_off56 arg22_r0 arg23_r0) a + S512x2048.size a ≤ S8192x2048.size a := fun k0_t1 arg10_r0 arg11_r0 arg12_r0 arg13_r0 arg14_r0 arg15_r0 arg16_r0 arg17_r0 arg18_r0 arg19_r0 arg20_r0 arg21_r0 arg22_r0 arg23_r0 k0_hw1 k0_h28 => k0_hw1.2.2.2.2.2.2.2.2.2.2.2.2.2.2.2.2.2.2.2.1 k0_h28
theorem k0_off57_inb : ∀ (k0_t1 : Fin k0_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg10_r0 arg11_r0 arg12_r0 arg13_r0 arg14_r0 arg15_r0 arg16_r0 arg17_r0 arg18_r0 arg19_r0 arg20_r0 arg21_r0 arg22_r0 arg23_r0), ∀ (k0_h28 : k0_cond28 k0_t1 arg22_r0 arg23_r0 = 1#1), ∀ a, (k0_off57 arg21_r0) a + S1x512x2048.size a ≤ S2x512x2048.size a := fun k0_t1 arg10_r0 arg11_r0 arg12_r0 arg13_r0 arg14_r0 arg15_r0 arg16_r0 arg17_r0 arg18_r0 arg19_r0 arg20_r0 arg21_r0 arg22_r0 arg23_r0 k0_hw1 k0_h28 => k0_hw1.2.2.2.2.2.2.2.2.2.2.2.2.2.2.2.2.2.2.2.2 k0_h28

def k0_off58 (v101_11_r0 : BitVec 32) : Fin 1 → Nat :=
  let c2_i32_148_r0 : BitVec 32 := 2#32
  let v152_r0 : BitVec 32 := Scalar.remui v101_11_r0 c2_i32_148_r0
  ![v152_r0.toNat]

def k0_off59 (v101_13_r0 : BitVec 32) (v101_12_r0 : BitVec 32) : Fin 2 → Nat :=
  let c512_i32_r0 : BitVec 32 := 512#32
  let true_104_r0 : BitVec 1 := 1#1
  let c1_i32_103_r0 : BitVec 32 := 1#32
  let v102_r0 : BitVec 32 := Scalar.subi v101_13_r0 c1_i32_103_r0
  let v103_r0 : BitVec 32 := Scalar.select true_104_r0 v102_r0 v101_13_r0
  let c_m1_i32_105_r0 : BitVec 32 := 4294967295#32
  let v104_r0 : BitVec 1 := Scalar.cmpi .eq v103_r0 c_m1_i32_105_r0
  let c1_i32_107_r0 : BitVec 32 := 1#32
  let v106_r0 : BitVec 32 := Scalar.subi v101_12_r0 c1_i32_107_r0
  let v107_r0 : BitVec 32 := Scalar.select v104_r0 v106_r0 v101_12_r0
  let c_m1_i32_108_r0 : BitVec 32 := 4294967295#32
  let v108_r0 : BitVec 1 := Scalar.cmpi .eq v107_r0 c_m1_i32_108_r0
  let c15_i32_109_r0 : BitVec 32 := 15#32
  let v109_r0 : BitVec 32 := Scalar.select v108_r0 c15_i32_109_r0 v107_r0
  let c0_i32_110_r0 : BitVec 32 := 0#32
  let v110_r0 : BitVec 32 := Scalar.addi v109_r0 c0_i32_110_r0
  let v153_r0 : BitVec 32 := Scalar.muli c512_i32_r0 v110_r0
  let c0_i32_149_r0 : BitVec 32 := 0#32
  ![v153_r0.toNat, 0]

def k0_chk8 (v101_13_r0 : BitVec 32) (v101_12_r0 : BitVec 32) : Prop :=
  (∀ a, (k0_off59 v101_13_r0 v101_12_r0) a + S512x2048.size a ≤ S8192x2048.size a)
theorem k0_off59_inb : ∀ (v101_13_r0 : BitVec 32) (v101_12_r0 : BitVec 32) (k0_hw8 : k0_chk8 v101_13_r0 v101_12_r0), ∀ a, (k0_off59 v101_13_r0 v101_12_r0) a + S512x2048.size a ≤ S8192x2048.size a := fun v101_13_r0 v101_12_r0 k0_hw8 => k0_hw8

def k0_off60 (v101_11_r0 : BitVec 32) : Fin 3 → Nat :=
  let c2_i32_148_r0 : BitVec 32 := 2#32
  let v152_r0 : BitVec 32 := Scalar.remui v101_11_r0 c2_i32_148_r0
  let c0_i32_150_r0 : BitVec 32 := 0#32
  let c0_i32_151_r0 : BitVec 32 := 0#32
  ![v152_r0.toNat, 0, 0]

def k0_chk7 (v101_11_r0 : BitVec 32) : Prop :=
  (∀ a, (k0_off58 v101_11_r0) a + S1.size a ≤ S2.size a) ∧
  (∀ a, (k0_off60 v101_11_r0) a + S1x512x2048.size a ≤ S2x512x2048.size a)
theorem k0_off58_inb : ∀ (v101_11_r0 : BitVec 32) (k0_hw7 : k0_chk7 v101_11_r0), ∀ a, (k0_off58 v101_11_r0) a + S1.size a ≤ S2.size a := fun v101_11_r0 k0_hw7 => k0_hw7.1
theorem k0_off60_inb : ∀ (v101_11_r0 : BitVec 32) (k0_hw7 : k0_chk7 v101_11_r0), ∀ a, (k0_off60 v101_11_r0) a + S1x512x2048.size a ≤ S2x512x2048.size a := fun v101_11_r0 k0_hw7 => k0_hw7.2

abbrev stage0_0 : Fin 1 → Memref sig .tc .vmem S4x1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4x2048x2048 : Shape := ⟨3, ![4, 2048, 2048]⟩
abbrev S4x2048 : Shape := ⟨2, ![4, 2048]⟩
abbrev S1x2048x11264 : Shape := ⟨3, ![1, 2048, 11264]⟩
abbrev S1x5632x2048 : Shape := ⟨3, ![1, 5632, 2048]⟩
abbrev S2048 : Shape := ⟨1, ![2048]⟩
abbrev S2048x11264 : Shape := ⟨2, ![2048, 11264]⟩
abbrev S4x2048x11264 : Shape := ⟨3, ![4, 2048, 11264]⟩
abbrev S4x2048x5632 : Shape := ⟨3, ![4, 2048, 5632]⟩
abbrev S4x1x2048 : Shape := ⟨3, ![4, 1, 2048]⟩
abbrev S_ : Shape := ⟨0, ![]⟩
abbrev S5632x2048 : Shape := ⟨2, ![5632, 2048]⟩
abbrev S4x2048x1 : Shape := ⟨3, ![4, 2048, 1]⟩
abbrev S1x1x2048 : Shape := ⟨3, ![1, 1, 2048]⟩
abbrev S8192x2048 : Shape := ⟨2, ![8192, 2048]⟩

abbrev nBuf : Space → Nat
  | .hbm => 43
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S4x2048x2048, .f32⟩
  | .hbm, ⟨2, _⟩ => ⟨S4x2048, .f32⟩
  | .hbm, ⟨3, _⟩ => ⟨S1x2048x11264, .f32⟩
  | .hbm, ⟨4, _⟩ => ⟨S1x5632x2048, .f32⟩
  | .hbm, ⟨5, _⟩ => ⟨S2048, .f32⟩
  | .hbm, ⟨6, _⟩ => ⟨S2048x11264, .f32⟩
  | .hbm, ⟨7, _⟩ => ⟨S4x2048x11264, .f32⟩
  | .hbm, ⟨8, _⟩ => ⟨S4x2048x5632, .f32⟩
  | .hbm, ⟨9, _⟩ => ⟨S4x2048x5632, .f32⟩
  | .hbm, ⟨10, _⟩ => ⟨S4x1x2048, .f32⟩
  | .hbm, ⟨11, _⟩ => ⟨S4x2048x5632, .f32⟩
  | .hbm, ⟨12, _⟩ => ⟨S4x2048x5632, .f32⟩
  | .hbm, ⟨13, _⟩ => ⟨S_, .f32⟩
  | .hbm, ⟨14, _⟩ => ⟨S4x2048x5632, .f32⟩
  | .hbm, ⟨15, _⟩ => ⟨S4x2048x5632, .f32⟩
  | .hbm, ⟨16, _⟩ => ⟨S_, .f32⟩
  | .hbm, ⟨17, _⟩ => ⟨S4x2048x5632, .f32⟩
  | .hbm, ⟨18, _⟩ => ⟨S4x2048x5632, .f32⟩
  | .hbm, ⟨19, _⟩ => ⟨S4x2048x5632, .f32⟩
  | .hbm, ⟨20, _⟩ => ⟨S4x2048x5632, .f32⟩
  | .hbm, ⟨21, _⟩ => ⟨S5632x2048, .f32⟩
  | .hbm, ⟨22, _⟩ => ⟨S4x2048x2048, .f32⟩
  | .hbm, ⟨23, _⟩ => ⟨S4x2048x2048, .f32⟩
  | .hbm, ⟨24, _⟩ => ⟨S4x2048x2048, .f32⟩
  | .hbm, ⟨25, _⟩ => ⟨S4x2048x2048, .f32⟩
  | .hbm, ⟨26, _⟩ => ⟨S4x2048x2048, .f32⟩
  | .hbm, ⟨27, _⟩ => ⟨S_, .f32⟩
  | .hbm, ⟨28, _⟩ => ⟨S4x2048, .f32⟩
  | .hbm, ⟨29, _⟩ => ⟨S4x2048x1, .f32⟩
  | .hbm, ⟨30, _⟩ => ⟨S_, .f32⟩
  | .hbm, ⟨31, _⟩ => ⟨S4x2048x1, .f32⟩
  | .hbm, ⟨32, _⟩ => ⟨S4x2048x1, .f32⟩
  | .hbm, ⟨33, _⟩ => ⟨S_, .f32⟩
  | .hbm, ⟨34, _⟩ => ⟨S4x2048x1, .f32⟩
  | .hbm, ⟨35, _⟩ => ⟨S4x2048x1, .f32⟩
  | .hbm, ⟨36, _⟩ => ⟨S4x2048x1, .f32⟩
  | .hbm, ⟨37, _⟩ => ⟨S4x2048x2048, .f32⟩
  | .hbm, ⟨38, _⟩ => ⟨S4x2048x2048, .f32⟩
  | .hbm, ⟨39, _⟩ => ⟨S1x1x2048, .f32⟩
  | .hbm, ⟨40, _⟩ => ⟨S4x2048x2048, .f32⟩
  | .hbm, ⟨41, _⟩ => ⟨S4x2048x2048, .f32⟩
  | .hbm, ⟨42, _⟩ => ⟨S8192x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst : Ref sig .tc := ⟨.hbm, 27, rfl⟩
abbrev main_v13 : Ref sig .tc := ⟨.hbm, 28, rfl⟩
abbrev main_v14 : Ref sig .tc := ⟨.hbm, 29, rfl⟩
abbrev main_cst_0 : Ref sig .tc := ⟨.hbm, 30, rfl⟩
abbrev main_v15 : Ref sig .tc := ⟨.hbm, 31, rfl⟩
abbrev main_v16 : Ref sig .tc := ⟨.hbm, 32, rfl⟩
abbrev main_cst_1 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩

abbrev nD : Nat := 1
abbrev τ : Topo := Topo.v7x

variable {F : FTy → Type} [FloatOps F]
-- ==== KernelOut.lean ====
abbrev S4x2048x1024 : Shape := ⟨3, ![4, 2048, 1024]⟩
abbrev S4x2048x2048 : Shape := ⟨3, ![4, 2048, 2048]⟩
abbrev S4x2048 : Shape := ⟨2, ![4, 2048]⟩
abbrev S1x2048x2048 : Shape := ⟨3, ![1, 2048, 2048]⟩
abbrev S1x2048 : Shape := ⟨2, ![1, 2048]⟩
abbrev S8192x1024 : Shape := ⟨2, ![8192, 1024]⟩
abbrev S8192x2048 : Shape := ⟨2, ![8192, 2048]⟩
abbrev S4x1x2048 : Shape := ⟨3, ![4, 1, 2048]⟩
abbrev S2048x2048 : Shape := ⟨2, ![2048, 2048]⟩
abbrev S2048 : Shape := ⟨1, ![2048]⟩
abbrev S512x1024 : Shape := ⟨2, ![512, 1024]⟩
abbrev S512x2048 : Shape := ⟨2, ![512, 2048]⟩
abbrev S1x1x2048 : Shape := ⟨3, ![1, 1, 2048]⟩
abbrev S256x1024 : Shape := ⟨2, ![256, 1024]⟩
abbrev S1024x2048 : Shape := ⟨2, ![1024, 2048]⟩
abbrev S256x2048 : Shape := ⟨2, ![256, 2048]⟩
abbrev S256 : Shape := ⟨1, ![256]⟩
abbrev S256x1 : Shape := ⟨2, ![256, 1]⟩

abbrev nBuf : Space → Nat
  | .hbm => 22
  | .vmem => 18
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x2048, .f32⟩
  | .hbm, ⟨3, _⟩ => ⟨S4x2048, .f32⟩
  | .hbm, ⟨4, _⟩ => ⟨S1x2048x2048, .f32⟩
  | .hbm, ⟨5, _⟩ => ⟨S1x2048, .f32⟩
  | .hbm, ⟨6, _⟩ => ⟨S4x2048, .f32⟩
  | .hbm, ⟨7, _⟩ => ⟨S4x2048, .f32⟩
  | .hbm, ⟨8, _⟩ => ⟨S8192x1024, .f32⟩
  | .hbm, ⟨9, _⟩ => ⟨S8192x1024, .bf16⟩
  | .hbm, ⟨10, _⟩ => ⟨S8192x1024, .f32⟩
  | .hbm, ⟨11, _⟩ => ⟨S8192x1024, .bf16⟩
  | .hbm, ⟨12, _⟩ => ⟨S8192x2048, .f32⟩
  | .hbm, ⟨13, _⟩ => ⟨S4x1x2048, .f32⟩
  | .hbm, ⟨14, _⟩ => ⟨S2048x2048, .f32⟩
  | .hbm, ⟨15, _⟩ => ⟨S2048x2048, .bf16⟩
  | .hbm, ⟨16, _⟩ => ⟨S2048, .f32⟩
  | .hbm, ⟨17, _⟩ => ⟨S1x2048, .f32⟩
  | .hbm, ⟨18, _⟩ => ⟨S4x1x2048, .f32⟩
  | .hbm, ⟨19, _⟩ => ⟨S4x1x2048, .f32⟩
  | .hbm, ⟨20, _⟩ => ⟨S8192x2048, .f32⟩
  | .hbm, ⟨21, _⟩ => ⟨S8192x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x2048, .f32⟩
  | .local _ .vmem, ⟨5, _⟩ => ⟨S512x2048, .f32⟩
  | .local _ .vmem, ⟨6, _⟩ => ⟨S1x1x2048, .f32⟩
  | .local _ .vmem, ⟨7, _⟩ => ⟨S1x1x2048, .f32⟩
  | .local _ .vmem, ⟨8, _⟩ => ⟨S2048x2048, .bf16⟩
  | .local _ .vmem, ⟨9, _⟩ => ⟨S1x2048, .f32⟩
  | .local _ .vmem, ⟨10, _⟩ => ⟨S1x1x2048, .f32⟩
  | .local _ .vmem, ⟨11, _⟩ => ⟨S1x1x2048, .f32⟩
  | .local _ .vmem, ⟨12, _⟩ => ⟨S1x1x2048, .f32⟩
  | .local _ .vmem, ⟨13, _⟩ => ⟨S1x1x2048, .f32⟩
  | .local _ .vmem, ⟨14, _⟩ => ⟨S512x2048, .f32⟩
  | .local _ .vmem, ⟨15, _⟩ => ⟨S512x2048, .f32⟩
  | .local _ .vmem, ⟨16, _⟩ => ⟨S512x2048, .bf16⟩
  | .local _ .vmem, ⟨17, _⟩ => ⟨S512x2048, .bf16⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12_0 : Ref sig .tc := ⟨.hbm, 20, rfl⟩
abbrev main_v12_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceOutIdeal.lean ====
abbrev S4x2048x1024 : Shape := ⟨3, ![4, 2048, 1024]⟩
abbrev S4x2048x2048 : Shape := ⟨3, ![4, 2048, 2048]⟩
abbrev S4x2048 : Shape := ⟨2, ![4, 2048]⟩
abbrev S1x2048x2048 : Shape := ⟨3, ![1, 2048, 2048]⟩
abbrev S1x2048 : Shape := ⟨2, ![1, 2048]⟩
abbrev S2048x2048 : Shape := ⟨2, ![2048, 2048]⟩
abbrev S4x1x2048 : Shape := ⟨3, ![4, 1, 2048]⟩
abbrev S2048 : Shape := ⟨1, ![2048]⟩
abbrev S_ : Shape := ⟨0, ![]⟩
abbrev S4x2048x1 : Shape := ⟨3, ![4, 2048, 1]⟩
abbrev S1x1x2048 : Shape := ⟨3, ![1, 1, 2048]⟩
abbrev S8192x2048 : Shape := ⟨2, ![8192, 2048]⟩

abbrev nBuf : Space → Nat
  | .hbm => 44
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x2048, .f32⟩
  | .hbm, ⟨3, _⟩ => ⟨S4x2048, .f32⟩
  | .hbm, ⟨4, _⟩ => ⟨S1x2048x2048, .f32⟩
  | .hbm, ⟨5, _⟩ => ⟨S1x2048, .f32⟩
  | .hbm, ⟨6, _⟩ => ⟨S4x2048, .f32⟩
  | .hbm, ⟨7, _⟩ => ⟨S4x2048, .f32⟩
  | .hbm, ⟨8, _⟩ => ⟨S4x2048x2048, .f32⟩
  | .hbm, ⟨9, _⟩ => ⟨S2048x2048, .f32⟩
  | .hbm, ⟨10, _⟩ => ⟨S4x2048x2048, .f32⟩
  | .hbm, ⟨11, _⟩ => ⟨S4x1x2048, .f32⟩
  | .hbm, ⟨12, _⟩ => ⟨S4x2048x2048, .f32⟩
  | .hbm, ⟨13, _⟩ => ⟨S4x2048x2048, .f32⟩
  | .hbm, ⟨14, _⟩ => ⟨S4x2048x2048, .f32⟩
  | .hbm, ⟨15, _⟩ => ⟨S2048, .f32⟩
  | .hbm, ⟨16, _⟩ => ⟨S4x2048x2048, .f32⟩
  | .hbm, ⟨17, _⟩ => ⟨S_, .f32⟩
  | .hbm, ⟨18, _⟩ => ⟨S4x2048, .f32⟩
  | .hbm, ⟨19, _⟩ => ⟨S4x2048x1, .f32⟩
  | .hbm, ⟨20, _⟩ => ⟨S_, .f32⟩
  | .hbm, ⟨21, _⟩ => ⟨S4x2048x1, .f32⟩
  | .hbm, ⟨22, _⟩ => ⟨S4x2048x1, .f32⟩
  | .hbm, ⟨23, _⟩ => ⟨S_, .f32⟩
  | .hbm, ⟨24, _⟩ => ⟨S4x2048x1, .f32⟩
  | .hbm, ⟨25, _⟩ => ⟨S4x2048x1, .f32⟩
  | .hbm, ⟨26, _⟩ => ⟨S4x2048x1, .f32⟩
  | .hbm, ⟨27, _⟩ => ⟨S4x2048x2048, .f32⟩
  | .hbm, ⟨28, _⟩ => ⟨S4x2048x2048, .f32⟩
  | .hbm, ⟨29, _⟩ => ⟨S1x1x2048, .f32⟩
  | .hbm, ⟨30, _⟩ => ⟨S4x2048x2048, .f32⟩
  | .hbm, ⟨31, _⟩ => ⟨S4x2048x2048, .f32⟩
  | .hbm, ⟨32, _⟩ => ⟨S4x1x2048, .f32⟩
  | .hbm, ⟨33, _⟩ => ⟨S_, .f32⟩
  | .hbm, ⟨34, _⟩ => ⟨S4x1x2048, .f32⟩
  | .hbm, ⟨35, _⟩ => ⟨S4x1x2048, .f32⟩
  | .hbm, ⟨36, _⟩ => ⟨S4x2048x2048, .f32⟩
  | .hbm, ⟨37, _⟩ => ⟨S4x2048x2048, .f32⟩
  | .hbm, ⟨38, _⟩ => ⟨S4x1x2048, .f32⟩
  | .hbm, ⟨39, _⟩ => ⟨S4x2048x2048, .f32⟩
  | .hbm, ⟨40, _⟩ => ⟨S4x2048x2048, .f32⟩
  | .hbm, ⟨41, _⟩ => ⟨S8192x2048, .f32⟩
  | .hbm, ⟨42, _⟩ => ⟨S8192x2048, .f32⟩
  | .hbm, ⟨43, _⟩ => ⟨S8192x2048, .bf16⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩

abbrev nD : Nat := 1
abbrev τ : Topo := Topo.v7x

variable {F : FTy → Type} [FloatOps F]
-- ==== KernelIn.lean ====
abbrev S4x2048x2048 : Shape := ⟨3, ![4, 2048, 2048]⟩
abbrev S1x2048x5408 : Shape := ⟨3, ![1, 2048, 5408]⟩
abbrev S2048x5408 : Shape := ⟨2, ![2048, 5408]⟩
abbrev S5408x2048 : Shape := ⟨2, ![5408, 2048]⟩
abbrev S8192x2048 : Shape := ⟨2, ![8192, 2048]⟩
abbrev S8192x5120 : Shape := ⟨2, ![8192, 5120]⟩
abbrev S1024x2048 : Shape := ⟨2, ![1024, 2048]⟩
abbrev S1024x1024 : Shape := ⟨2, ![1024, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x2048x2048, .f32⟩
  | .hbm, ⟨1, _⟩ => ⟨S1x2048x5408, .f32⟩
  | .hbm, ⟨2, _⟩ => ⟨S2048x5408, .f32⟩
  | .hbm, ⟨3, _⟩ => ⟨S5408x2048, .f32⟩
  | .hbm, ⟨4, _⟩ => ⟨S8192x2048, .f32⟩
  | .hbm, ⟨5, _⟩ => ⟨S8192x2048, .bf16⟩
  | .hbm, ⟨6, _⟩ => ⟨S8192x5120, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .f32⟩
  | .local _ .vmem, ⟨3, _⟩ => ⟨S1024x2048, .f32⟩
  | .local _ .vmem, ⟨4, _⟩ => ⟨S1024x1024, .f32⟩
  | .local _ .vmem, ⟨5, _⟩ => ⟨S1024x1024, .f32⟩
  | .local _ .vmem, ⟨6, _⟩ => ⟨S1024x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![5, 8], ![false, false]⟩

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c1_i32_2 : BitVec 32 := 1#32
  let v6 : BitVec 1 := Scalar.cmpi .ne arg0 c1_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceInIdeal.lean ====
abbrev S4x2048x2048 : Shape := ⟨3, ![4, 2048, 2048]⟩
abbrev S1x2048x5408 : Shape := ⟨3, ![1, 2048, 5408]⟩
abbrev S2048x5408 : Shape := ⟨2, ![2048, 5408]⟩
abbrev S4x2048x5408 : Shape := ⟨3, ![4, 2048, 5408]⟩
abbrev S4x2048x1024 : Shape := ⟨3, ![4, 2048, 1024]⟩
abbrev S4x2048x3360 : Shape := ⟨3, ![4, 2048, 3360]⟩
abbrev S_ : Shape := ⟨0, ![]⟩
abbrev S4x2048x3072 : Shape := ⟨3, ![4, 2048, 3072]⟩
abbrev S4x2048x5120 : Shape := ⟨3, ![4, 2048, 5120]⟩
abbrev S8192x5120 : Shape := ⟨2, ![8192, 5120]⟩

abbrev nBuf : Space → Nat
  | .hbm => 27
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S1x2048x5408, .f32⟩
  | .hbm, ⟨2, _⟩ => ⟨S2048x5408, .f32⟩
  | .hbm, ⟨3, _⟩ => ⟨S4x2048x5408, .f32⟩
  | .hbm, ⟨4, _⟩ => ⟨S4x2048x1024, .f32⟩
  | .hbm, ⟨5, _⟩ => ⟨S4x2048x1024, .f32⟩
  | .hbm, ⟨6, _⟩ => ⟨S4x2048x3360, .f32⟩
  | .hbm, ⟨7, _⟩ => ⟨S4x2048x1024, .f32⟩
  | .hbm, ⟨8, _⟩ => ⟨S4x2048x1024, .f32⟩
  | .hbm, ⟨9, _⟩ => ⟨S_, .f32⟩
  | .hbm, ⟨10, _⟩ => ⟨S4x2048x1024, .f32⟩
  | .hbm, ⟨11, _⟩ => ⟨S4x2048x1024, .f32⟩
  | .hbm, ⟨12, _⟩ => ⟨S4x2048x1024, .f32⟩
  | .hbm, ⟨13, _⟩ => ⟨S_, .f32⟩
  | .hbm, ⟨14, _⟩ => ⟨S4x2048x1024, .f32⟩
  | .hbm, ⟨15, _⟩ => ⟨S4x2048x1024, .f32⟩
  | .hbm, ⟨16, _⟩ => ⟨S4x2048x1024, .f32⟩
  | .hbm, ⟨17, _⟩ => ⟨S_, .f32⟩
  | .hbm, ⟨18, _⟩ => ⟨S4x2048x1024, .f32⟩
  | .hbm, ⟨19, _⟩ => ⟨S4x2048x1024, .f32⟩
  | .hbm, ⟨20, _⟩ => ⟨S_, .f32⟩
  | .hbm, ⟨21, _⟩ => ⟨S4x2048x1024, .f32⟩
  | .hbm, ⟨22, _⟩ => ⟨S4x2048x1024, .f32⟩
  | .hbm, ⟨23, _⟩ => ⟨S4x2048x1024, .f32⟩
  | .hbm, ⟨24, _⟩ => ⟨S4x2048x3072, .f32⟩
  | .hbm, ⟨25, _⟩ => ⟨S4x2048x5120, .f32⟩
  | .hbm, ⟨26, _⟩ => ⟨S8192x5120, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]
-- ==== KernelNorm.lean ====
abbrev S4x2048x2048 : Shape := ⟨3, ![4, 2048, 2048]⟩
abbrev S1x2048 : Shape := ⟨2, ![1, 2048]⟩
abbrev S4x2048 : Shape := ⟨2, ![4, 2048]⟩
abbrev S1x2048x5408 : Shape := ⟨3, ![1, 2048, 5408]⟩
abbrev S2048x5408 : Shape := ⟨2, ![2048, 5408]⟩
abbrev S5408x2048 : Shape := ⟨2, ![5408, 2048]⟩
abbrev S64x2048 : Shape := ⟨2, ![64, 2048]⟩
abbrev S_ : Shape := ⟨0, ![]⟩
abbrev S128x2048 : Shape := ⟨2, ![128, 2048]⟩
abbrev S160x2048 : Shape := ⟨2, ![160, 2048]⟩
abbrev S256x2048 : Shape := ⟨2, ![256, 2048]⟩
abbrev S512x2048 : Shape := ⟨2, ![512, 2048]⟩
abbrev S8192x2048 : Shape := ⟨2, ![8192, 2048]⟩
abbrev S2048 : Shape := ⟨1, ![2048]⟩
abbrev S4x1x2048 : Shape := ⟨3, ![4, 1, 2048]⟩
abbrev S8192x512 : Shape := ⟨2, ![8192, 512]⟩
abbrev S1x1x2048 : Shape := ⟨3, ![1, 1, 2048]⟩
abbrev S512x512 : Shape := ⟨2, ![512, 512]⟩
abbrev S512 : Shape := ⟨1, ![512]⟩
abbrev S512x1 : Shape := ⟨2, ![512, 1]⟩

abbrev nBuf : Space → Nat
  | .hbm => 27
  | .vmem => 13
  | .smem => 0
  | _ => 0

abbrev bufTy : (tb : Table) → Fin (tcTables nBuf tb) → BufTy
  | .hbm, ⟨0, _⟩ => ⟨S4x2048x2048, .f32⟩
  | .hbm, ⟨1, _⟩ => ⟨S1x2048, .f32⟩
  | .hbm, ⟨2, _⟩ => ⟨S4x2048, .f32⟩
  | .hbm, ⟨3, _⟩ => ⟨S4x2048, .f32⟩
  | .hbm, ⟨4, _⟩ => ⟨S1x2048x5408, .f32⟩
  | .hbm, ⟨5, _⟩ => ⟨S2048x5408, .f32⟩
  | .hbm, ⟨6, _⟩ => ⟨S5408x2048, .f32⟩
  | .hbm, ⟨7, _⟩ => ⟨S64x2048, .f32⟩
  | .hbm, ⟨8, _⟩ => ⟨S_, .i32⟩
  | .hbm, ⟨9, _⟩ => ⟨S_, .f32⟩
  | .hbm, ⟨10, _⟩ => ⟨S128x2048, .f32⟩
  | .hbm, ⟨11, _⟩ => ⟨S64x2048, .f32⟩
  | .hbm, ⟨12, _⟩ => ⟨S_, .i32⟩
  | .hbm, ⟨13, _⟩ => ⟨S_, .f32⟩
  | .hbm, ⟨14, _⟩ => ⟨S128x2048, .f32⟩
  | .hbm, ⟨15, _⟩ => ⟨S160x2048, .f32⟩
  | .hbm, ⟨16, _⟩ => ⟨S_, .i32⟩
  | .hbm, ⟨17, _⟩ => ⟨S_, .f32⟩
  | .hbm, ⟨18, _⟩ => ⟨S256x2048, .f32⟩
  | .hbm, ⟨19, _⟩ => ⟨S512x2048, .f32⟩
  | .hbm, ⟨20, _⟩ => ⟨S8192x2048, .f32⟩
  | .hbm, ⟨21, _⟩ => ⟨S2048, .f32⟩
  | .hbm, ⟨22, _⟩ => ⟨S1x2048, .f32⟩
  | .hbm, ⟨23, _⟩ => ⟨S4x1x2048, .f32⟩
  | .hbm, ⟨24, _⟩ => ⟨S4x1x2048, .f32⟩
  | .hbm, ⟨25, _⟩ => ⟨S8192x2048, .bf16⟩
  | .hbm, ⟨26, _⟩ => ⟨S8192x512, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | .local _ .vmem, ⟨10, _⟩ => ⟨S512x512, .f32⟩
  | .local _ .vmem, ⟨11, _⟩ => ⟨S512x512, .f32⟩
  | .local _ .vmem, ⟨12, _⟩ => ⟨S512x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_call1_v0 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_call2_v0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14_0 : Ref sig .tc := ⟨.hbm, 25, rfl⟩
abbrev main_v14_1 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceNormIdeal.lean ====
abbrev S4x2048x2048 : Shape := ⟨3, ![4, 2048, 2048]⟩
abbrev S1x2048 : Shape := ⟨2, ![1, 2048]⟩
abbrev S4x2048 : Shape := ⟨2, ![4, 2048]⟩
abbrev S1x2048x5408 : Shape := ⟨3, ![1, 2048, 5408]⟩
abbrev S2048 : Shape := ⟨1, ![2048]⟩
abbrev S_ : Shape := ⟨0, ![]⟩
abbrev S4x2048x1 : Shape := ⟨3, ![4, 2048, 1]⟩
abbrev S1x1x2048 : Shape := ⟨3, ![1, 1, 2048]⟩
abbrev S4x1x2048 : Shape := ⟨3, ![4, 1, 2048]⟩
abbrev S2048x5408 : Shape := ⟨2, ![2048, 5408]⟩
abbrev S4x2048x5408 : Shape := ⟨3, ![4, 2048, 5408]⟩
abbrev S4x2048x288 : Shape := ⟨3, ![4, 2048, 288]⟩
abbrev S4x2048x64 : Shape := ⟨3, ![4, 2048, 64]⟩
abbrev S4x2048x160 : Shape := ⟨3, ![4, 2048, 160]⟩
abbrev S4x2048x96 : Shape := ⟨3, ![4, 2048, 96]⟩
abbrev S4x2048x512 : Shape := ⟨3, ![4, 2048, 512]⟩
abbrev S8192x2048 : Shape := ⟨2, ![8192, 2048]⟩
abbrev S8192x512 : Shape := ⟨2, ![8192, 512]⟩

abbrev nBuf : Space → Nat
  | .hbm => 47
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S1x2048, .f32⟩
  | .hbm, ⟨2, _⟩ => ⟨S4x2048, .f32⟩
  | .hbm, ⟨3, _⟩ => ⟨S4x2048, .f32⟩
  | .hbm, ⟨4, _⟩ => ⟨S1x2048x5408, .f32⟩
  | .hbm, ⟨5, _⟩ => ⟨S2048, .f32⟩
  | .hbm, ⟨6, _⟩ => ⟨S4x2048x2048, .f32⟩
  | .hbm, ⟨7, _⟩ => ⟨S_, .f32⟩
  | .hbm, ⟨8, _⟩ => ⟨S4x2048, .f32⟩
  | .hbm, ⟨9, _⟩ => ⟨S4x2048x1, .f32⟩
  | .hbm, ⟨10, _⟩ => ⟨S_, .f32⟩
  | .hbm, ⟨11, _⟩ => ⟨S4x2048x1, .f32⟩
  | .hbm, ⟨12, _⟩ => ⟨S4x2048x1, .f32⟩
  | .hbm, ⟨13, _⟩ => ⟨S_, .f32⟩
  | .hbm, ⟨14, _⟩ => ⟨S4x2048x1, .f32⟩
  | .hbm, ⟨15, _⟩ => ⟨S4x2048x1, .f32⟩
  | .hbm, ⟨16, _⟩ => ⟨S4x2048x1, .f32⟩
  | .hbm, ⟨17, _⟩ => ⟨S4x2048x2048, .f32⟩
  | .hbm, ⟨18, _⟩ => ⟨S4x2048x2048, .f32⟩
  | .hbm, ⟨19, _⟩ => ⟨S1x1x2048, .f32⟩
  | .hbm, ⟨20, _⟩ => ⟨S4x2048x2048, .f32⟩
  | .hbm, ⟨21, _⟩ => ⟨S4x2048x2048, .f32⟩
  | .hbm, ⟨22, _⟩ => ⟨S4x1x2048, .f32⟩
  | .hbm, ⟨23, _⟩ => ⟨S_, .f32⟩
  | .hbm, ⟨24, _⟩ => ⟨S4x1x2048, .f32⟩
  | .hbm, ⟨25, _⟩ => ⟨S4x1x2048, .f32⟩
  | .hbm, ⟨26, _⟩ => ⟨S4x2048x2048, .f32⟩
  | .hbm, ⟨27, _⟩ => ⟨S4x2048x2048, .f32⟩
  | .hbm, ⟨28, _⟩ => ⟨S4x1x2048, .f32⟩
  | .hbm, ⟨29, _⟩ => ⟨S4x2048x2048, .f32⟩
  | .hbm, ⟨30, _⟩ => ⟨S4x2048x2048, .f32⟩
  | .hbm, ⟨31, _⟩ => ⟨S2048x5408, .f32⟩
  | .hbm, ⟨32, _⟩ => ⟨S4x2048x5408, .f32⟩
  | .hbm, ⟨33, _⟩ => ⟨S4x2048x288, .f32⟩
  | .hbm, ⟨34, _⟩ => ⟨S4x2048x64, .f32⟩
  | .hbm, ⟨35, _⟩ => ⟨S4x2048x64, .f32⟩
  | .hbm, ⟨36, _⟩ => ⟨S4x2048x160, .f32⟩
  | .hbm, ⟨37, _⟩ => ⟨S_, .f32⟩
  | .hbm, ⟨38, _⟩ => ⟨S4x2048x64, .f32⟩
  | .hbm, ⟨39, _⟩ => ⟨S_, .f32⟩
  | .hbm, ⟨40, _⟩ => ⟨S4x2048x64, .f32⟩
  | .hbm, ⟨41, _⟩ => ⟨S_, .f32⟩
  | .hbm, ⟨42, _⟩ => ⟨S4x2048x96, .f32⟩
  | .hbm, ⟨43, _⟩ => ⟨S4x2048x512, .f32⟩
  | .hbm, ⟨44, _⟩ => ⟨S8192x2048, .f32⟩
  | .hbm, ⟨45, _⟩ => ⟨S8192x2048, .bf16⟩
  | .hbm, ⟨46, _⟩ => ⟨S8192x512, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Proof.Words.lean ====
/-
  The loop's words in closed form. The kernel walks 176 steps `k = 11 i + f` (row block `i` of 16, feed-forward tile
  `f` of 11) and carries fourteen counters: how many blocks each buffer ring has fetched and waited for, how many
  results were sent and waited for, and the step's own coordinates. Before step `k` each of them is the function of `k`
  stated here; every condition, offset and range check of the step is then a statement over 176 cases, decided.
-/
module

public import proofs.«01_k».proof.Proof.Gen.KernelIdeal.Loops
public import Idealize.ShloMosaic.Lib.Ring

@[expose] public section

set_option maxRecDepth 65536

noncomputable section

namespace Cert.Proof.Ffn

open Cert.KernelIdeal Cert.KernelIdeal.Gen
open Idealize.ShloMosaic

/-- The number of steps. -/
abbrev NT : ℕ := 176

/-- Blocks of `x` (and of `h`) fetched before step `k`: the current row block and the ones before it. -/
def wNx (k : ℕ) : BitVec 32 := BitVec.ofNat 32 (min (k / 11 + 1) 16)
/-- Blocks of `x` (and of `h`) used up, and result blocks sent: the row block's number. -/
def wIb (k : ℕ) : BitVec 32 := BitVec.ofNat 32 (k / 11)
/-- Weight tiles fetched: two ahead of the step. -/
def wNw (k : ℕ) : BitVec 32 := BitVec.ofNat 32 (min (k + 2) 176)
/-- Weight tiles used up: the step's number. -/
def wTr (k : ℕ) : BitVec 32 := BitVec.ofNat 32 k
/-- Result blocks whose copy has been waited for. -/
def wOd (k : ℕ) : BitVec 32 := BitVec.ofNat 32 ((k - 1) / 11)
/-- The step's row block, wrapping to 0 after the last. -/
def wBi (k : ℕ) : BitVec 32 := BitVec.ofNat 32 (k / 11 % 16)
/-- The step's feed-forward tile. -/
def wBf (k : ℕ) : BitVec 32 := BitVec.ofNat 32 (k % 11)

/-- The fourteen carried words before step `k`. -/
abbrev carried (k : ℕ) : BitVec 32 × BitVec 32 × BitVec 32 × BitVec 32 × BitVec 32 × BitVec 32 × BitVec 32 × BitVec 32 × BitVec 32
    × BitVec 32 × BitVec 32 × BitVec 32 × BitVec 32 × BitVec 32 :=
  (wNx k, wIb k, wNx k, wIb k, wNw k, wTr k, wNw k, wTr k, wNw k, wTr k, wIb k, wOd k, wBi k, wBf k)

abbrev Step : Type := Fin k0_t1_loop.trips
theorem trips_eq : k0_t1_loop.trips = 176 := by decide +kernel
theorem step_lt (k : Step) : k.val < 176 := Nat.lt_of_lt_of_eq k.isLt trips_eq

/-! ## The range checks -/

theorem chk5 : ∀ k : Step, k0_chk5 (wTr k.val) := by decide +kernel
theorem chk4 : ∀ k : Step, k0_chk4 (wTr k.val) := by decide +kernel
theorem chk3 : ∀ k : Step, k0_chk3 (wTr k.val) := by decide +kernel
theorem chk2 : ∀ k : Step, k0_chk2 (wIb k.val) := by decide +kernel
theorem chk1 : ∀ k : Step, k0_chk1 k (wNx k.val) (wIb k.val) (wNx k.val) (wIb k.val) (wNw k.val) (wTr k.val) (wNw k.val) (wTr k.val)
    (wNw k.val) (wTr k.val) (wIb k.val) (wOd k.val) (wBi k.val) (wBf k.val) := by decide +kernel
theorem chk6 : ∀ k : Step, k0_chk6 (wIb k.val) (wIb k.val) (wTr k.val) := by decide +kernel
theorem chk8 : k0_chk8 (wBf 176) (wBi 176) := by decide +kernel
theorem chk7 : k0_chk7 (wOd 176) := by decide +kernel

/-! ## The conditions -/

/-- The next row block's `x` and `h` are fetched at a row block's last tile, except at the last row block. -/
theorem cond4 : ∀ k : Step, k0_cond4 k (wBi k.val) (wBf k.val) = 1#1 ↔ (k.val % 11 = 10 ∧ k.val < 175) := by decide +kernel
theorem cond5 : ∀ k : Step, k0_cond5 k (wBi k.val) (wBf k.val) = 1#1 ↔ (k.val % 11 = 10 ∧ k.val < 175) := by decide +kernel
/-- The weight tiles two steps ahead are fetched while there are any. -/
theorem cond6 : ∀ k : Step, k0_cond6 k (wBf k.val) = 1#1 ↔ k.val < 174 := by decide +kernel
theorem cond7 : ∀ k : Step, k0_cond7 k (wBf k.val) = 1#1 ↔ k.val < 174 := by decide +kernel
theorem cond8 : ∀ k : Step, k0_cond8 k (wBf k.val) = 1#1 ↔ k.val < 174 := by decide +kernel
/-- `x` and `h` are waited for at a row block's first tile, -/
theorem cond9 : ∀ k : Step, k0_cond9 k (wBi k.val) (wBf k.val) = 1#1 ↔ k.val % 11 = 0 := by decide +kernel
theorem cond10 : ∀ k : Step, k0_cond10 k (wBi k.val) (wBf k.val) = 1#1 ↔ k.val % 11 = 0 := by decide +kernel
/-- the weights at every step. -/
theorem cond11 : ∀ k : Step, k0_cond11 k (wBf k.val) = 1#1 := by decide +kernel
theorem cond12 : ∀ k : Step, k0_cond12 k (wBf k.val) = 1#1 := by decide +kernel
theorem cond13 : ∀ k : Step, k0_cond13 k (wBf k.val) = 1#1 := by decide +kernel
/-- The result block is computed at a row block's last tile -/
theorem cond16 : ∀ k : Step, k0_cond16 (wTr k.val) = 1#1 ↔ k.val % 11 = 10 := by decide +kernel
/-- and sent there; -/
theorem cond22 : ∀ k : Step, k0_cond22 k (wBi k.val) (wBf k.val) = 1#1 ↔ k.val % 11 = 10 := by decide +kernel
/-- it is waited for at the next row block's first tile. -/
theorem cond28 : ∀ k : Step, k0_cond28 k (wBi k.val) (wBf k.val) = 1#1 ↔ (k.val % 11 = 0 ∧ 0 < k.val) := by decide +kernel

/-! ## The offsets -/

/-- Slot `s` of a ring: its cell, its window, and the rows or columns of block `b` in an array. -/
abbrev semOff {n : ℕ} (s : Fin n) : Fin 1 → Nat := ![s.val]
abbrev slotOff {n : ℕ} (s : Fin n) : Fin 3 → Nat := ![s.val, 0, 0]
abbrev rowOff {n : ℕ} (b : Fin n) : Fin 2 → Nat := ![512 * b.val, 0]
abbrev colOff {n : ℕ} (b : Fin n) : Fin 2 → Nat := ![0, 512 * b.val]

/-- Row block `i` of sixteen; tile `f` of the eleven; the same tile among the twenty-two column blocks of the gate and up weights. -/
abbrev rb (i : ℕ) : Fin 16 := Ring.bk 16 i
abbrev tl (f : ℕ) : Fin 11 := Ring.bk 11 f
abbrev gt (f : ℕ) : Fin 22 := ⟨f % 11, by omega⟩
abbrev ut (f : ℕ) : Fin 22 := ⟨11 + f % 11, by omega⟩

theorem off15 : ∀ k : Step, k.val < 165 → k0_off15 (wNx k.val) = semOff (Ring.sl 2 (k.val / 11 + 1)) := by decide +kernel
theorem off16 : ∀ k : Step, k.val < 165 → k0_off16 (wNx k.val) = slotOff (Ring.sl 2 (k.val / 11 + 1)) := by decide +kernel
theorem off17 : ∀ k : Step, (k.val % 11 = 10 ∧ k.val < 175) → k0_off17 (wBi k.val) (wBf k.val) = rowOff (rb (k.val / 11 + 1)) := by decide +kernel
theorem off20 : ∀ k : Step, (k.val % 11 = 10 ∧ k.val < 175) → k0_off20 (wBi k.val) (wBf k.val) = rowOff (rb (k.val / 11 + 1)) := by decide +kernel
theorem off21 : ∀ k : Step, k.val < 174 → k0_off21 (wNw k.val) = semOff (Ring.sl 3 (k.val + 2)) := by decide +kernel
theorem off22 : ∀ k : Step, k.val < 174 → k0_off22 (wNw k.val) = slotOff (Ring.sl 3 (k.val + 2)) := by decide +kernel
theorem off23 : ∀ k : Step, k0_off23 (wBf k.val) = colOff (gt (k.val + 2)) := by decide +kernel
theorem off26 : ∀ k : Step, k0_off26 (wBf k.val) = colOff (ut (k.val + 2)) := by decide +kernel
theorem off29 : ∀ k : Step, k0_off29 (wBf k.val) = rowOff (tl (k.val + 2)) := by decide +kernel
theorem off30 : ∀ k : Step, k0_off30 (wIb k.val) = semOff (Ring.sl 2 (k.val / 11)) := by decide +kernel
theorem off31 : ∀ k : Step, k0_off31 (wIb k.val) = slotOff (Ring.sl 2 (k.val / 11)) := by decide +kernel
theorem off32 : ∀ k : Step, k0_off32 (wBi k.val) = rowOff (rb (k.val / 11)) := by decide +kernel
theorem off36 : ∀ k : Step, k0_off36 (wTr k.val) = semOff (Ring.sl 3 k.val) := by decide +kernel
theorem off37 : ∀ k : Step, k0_off37 (wTr k.val) = slotOff (Ring.sl 3 k.val) := by decide +kernel
theorem off38 : ∀ k : Step, k0_off38 (wBf k.val) = colOff (gt k.val) := by decide +kernel
theorem off41 : ∀ k : Step, k0_off41 (wBf k.val) = colOff (ut k.val) := by decide +kernel
theorem off44 : ∀ k : Step, k0_off44 (wBf k.val) = rowOff (tl k.val) := by decide +kernel
theorem off45 : ∀ k : Step, k0_off45 (wIb k.val) = slotOff (Ring.sl 2 (k.val / 11)) := by decide +kernel
theorem off46 : ∀ k : Step, k0_off46 (wTr k.val) = slotOff (Ring.sl 3 k.val) := by decide +kernel
theorem off50 : ∀ k : Step, k0_off50 (wTr k.val) = ![k.val / 44, 0, 0] := by decide +kernel
theorem off52 : ∀ k : Step, k0_off52 (wIb k.val) = semOff (Ring.sl 2 (k.val / 11)) := by decide +kernel
theorem off53 : ∀ k : Step, k0_off53 (wBi k.val) = rowOff (rb (k.val / 11)) := by decide +kernel
theorem off55 : ∀ k : Step, k0_off55 (wOd k.val) = semOff (Ring.sl 2 ((k.val - 1) / 11)) := by decide +kernel
theorem off56 : ∀ k : Step, (k.val % 11 = 0 ∧ 0 < k.val) → k0_off56 (wBi k.val) (wBf k.val) = rowOff (rb ((k.val - 1) / 11)) := by decide +kernel
theorem off57 : ∀ k : Step, k0_off57 (wOd k.val) = slotOff (Ring.sl 2 ((k.val - 1) / 11)) := by decide +kernel

end Cert.Proof.Ffn

end
-- ==== Proof.Names.lean ====
/-
  Names for the pieces of memory the kernel moves: the slots of its six buffer rings, their semaphore cells, and the
  blocks of the arrays in main memory, each spelt as the kernel slices it; and the equations that bring the kernel's own
  spelling of step `k` (offsets computed from the carried words) to these names.
-/
module

public import proofs.«01_k».proof.Proof.Words
public import Idealize.ShloMosaic.Lib.Affine
public import Idealize.ShloMosaic.Lib.Tactic

@[expose] public section

set_option maxRecDepth 65536

noncomputable section

namespace Cert.Proof.Ffn

open Cert.KernelIdeal Cert.KernelIdeal.Gen
open Idealize.ShloMosaic Idealize.ShloMosaic.TcCoe

/-! ## The buffers -/

abbrev xA : Memref sig .tc .hbm S8192x2048 .f32 := Memref.whole main_v0
abbrev hA : Memref sig .tc .hbm S8192x2048 .bf16 := Memref.whole main_v2
abbrev wA : Memref sig .tc .hbm S2048x11264 .bf16 := Memref.whole main_v5
abbrev dA : Memref sig .tc .hbm S5632x2048 .bf16 := Memref.whole main_v7
abbrev oA : Memref sig .tc .hbm S8192x2048 .f32 := Memref.whole main_v9
abbrev accM : Memref sig .tc .vmem S512x2048 .f32 := Memref.whole cc0_scratch0
abbrev stepM : Memref sig .tc .smem S1 .i32 := Memref.whole cc0_scratch1
abbrev xR : Memref sig .tc .vmem S2x512x2048 .f32 := Memref.whole cc0_scoped0
abbrev hR : Memref sig .tc .vmem S2x512x2048 .bf16 := Memref.whole cc0_scoped2
abbrev gR : Memref sig .tc .vmem S3x2048x512 .bf16 := Memref.whole cc0_scoped4
abbrev uR : Memref sig .tc .vmem S3x2048x512 .bf16 := Memref.whole cc0_scoped6
abbrev dR : Memref sig .tc .vmem S3x512x2048 .bf16 := Memref.whole cc0_scoped8
abbrev oR : Memref sig .tc .vmem S2x512x2048 .f32 := Memref.whole cc0_scoped10

/-! ## Windows in range -/

theorem inbSem2 (s : Fin 2) : ∀ a, semOff s a + S1.size a ≤ S2.size a := by revert s; decide
theorem inbSem3 (s : Fin 3) : ∀ a, semOff s a + S1.size a ≤ S3.size a := by revert s; decide
theorem inbRow2 (s : Fin 2) : ∀ a, slotOff s a + S1x512x2048.size a ≤ S2x512x2048.size a := by revert s; decide
theorem inbRow3 (s : Fin 3) : ∀ a, slotOff s a + S1x512x2048.size a ≤ S3x512x2048.size a := by revert s; decide
theorem inbCol3 (s : Fin 3) : ∀ a, slotOff s a + S1x2048x512.size a ≤ S3x2048x512.size a := by revert s; decide
theorem inbX (b : Fin 16) : ∀ a, rowOff b a + S512x2048.size a ≤ S8192x2048.size a := by revert b; decide
theorem inbD (b : Fin 11) : ∀ a, rowOff b a + S512x2048.size a ≤ S5632x2048.size a := by revert b; decide
theorem inbW (b : Fin 22) : ∀ a, colOff b a + S2048x512.size a ≤ S2048x11264.size a := by revert b; decide

/-! ## Slots, cells and blocks -/

def xS (s : Fin 2) : Memref sig .tc .vmem S512x2048 .f32 :=
  (xR.slice (Rect.unit (s := S2x512x2048) (slotOff s) S1x512x2048.size (inbRow2 s)) (fun _ => rfl)).squeeze S512x2048 squeezes_S1x512x2048_S512x2048
def hS (s : Fin 2) : Memref sig .tc .vmem S512x2048 .bf16 :=
  (hR.slice (Rect.unit (s := S2x512x2048) (slotOff s) S1x512x2048.size (inbRow2 s)) (fun _ => rfl)).squeeze S512x2048 squeezes_S1x512x2048_S512x2048
def gS (s : Fin 3) : Memref sig .tc .vmem S2048x512 .bf16 :=
  (gR.slice (Rect.unit (s := S3x2048x512) (slotOff s) S1x2048x512.size (inbCol3 s)) (fun _ => rfl)).squeeze S2048x512 squeezes_S1x2048x512_S2048x512
def uS (s : Fin 3) : Memref sig .tc .vmem S2048x512 .bf16 :=
  (uR.slice (Rect.unit (s := S3x2048x512) (slotOff s) S1x2048x512.size (inbCol3 s)) (fun _ => rfl)).squeeze S2048x512 squeezes_S1x2048x512_S2048x512
def dS (s : Fin 3) : Memref sig .tc .vmem S512x2048 .bf16 :=
  (dR.slice (Rect.unit (s := S3x512x2048) (slotOff s) S1x512x2048.size (inbRow3 s)) (fun _ => rfl)).squeeze S512x2048 squeezes_S1x512x2048_S512x2048
def oS (s : Fin 2) : Memref sig .tc .vmem S512x2048 .f32 :=
  (oR.slice (Rect.unit (s := S2x512x2048) (slotOff s) S1x512x2048.size (inbRow2 s)) (fun _ => rfl)).squeeze S512x2048 squeezes_S1x512x2048_S512x2048

/-- A cell of a ring of two, of three. -/
def cell2 (A : DmaSems sig S2) (s : Fin 2) : DmaSems sig S_ := (A.slice (Rect.unit (s := S2) (semOff s) S1.size (inbSem2 s))).squeeze S_ squeezes_S1_S_
def cell3 (A : DmaSems sig S3) (s : Fin 3) : DmaSems sig S_ := (A.slice (Rect.unit (s := S3) (semOff s) S1.size (inbSem3 s))).squeeze S_ squeezes_S1_S_

def xB (b : Fin 16) : Memref sig .tc .hbm S512x2048 .f32 := xA.slice (Rect.unit (s := S8192x2048) (rowOff b) S512x2048.size (inbX b)) (fun _ => rfl)
def hB (b : Fin 16) : Memref sig .tc .hbm S512x2048 .bf16 := hA.slice (Rect.unit (s := S8192x2048) (rowOff b) S512x2048.size (inbX b)) (fun _ => rfl)
def wB (b : Fin 22) : Memref sig .tc .hbm S2048x512 .bf16 := wA.slice (Rect.unit (s := S2048x11264) (colOff b) S2048x512.size (inbW b)) (fun _ => rfl)
def dB (b : Fin 11) : Memref sig .tc .hbm S512x2048 .bf16 := dA.slice (Rect.unit (s := S5632x2048) (rowOff b) S512x2048.size (inbD b)) (fun _ => rfl)
def oB (b : Fin 16) : Memref sig .tc .hbm S512x2048 .f32 := oA.slice (Rect.unit (s := S8192x2048) (rowOff b) S512x2048.size (inbX b)) (fun _ => rfl)

instance {n : ℕ} (s : Fin n) : ClosedOff (slotOff s) := ⟨slotOff s, rfl⟩
instance (k : Step) : ClosedOff (k0_off45 (wIb k.val)) := ⟨slotOff (Ring.sl 2 (k.val / 11)), off45 k⟩
instance (k : Step) : ClosedOff (k0_off49 (wIb k.val)) := ⟨slotOff (Ring.sl 2 (k.val / 11)), off45 k⟩
instance (k : Step) : ClosedOff (k0_off51 (wIb k.val)) := ⟨slotOff (Ring.sl 2 (k.val / 11)), off45 k⟩
instance (k : Step) : ClosedOff (k0_off46 (wTr k.val)) := ⟨slotOff (Ring.sl 3 k.val), off46 k⟩
instance (k : Step) : ClosedOff (k0_off47 (wTr k.val)) := ⟨slotOff (Ring.sl 3 k.val), off46 k⟩
instance (k : Step) : ClosedOff (k0_off48 (wTr k.val)) := ⟨slotOff (Ring.sl 3 k.val), off46 k⟩

/-! ## The kernel's spellings are these names -/

section Congr

theorem cell2_congr (A : DmaSems sig S2) {off : Fin 1 → Nat} {s : Fin 2} (e : off = semOff s) (hh) :
    (A.slice (Rect.unit (s := S2) off S1.size hh)).squeeze S_ squeezes_S1_S_ = cell2 A s :=
  congrArg (fun B : DmaSems sig S1 => B.squeeze S_ squeezes_S1_S_) (SemArray.slice_unit_congr _ e _ _)
theorem cell3_congr (A : DmaSems sig S3) {off : Fin 1 → Nat} {s : Fin 3} (e : off = semOff s) (hh) :
    (A.slice (Rect.unit (s := S3) off S1.size hh)).squeeze S_ squeezes_S1_S_ = cell3 A s :=
  congrArg (fun B : DmaSems sig S1 => B.squeeze S_ squeezes_S1_S_) (SemArray.slice_unit_congr _ e _ _)
theorem xS_congr {off : Fin 3 → Nat} {s : Fin 2} (e : off = slotOff s) (hh hs) :
    (xR.slice (Rect.unit (s := S2x512x2048) off S1x512x2048.size hh) hs).squeeze S512x2048 squeezes_S1x512x2048_S512x2048 = xS s :=
  congrArg (fun M : Memref sig .tc .vmem S1x512x2048 .f32 => M.squeeze S512x2048 squeezes_S1x512x2048_S512x2048) (Memref.slice_unit_congr _ e _ _ _ _)
theorem hS_congr {off : Fin 3 → Nat} {s : Fin 2} (e : off = slotOff s) (hh hs) :
    (hR.slice (Rect.unit (s := S2x512x2048) off S1x512x2048.size hh) hs).squeeze S512x2048 squeezes_S1x512x2048_S512x2048 = hS s :=
  congrArg (fun M : Memref sig .tc .vmem S1x512x2048 .bf16 => M.squeeze S512x2048 squeezes_S1x512x2048_S512x2048) (Memref.slice_unit_congr _ e _ _ _ _)
theorem gS_congr {off : Fin 3 → Nat} {s : Fin 3} (e : off = slotOff s) (hh hs) :
    (gR.slice (Rect.unit (s := S3x2048x512) off S1x2048x512.size hh) hs).squeeze S2048x512 squeezes_S1x2048x512_S2048x512 = gS s :=
  congrArg (fun M : Memref sig .tc .vmem S1x2048x512 .bf16 => M.squeeze S2048x512 squeezes_S1x2048x512_S2048x512) (Memref.slice_unit_congr _ e _ _ _ _)
theorem uS_congr {off : Fin 3 → Nat} {s : Fin 3} (e : off = slotOff s) (hh hs) :
    (uR.slice (Rect.unit (s := S3x2048x512) off S1x2048x512.size hh) hs).squeeze S2048x512 squeezes_S1x2048x512_S2048x512 = uS s :=
  congrArg (fun M : Memref sig .tc .vmem S1x2048x512 .bf16 => M.squeeze S2048x512 squeezes_S1x2048x512_S2048x512) (Memref.slice_unit_congr _ e _ _ _ _)
theorem dS_congr {off : Fin 3 → Nat} {s : Fin 3} (e : off = slotOff s) (hh hs) :
    (dR.slice (Rect.unit (s := S3x512x2048) off S1x512x2048.size hh) hs).squeeze S512x2048 squeezes_S1x512x2048_S512x2048 = dS s :=
  congrArg (fun M : Memref sig .tc .vmem S1x512x2048 .bf16 => M.squeeze S512x2048 squeezes_S1x512x2048_S512x2048) (Memref.slice_unit_congr _ e _ _ _ _)
theorem oS_congr {off : Fin 3 → Nat} {s : Fin 2} (e : off = slotOff s) (hh hs) :
    (oR.slice (Rect.unit (s := S2x512x2048) off S1x512x2048.size hh) hs).squeeze S512x2048 squeezes_S1x512x2048_S512x2048 = oS s :=
  congrArg (fun M : Memref sig .tc .vmem S1x512x2048 .f32 => M.squeeze S512x2048 squeezes_S1x512x2048_S512x2048) (Memref.slice_unit_congr _ e _ _ _ _)
theorem xB_congr {off : Fin 2 → Nat} {b : Fin 16} (e : off = rowOff b) (hh hs) : xA.slice (Rect.unit (s := S8192x2048) off S512x2048.size hh) hs = xB b :=
  Memref.slice_unit_congr _ e _ _ _ (fun _ => rfl)
theorem hB_congr {off : Fin 2 → Nat} {b : Fin 16} (e : off = rowOff b) (hh hs) : hA.slice (Rect.unit (s := S8192x2048) off S512x2048.size hh) hs = hB b :=
  Memref.slice_unit_congr _ e _ _ _ (fun _ => rfl)
theorem wB_congr {off : Fin 2 → Nat} {b : Fin 22} (e : off = colOff b) (hh hs) : wA.slice (Rect.unit (s := S2048x11264) off S2048x512.size hh) hs = wB b :=
  Memref.slice_unit_congr _ e _ _ _ (fun _ => rfl)
theorem dB_congr {off : Fin 2 → Nat} {b : Fin 11} (e : off = rowOff b) (hh hs) : dA.slice (Rect.unit (s := S5632x2048) off S512x2048.size hh) hs = dB b :=
  Memref.slice_unit_congr _ e _ _ _ (fun _ => rfl)
theorem oB_congr {off : Fin 2 → Nat} {b : Fin 16} (e : off = rowOff b) (hh hs) : oA.slice (Rect.unit (s := S8192x2048) off S512x2048.size hh) hs = oB b :=
  Memref.slice_unit_congr _ e _ _ _ (fun _ => rfl)

end Congr

section Canon
variable (k : Step)

/-- The fetches: the next row block's `x` and `h`; the weight tiles two steps ahead. -/
@[sl_canon] theorem semX (h : k.val < 165) (hh) : (cc0_scoped1.slice (Rect.unit (s := S2) (k0_off15 (wNx k.val)) S1.size hh)).squeeze S_ squeezes_S1_S_ = cell2 cc0_scoped1 (Ring.sl 2 (k.val / 11 + 1)) := cell2_congr _ (off15 k h) _
@[sl_canon] theorem slotX (h : k.val < 165) (hh hs) : (xR.slice (Rect.unit (s := S2x512x2048) (k0_off16 (wNx k.val)) S1x512x2048.size hh) hs).squeeze S512x2048 squeezes_S1x512x2048_S512x2048 = xS (Ring.sl 2 (k.val / 11 + 1)) := xS_congr (off16 k h) _ _
@[sl_canon] theorem blkX (h : k.val % 11 = 10 ∧ k.val < 175) (hh hs) : xA.slice (Rect.unit (s := S8192x2048) (k0_off17 (wBi k.val) (wBf k.val)) S512x2048.size hh) hs = xB (rb (k.val / 11 + 1)) := xB_congr (off17 k h) _ _
@[sl_canon] theorem semH (h : k.val < 165) (hh) : (cc0_scoped3.slice (Rect.unit (s := S2) (k0_off18 (wNx k.val)) S1.size hh)).squeeze S_ squeezes_S1_S_ = cell2 cc0_scoped3 (Ring.sl 2 (k.val / 11 + 1)) := cell2_congr _ (off15 k h) _
@[sl_canon] theorem slotH (h : k.val < 165) (hh hs) : (hR.slice (Rect.unit (s := S2x512x2048) (k0_off19 (wNx k.val)) S1x512x2048.size hh) hs).squeeze S512x2048 squeezes_S1x512x2048_S512x2048 = hS (Ring.sl 2 (k.val / 11 + 1)) := hS_congr (off16 k h) _ _
@[sl_canon] theorem blkH (h : k.val % 11 = 10 ∧ k.val < 175) (hh hs) : hA.slice (Rect.unit (s := S8192x2048) (k0_off20 (wBi k.val) (wBf k.val)) S512x2048.size hh) hs = hB (rb (k.val / 11 + 1)) := hB_congr (off20 k h) _ _
@[sl_canon] theorem semG (h : k.val < 174) (hh) : (cc0_scoped5.slice (Rect.unit (s := S3) (k0_off21 (wNw k.val)) S1.size hh)).squeeze S_ squeezes_S1_S_ = cell3 cc0_scoped5 (Ring.sl 3 (k.val + 2)) := cell3_congr _ (off21 k h) _
@[sl_canon] theorem slotG (h : k.val < 174) (hh hs) : (gR.slice (Rect.unit (s := S3x2048x512) (k0_off22 (wNw k.val)) S1x2048x512.size hh) hs).squeeze S2048x512 squeezes_S1x2048x512_S2048x512 = gS (Ring.sl 3 (k.val + 2)) := gS_congr (off22 k h) _ _
@[sl_canon] theorem blkG (hh hs) : wA.slice (Rect.unit (s := S2048x11264) (k0_off23 (wBf k.val)) S2048x512.size hh) hs = wB (gt (k.val + 2)) := wB_congr (off23 k) _ _
@[sl_canon] theorem semU (h : k.val < 174) (hh) : (cc0_scoped7.slice (Rect.unit (s := S3) (k0_off24 (wNw k.val)) S1.size hh)).squeeze S_ squeezes_S1_S_ = cell3 cc0_scoped7 (Ring.sl 3 (k.val + 2)) := cell3_congr _ (off21 k h) _
@[sl_canon] theorem slotU (h : k.val < 174) (hh hs) : (uR.slice (Rect.unit (s := S3x2048x512) (k0_off25 (wNw k.val)) S1x2048x512.size hh) hs).squeeze S2048x512 squeezes_S1x2048x512_S2048x512 = uS (Ring.sl 3 (k.val + 2)) := uS_congr (off22 k h) _ _
@[sl_canon] theorem blkU (hh hs) : wA.slice (Rect.unit (s := S2048x11264) (k0_off26 (wBf k.val)) S2048x512.size hh) hs = wB (ut (k.val + 2)) := wB_congr (off26 k) _ _
@[sl_canon] theorem semD (h : k.val < 174) (hh) : (cc0_scoped9.slice (Rect.unit (s := S3) (k0_off27 (wNw k.val)) S1.size hh)).squeeze S_ squeezes_S1_S_ = cell3 cc0_scoped9 (Ring.sl 3 (k.val + 2)) := cell3_congr _ (off21 k h) _
@[sl_canon] theorem slotD (h : k.val < 174) (hh hs) : (dR.slice (Rect.unit (s := S3x512x2048) (k0_off28 (wNw k.val)) S1x512x2048.size hh) hs).squeeze S512x2048 squeezes_S1x512x2048_S512x2048 = dS (Ring.sl 3 (k.val + 2)) := dS_congr (off22 k h) _ _
@[sl_canon] theorem blkD (hh hs) : dA.slice (Rect.unit (s := S5632x2048) (k0_off29 (wBf k.val)) S512x2048.size hh) hs = dB (tl (k.val + 2)) := dB_congr (off29 k) _ _

/-- The waits: the row block's `x` and `h`; the step's weight tiles. -/
@[sl_canon] theorem semXw (hh) : (cc0_scoped1.slice (Rect.unit (s := S2) (k0_off30 (wIb k.val)) S1.size hh)).squeeze S_ squeezes_S1_S_ = cell2 cc0_scoped1 (Ring.sl 2 (k.val / 11)) := cell2_congr _ (off30 k) _
@[sl_canon] theorem slotXw (hh hs) : (xR.slice (Rect.unit (s := S2x512x2048) (k0_off31 (wIb k.val)) S1x512x2048.size hh) hs).squeeze S512x2048 squeezes_S1x512x2048_S512x2048 = xS (Ring.sl 2 (k.val / 11)) := xS_congr (off31 k) _ _
@[sl_canon] theorem blkXw (hh hs) : xA.slice (Rect.unit (s := S8192x2048) (k0_off32 (wBi k.val)) S512x2048.size hh) hs = xB (rb (k.val / 11)) := xB_congr (off32 k) _ _
@[sl_canon] theorem semHw (hh) : (cc0_scoped3.slice (Rect.unit (s := S2) (k0_off33 (wIb k.val)) S1.size hh)).squeeze S_ squeezes_S1_S_ = cell2 cc0_scoped3 (Ring.sl 2 (k.val / 11)) := cell2_congr _ (off30 k) _
@[sl_canon] theorem slotHw (hh hs) : (hR.slice (Rect.unit (s := S2x512x2048) (k0_off34 (wIb k.val)) S1x512x2048.size hh) hs).squeeze S512x2048 squeezes_S1x512x2048_S512x2048 = hS (Ring.sl 2 (k.val / 11)) := hS_congr (off31 k) _ _
@[sl_canon] theorem blkHw (hh hs) : hA.slice (Rect.unit (s := S8192x2048) (k0_off35 (wBi k.val)) S512x2048.size hh) hs = hB (rb (k.val / 11)) := hB_congr (off32 k) _ _
@[sl_canon] theorem semGw (hh) : (cc0_scoped5.slice (Rect.unit (s := S3) (k0_off36 (wTr k.val)) S1.size hh)).squeeze S_ squeezes_S1_S_ = cell3 cc0_scoped5 (Ring.sl 3 k.val) := cell3_congr _ (off36 k) _
@[sl_canon] theorem slotGw (hh hs) : (gR.slice (Rect.unit (s := S3x2048x512) (k0_off37 (wTr k.val)) S1x2048x512.size hh) hs).squeeze S2048x512 squeezes_S1x2048x512_S2048x512 = gS (Ring.sl 3 k.val) := gS_congr (off37 k) _ _
@[sl_canon] theorem blkGw (hh hs) : wA.slice (Rect.unit (s := S2048x11264) (k0_off38 (wBf k.val)) S2048x512.size hh) hs = wB (gt k.val) := wB_congr (off38 k) _ _
@[sl_canon] theorem semUw (hh) : (cc0_scoped7.slice (Rect.unit (s := S3) (k0_off39 (wTr k.val)) S1.size hh)).squeeze S_ squeezes_S1_S_ = cell3 cc0_scoped7 (Ring.sl 3 k.val) := cell3_congr _ (off36 k) _
@[sl_canon] theorem slotUw (hh hs) : (uR.slice (Rect.unit (s := S3x2048x512) (k0_off40 (wTr k.val)) S1x2048x512.size hh) hs).squeeze S2048x512 squeezes_S1x2048x512_S2048x512 = uS (Ring.sl 3 k.val) := uS_congr (off37 k) _ _
@[sl_canon] theorem blkUw (hh hs) : wA.slice (Rect.unit (s := S2048x11264) (k0_off41 (wBf k.val)) S2048x512.size hh) hs = wB (ut k.val) := wB_congr (off41 k) _ _
@[sl_canon] theorem semDw (hh) : (cc0_scoped9.slice (Rect.unit (s := S3) (k0_off42 (wTr k.val)) S1.size hh)).squeeze S_ squeezes_S1_S_ = cell3 cc0_scoped9 (Ring.sl 3 k.val) := cell3_congr _ (off36 k) _
@[sl_canon] theorem slotDw (hh hs) : (dR.slice (Rect.unit (s := S3x512x2048) (k0_off43 (wTr k.val)) S1x512x2048.size hh) hs).squeeze S512x2048 squeezes_S1x512x2048_S512x2048 = dS (Ring.sl 3 k.val) := dS_congr (off37 k) _ _
@[sl_canon] theorem blkDw (hh hs) : dA.slice (Rect.unit (s := S5632x2048) (k0_off44 (wBf k.val)) S512x2048.size hh) hs = dB (tl k.val) := dB_congr (off44 k) _ _

/-- The result's copies: the row block sent, the one before it waited for. -/
@[sl_canon] theorem semO (hh) : (cc0_scoped11.slice (Rect.unit (s := S2) (k0_off52 (wIb k.val)) S1.size hh)).squeeze S_ squeezes_S1_S_ = cell2 cc0_scoped11 (Ring.sl 2 (k.val / 11)) := cell2_congr _ (off52 k) _
@[sl_canon] theorem slotO (hh hs) : (oR.slice (Rect.unit (s := S2x512x2048) (k0_off54 (wIb k.val)) S1x512x2048.size hh) hs).squeeze S512x2048 squeezes_S1x512x2048_S512x2048 = oS (Ring.sl 2 (k.val / 11)) := oS_congr (off31 k) _ _
@[sl_canon] theorem blkO (hh hs) : oA.slice (Rect.unit (s := S8192x2048) (k0_off53 (wBi k.val)) S512x2048.size hh) hs = oB (rb (k.val / 11)) := oB_congr (off53 k) _ _
@[sl_canon] theorem semOw (hh) : (cc0_scoped11.slice (Rect.unit (s := S2) (k0_off55 (wOd k.val)) S1.size hh)).squeeze S_ squeezes_S1_S_ = cell2 cc0_scoped11 (Ring.sl 2 ((k.val - 1) / 11)) := cell2_congr _ (off55 k) _
@[sl_canon] theorem slotOw (hh hs) : (oR.slice (Rect.unit (s := S2x512x2048) (k0_off57 (wOd k.val)) S1x512x2048.size hh) hs).squeeze S512x2048 squeezes_S1x512x2048_S512x2048 = oS (Ring.sl 2 ((k.val - 1) / 11)) := oS_congr (off57 k) _ _
@[sl_canon] theorem blkOw (h : k.val % 11 = 0 ∧ 0 < k.val) (hh hs) : oA.slice (Rect.unit (s := S8192x2048) (k0_off56 (wBi k.val) (wBf k.val)) S512x2048.size hh) hs = oB (rb ((k.val - 1) / 11)) := oB_congr (off56 k h) _ _

end Canon

end Cert.Proof.Ffn

end
-- ==== Proof.Pieces.lean ====
/-
  The resources of one step of the kernel's pipeline, piece by piece: a semaphore cell at rest, a slot free, in flight
  or holding a block, for any of the six rings.
-/
module

public import proofs.«01_k».proof.Proof.Names

@[expose] public section

noncomputable section

namespace Cert.Proof.Ffn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The run's resources: the pipeline's own, beside the counters the kernel's copies ride on. -/
abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.none

omit [FloatOps F] in
theorem entails_of_eq' {P Q : sProp 𝕄} (e : P = Q) : P ⊢ Q := e ▸ .rfl

section Pieces
variable (c : Dev nD) {sp sp' : Space} {s s' s₀ : Shape} {e : EltTy}

/-- A semaphore cell at rest. -/
abbrev restP (x : DmaSems sig S_) : sProp 𝕄 := semVal ((c : Thread nD τ), SemLoc.dma x.sem) 0
/-- A piece of memory held on its own elements. -/
abbrev heldP (D : Memref sig .tc sp s e) (q : PosShare TreeShare) (f : Buf (Elt F) (D.view.loc (c : Thread nD τ))) : sProp 𝕄 :=
  D.view.loc (c : Thread nD τ) ↦[D.view.set]{q} f
/-- A piece held at contents whatever. -/
abbrev someP (D : Memref sig .tc sp s e) : sProp 𝕄 := iprop(∃ f, heldP (F := F) c D fullShare f)

variable (XX : Buf (Elt F) (xA.view.loc (c : Thread nD τ))) (XH : Buf (Elt F) (hA.view.loc (c : Thread nD τ)))
  (XW : Buf (Elt F) (wA.view.loc (c : Thread nD τ))) (XD : Buf (Elt F) (dA.view.loc (c : Thread nD τ)))

/-! ### A block of an array, and the rest of the array beside it, at a share -/

abbrev xBlk (b : Fin 16) (q : PosShare TreeShare) : sProp 𝕄 := (xB b).view.loc (c : Thread nD τ) ↦[(xB b).view.set]{q} XX
abbrev hBlk (b : Fin 16) (q : PosShare TreeShare) : sProp 𝕄 := (hB b).view.loc (c : Thread nD τ) ↦[(hB b).view.set]{q} XH
abbrev wBlk (b : Fin 22) (q : PosShare TreeShare) : sProp 𝕄 := (wB b).view.loc (c : Thread nD τ) ↦[(wB b).view.set]{q} XW
abbrev dBlk (b : Fin 11) (q : PosShare TreeShare) : sProp 𝕄 := (dB b).view.loc (c : Thread nD τ) ↦[(dB b).view.set]{q} XD
abbrev xRest (b : Fin 16) (q : PosShare TreeShare) : sProp 𝕄 := xA.view.loc (c : Thread nD τ) ↦[Finset.univ \ (xB b).view.set]{q} XX
abbrev hRest (b : Fin 16) (q : PosShare TreeShare) : sProp 𝕄 := hA.view.loc (c : Thread nD τ) ↦[Finset.univ \ (hB b).view.set]{q} XH
abbrev wRest (b : Fin 22) (q : PosShare TreeShare) : sProp 𝕄 := wA.view.loc (c : Thread nD τ) ↦[Finset.univ \ (wB b).view.set]{q} XW
abbrev dRest (b : Fin 11) (q : PosShare TreeShare) : sProp 𝕄 := dA.view.loc (c : Thread nD τ) ↦[Finset.univ \ (dB b).view.set]{q} XD
abbrev xAll (q : PosShare TreeShare) : sProp 𝕄 := xA.view.loc (c : Thread nD τ) ↦[Finset.univ]{q} XX
abbrev hAll (q : PosShare TreeShare) : sProp 𝕄 := hA.view.loc (c : Thread nD τ) ↦[Finset.univ]{q} XH
abbrev wAll (q : PosShare TreeShare) : sProp 𝕄 := wA.view.loc (c : Thread nD τ) ↦[Finset.univ]{q} XW
abbrev dAll (q : PosShare TreeShare) : sProp 𝕄 := dA.view.loc (c : Thread nD τ) ↦[Finset.univ]{q} XD

theorem xAll_split (b : Fin 16) (q : PosShare TreeShare) : (xAll c XX q : sProp 𝕄) ⊣⊢ iprop(xBlk c XX b q ∗ xRest c XX b q) := pointsTo_split_subset (Finset.subset_univ _)
theorem hAll_split (b : Fin 16) (q : PosShare TreeShare) : (hAll c XH q : sProp 𝕄) ⊣⊢ iprop(hBlk c XH b q ∗ hRest c XH b q) := pointsTo_split_subset (Finset.subset_univ _)
theorem wAll_split (b : Fin 22) (q : PosShare TreeShare) : (wAll c XW q : sProp 𝕄) ⊣⊢ iprop(wBlk c XW b q ∗ wRest c XW b q) := pointsTo_split_subset (Finset.subset_univ _)
theorem dAll_split (b : Fin 11) (q : PosShare TreeShare) : (dAll c XD q : sProp 𝕄) ⊣⊢ iprop(dBlk c XD b q ∗ dRest c XD b q) := pointsTo_split_subset (Finset.subset_univ _)

/-! ### A block's words -/

abbrev xV (b : Fin 16) : S512x2048.Idx → Elt F .f32 := ReadAs.same.apply ((xB b).view.read (Elt F) XX)
abbrev hV (b : Fin 16) : S512x2048.Idx → Elt F .bf16 := ReadAs.same.apply ((hB b).view.read (Elt F) XH)
abbrev wV (b : Fin 22) : S2048x512.Idx → Elt F .bf16 := ReadAs.same.apply ((wB b).view.read (Elt F) XW)
abbrev dV (b : Fin 11) : S512x2048.Idx → Elt F .bf16 := ReadAs.same.apply ((dB b).view.read (Elt F) XD)

/-- Slot `D` written whole with `v`. -/
abbrev landed (D : Memref sig .tc sp s e) (v : s.Idx → Elt F e) (f : Buf (Elt F) (D.view.loc (c : Thread nD τ))) : Buf (Elt F) (D.view.loc (c : Thread nD τ)) :=
  D.view.writes (Elt F) f [⟨Rect.whole s, v⟩]
/-- Slot `D`, about to be written whole with `v` by the copy on cell `x`, which also gives back `P`. -/
abbrev flightP (x : DmaSems sig S_) (N : ℕ) (D : Memref sig .tc sp s e) (v : s.Idx → Elt F e) (P : sProp 𝕄) : sProp 𝕄 :=
  iprop(∃ f, Transfers.Flight countersEmb (c : Thread nD τ) (SemLoc.dma x.sem) () N iprop(heldP c D fullShare (landed c D v f) ∗ P))

end Pieces

end Cert.Proof.Ffn

end
-- ==== Proof.State.lean ====
/-
  What the kernel's buffers hold between two steps of its pipeline, and the values the steps compute.

  Step `k` is tile `k % 11` of row block `k / 11`. Before it, the weight tiles of steps `k` and `k + 1` are in flight, the
  row block's `x` and `h` are in flight (first tile) or held (later tiles), the previous row block's result is on its way
  out (first tile), and the accumulator holds the sum over the tiles so far.
-/
module

public import proofs.«01_k».proof.Proof.Pieces
public import Idealize.ShloMosaic.Lib.Ring.Trips

@[expose] public section

set_option maxRecDepth 65536

noncomputable section

namespace Cert.Proof.Ffn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

/-! ## Reading whole windows -/

section Lift
variable {Val : EltTy → Type} {κ : Kind} {sp : Space} {s s' : Shape} {e : EltTy}

/-- A window's words under the leading unit axis the kernel loads them with. -/
def lift {s₁ : Shape} (h : s'.numel = s₁.numel) (v : s'.Idx → Val e) : s₁.Idx → Val e := fun y => v ((Shape.reshapeEquiv h).symm y)

/-- A slot written whole, loaded through its ring: the words written. -/
theorem readAt_landed (R : Memref sig κ sp s e) {off off' size : Fin s.rank → ℕ} (inb : ∀ a, off a + size a ≤ s.size a) (h : off' = off)
    (inb' : ∀ a, off' a + size a ≤ s.size a) (hs) (hq : (Rect.unit off size inb).shape.Squeezes s') (f : R.view.ty.Contents Val) (v : s'.Idx → Val e) :
    R.view.readAt Val (Rect.unit off' size inb').toLoadRect
      (((R.slice (Rect.unit off size inb) hs).squeeze s' hq).view.writes Val f [⟨Rect.whole s', v⟩]) = lift hq.numel_eq v := by
  subst h; funext y
  have hr := congrFun (View.read_writes_whole ((R.slice (Rect.unit off' size inb) hs).squeeze s' hq).view f v) ((Shape.reshapeEquiv hq.numel_eq).symm y)
  rw [lift, ← hr]
  show _ = R.view.read Val _ ((Rect.unit off' size inb).emb (Shape.reshapeEquiv hq.numel_eq ((Shape.reshapeEquiv hq.numel_eq).symm y)))
  rw [Equiv.apply_symm_apply]; rfl

/-- A window just stored, loaded again: the words stored. -/
theorem readAt_store (v : View sig κ sp s e) (r : Rect s) (f : v.ty.Contents Val) (w : r.shape.Idx → Val e) {L : List (View.Piece Val s e)} :
    v.readAt Val r.toLoadRect (v.writes Val f (⟨r, w⟩ :: L)) = w :=
  funext fun y => View.read_writes_cons_emb v f r w L y

/-- A window stored through the ring, read through the slot: the words stored, without the unit axis. -/
theorem read_slot_store (R : Memref sig κ sp s e) {off off' size : Fin s.rank → ℕ} (inb : ∀ a, off a + size a ≤ s.size a) (h : off' = off)
    (inb' : ∀ a, off' a + size a ≤ s.size a) (hs) (hq : (Rect.unit off size inb).shape.Squeezes s') (f : R.view.ty.Contents Val)
    (w : (Rect.unit off' size inb').shape.Idx → Val e) (v : s'.Idx → Val e) (hw : w = lift hq.numel_eq v) :
    ((R.slice (Rect.unit off size inb) hs).squeeze s' hq).view.read Val (R.view.writes Val f [⟨Rect.unit off' size inb', w⟩]) = v := by
  subst h; funext y
  refine (View.read_writes_cons_emb R.view f (Rect.unit off' size inb') w [] (Shape.reshapeEquiv hq.numel_eq y)).trans ?_
  rw [hw, lift]; exact congrArg v (Equiv.symm_apply_apply _ y)

end Lift

/-- The word that tells a row block's first tile, from the step number kept in memory. -/
def zeroW (r : BitVec 32) : BitVec 1 :=
  let m : BitVec 32 := Scalar.select (Scalar.cmpi .eq 11#32 0#32) 1#32 11#32
  let q : BitVec 32 := Scalar.remsi r m
  Scalar.cmpi .ne (Scalar.extui (Scalar.cmpi .eq
    (Scalar.select (Scalar.andi (Scalar.xori (Scalar.cmpi .slt q 0#32) (Scalar.cmpi .slt m 0#32)) (Scalar.cmpi .ne q 0#32)) (Scalar.addi q m) q) 0#32) : BitVec 32) 0#32
theorem zeroW_iff : ∀ k : Step, zeroW (wTr k.val) = 1#1 ↔ k.val % 11 = 0 := by decide +kernel
theorem wTr_succ : ∀ k : Step, Scalar.addi (wTr k.val) 1#32 = wTr (k.val + 1) := by decide +kernel

/-- The rectangle of the accumulator, of the step number, of the last norm's scale, of a row block's gate. -/
abbrev accRect : Rect S512x2048 := Rect.unit (s := S512x2048) ![0, 0] S512x2048.size inb_S512x2048_S512x2048_0_0
abbrev stepRect : Rect S1 := Rect.unit (s := S1) ![0] S1.size inb_S1_S1_0
abbrev fgRect : Rect S1x2048 := Rect.unit (s := S1x2048) ![0, 0] S1x2048.size inb_S1x2048_S1x2048_0_0
theorem inbGf (b : Fin 16) : ∀ a, (![b.val / 4, 0, 0] : Fin 3 → ℕ) a + S1x1x2048.size a ≤ S4x1x2048.size a := by revert b; decide
abbrev gfRect (b : Fin 16) : Rect S4x1x2048 := Rect.unit (s := S4x1x2048) ![b.val / 4, 0, 0] S1x1x2048.size (inbGf b)

/-- A slice written whole over whatever, beside the rest of its array: the array with the slice written. -/
theorem slice_join (c : Dev nD) {sp : Space} {s : Shape} {e : EltTy} (A : Memref sig .tc sp s e) (r : Rect s) (hr) (v : r.shape.Idx → Elt F e)
    (f g : Buf (Elt F) (A.view.loc (c : Thread nD τ))) :
    iprop((A.view.loc (c : Thread nD τ) ↦[(A.slice r hr).view.set]{fullShare} (A.slice r hr).view.writes (Elt F) f [⟨Rect.whole r.shape, v⟩])
      ∗ (A.view.loc (c : Thread nD τ) ↦[Finset.univ \ (A.slice r hr).view.set]{fullShare} g))
      ⊢ (A.view.loc (c : Thread nD τ) ↦[Finset.univ]{fullShare} (A.slice r hr).view.writes (Elt F) g [⟨Rect.whole r.shape, v⟩] : sProp 𝕄) := by
  refine (BI.sep_mono (entails_of_eq' ?_) (entails_of_eq' ?_)).trans (pointsTo_split_subset (Finset.subset_univ (A.slice r hr).view.set)).2
  · exact pointsTo_writes_whole_rebase (c : Thread nD τ) (A.slice r hr) f g v fullShare
  · refine pointsTo_congr fun i hi => ?_
    refine (View.writes_apply_of_forall_ne (A.slice r hr).view g [⟨Rect.whole r.shape, v⟩] (i := i) fun y e => ?_).symm
    exact (Finset.mem_sdiff.mp hi).2 (e ▸ Finset.mem_map_of_mem _ (Finset.mem_univ y))

section State
variable (c : Dev nD) (XX : Buf (Elt F) (xA.view.loc (c : Thread nD τ))) (XH : Buf (Elt F) (hA.view.loc (c : Thread nD τ)))
  (XW : Buf (Elt F) (wA.view.loc (c : Thread nD τ))) (XD : Buf (Elt F) (dA.view.loc (c : Thread nD τ))) (XO : Buf (Elt F) (oA.view.loc (c : Thread nD τ)))
  (gf : Memref sig .tc .vmem S4x1x2048 .f32) (fg : Memref sig .tc .vmem S1x2048 .f32)
  (GF : Buf (Elt F) (gf.view.loc (c : Thread nD τ))) (FG : Buf (Elt F) (fg.view.loc (c : Thread nD τ)))

/-! ## Values -/

/-- One tile added to the accumulator. -/
def tileV (k : ℕ) (a : S512x2048.Idx → Elt F .f32) : S512x2048.Idx → Elt F .f32 :=
  k0_pay3 (F := F) (lift squeezes_S1x512x2048_S512x2048.numel_eq (hV c XH (rb (k / 11)))) (lift squeezes_S1x2048x512_S2048x512.numel_eq (wV c XW (gt k)))
    (lift squeezes_S1x2048x512_S2048x512.numel_eq (wV c XW (ut k))) a (lift squeezes_S1x512x2048_S512x2048.numel_eq (dV c XD (tl k)))
/-- The accumulator before step `k`: the sum over the row block's tiles so far (at its first tile, the last block's). -/
def accV : ℕ → S512x2048.Idx → Elt F .f32
  | 0 => k0_pay2 (F := F)
  | k + 1 => tileV c XH XW XD k (if k % 11 = 0 then k0_pay2 (F := F) else accV k)
/-- The result's row block `b`. -/
def resV (b : ℕ) : S512x2048.Idx → Elt F .f32 :=
  k0_pay1 (F := F) (lift squeezes_S1x512x2048_S512x2048.numel_eq (xV c XX (rb b))) (gf.view.readAt (Elt F) (gfRect (rb b)).toLoadRect GF)
    (accV c XH XW XD (11 * b + 11)) (fg.view.readAt (Elt F) fgRect.toLoadRect FG)
/-- The result array with row block `b` written. -/
def oPut (b : Fin 16) (v : S512x2048.Idx → Elt F .f32) (f : Buf (Elt F) (oA.view.loc (c : Thread nD τ))) : Buf (Elt F) (oA.view.loc (c : Thread nD τ)) := landed c (oB b) v f
/-- The result array once the row blocks below `n` are written. -/
def outC : ℕ → Buf (Elt F) (oA.view.loc (c : Thread nD τ))
  | 0 => XO
  | n + 1 => oPut c (rb n) (resV c XX XH XW XD gf fg GF FG n) (outC n)

/-! ## Shares: each slot reads its array at a share of its own -/

def rq (s : Fin 2) : PosShare TreeShare := if s = 0 then fullShare.left else fullShare.right
abbrev gq (s : Fin 3) : PosShare TreeShare := Ring.shares3 fullShare.left s
abbrev uq (s : Fin 3) : PosShare TreeShare := Ring.shares3 fullShare.right s
abbrev dq (s : Fin 3) : PosShare TreeShare := Ring.shares3 fullShare s

/-! ## The weights' slots for step `t` -/

abbrev wFree (t : ℕ) : sProp 𝕄 :=
  iprop((restP c (cell3 cc0_scoped5 (Ring.sl 3 t)) ∗ someP c (gS (Ring.sl 3 t)) ∗ wAll c XW (gq (Ring.sl 3 t)))
    ∗ (restP c (cell3 cc0_scoped7 (Ring.sl 3 t)) ∗ someP c (uS (Ring.sl 3 t)) ∗ wAll c XW (uq (Ring.sl 3 t)))
    ∗ (restP c (cell3 cc0_scoped9 (Ring.sl 3 t)) ∗ someP c (dS (Ring.sl 3 t)) ∗ dAll c XD (dq (Ring.sl 3 t))))
abbrev wFly (t : ℕ) : sProp 𝕄 :=
  iprop((flightP c (cell3 cc0_scoped5 (Ring.sl 3 t)) 65536 (gS (Ring.sl 3 t)) (wV c XW (gt t)) (wBlk c XW (gt t) (gq (Ring.sl 3 t))) ∗ wRest c XW (gt t) (gq (Ring.sl 3 t)))
    ∗ (flightP c (cell3 cc0_scoped7 (Ring.sl 3 t)) 65536 (uS (Ring.sl 3 t)) (wV c XW (ut t)) (wBlk c XW (ut t) (uq (Ring.sl 3 t))) ∗ wRest c XW (ut t) (uq (Ring.sl 3 t)))
    ∗ (flightP c (cell3 cc0_scoped9 (Ring.sl 3 t)) 65536 (dS (Ring.sl 3 t)) (dV c XD (tl t)) (dBlk c XD (tl t) (dq (Ring.sl 3 t))) ∗ dRest c XD (tl t) (dq (Ring.sl 3 t))))
def wSt (t : ℕ) : sProp 𝕄 := if t < 176 then wFly c XW XD t else wFree c XW XD t

/-! ## The row blocks' slots for block `i` -/

abbrev rFree (i : ℕ) : sProp 𝕄 :=
  iprop((restP c (cell2 cc0_scoped1 (Ring.sl 2 i)) ∗ someP c (xS (Ring.sl 2 i)) ∗ xAll c XX (rq (Ring.sl 2 i)))
    ∗ (restP c (cell2 cc0_scoped3 (Ring.sl 2 i)) ∗ someP c (hS (Ring.sl 2 i)) ∗ hAll c XH (rq (Ring.sl 2 i))))
abbrev rFly (i : ℕ) : sProp 𝕄 :=
  iprop((flightP c (cell2 cc0_scoped1 (Ring.sl 2 i)) 131072 (xS (Ring.sl 2 i)) (xV c XX (rb i)) (xBlk c XX (rb i) (rq (Ring.sl 2 i))) ∗ xRest c XX (rb i) (rq (Ring.sl 2 i)))
    ∗ (flightP c (cell2 cc0_scoped3 (Ring.sl 2 i)) 65536 (hS (Ring.sl 2 i)) (hV c XH (rb i)) (hBlk c XH (rb i) (rq (Ring.sl 2 i))) ∗ hRest c XH (rb i) (rq (Ring.sl 2 i))))
abbrev rHeld (i : ℕ) : sProp 𝕄 :=
  iprop((restP c (cell2 cc0_scoped1 (Ring.sl 2 i)) ∗ (∃ f, heldP c (xS (Ring.sl 2 i)) fullShare (landed c (xS (Ring.sl 2 i)) (xV c XX (rb i)) f)) ∗ xAll c XX (rq (Ring.sl 2 i)))
    ∗ (restP c (cell2 cc0_scoped3 (Ring.sl 2 i)) ∗ (∃ f, heldP c (hS (Ring.sl 2 i)) fullShare (landed c (hS (Ring.sl 2 i)) (hV c XH (rb i)) f)) ∗ hAll c XH (rq (Ring.sl 2 i))))
def rSt (i : ℕ) : sProp 𝕄 := if i < 16 then rFly c XX XH i else rFree c XX XH i
def rows (k : ℕ) : sProp 𝕄 := if k % 11 = 0 then rSt c XX XH (k / 11) else rHeld c XX XH (k / 11)

/-! ## The result's slots and the result array -/

abbrev oBlk (b : Fin 16) (f : Buf (Elt F) (oA.view.loc (c : Thread nD τ))) : sProp 𝕄 := (oB b).view.loc (c : Thread nD τ) ↦[(oB b).view.set]{fullShare} f
abbrev oRest (b : Fin 16) (f : Buf (Elt F) (oA.view.loc (c : Thread nD τ))) : sProp 𝕄 := oA.view.loc (c : Thread nD τ) ↦[Finset.univ \ (oB b).view.set]{fullShare} f
abbrev oAll (f : Buf (Elt F) (oA.view.loc (c : Thread nD τ))) : sProp 𝕄 := oA.view.loc (c : Thread nD τ) ↦[Finset.univ]{fullShare} f
abbrev oFree (i : ℕ) : sProp 𝕄 := iprop(restP c (cell2 cc0_scoped11 (Ring.sl 2 i)) ∗ someP (F := F) c (oS (Ring.sl 2 i)))
/-- Row block `i` of the result on its way from its slot. -/
abbrev oFly (i : ℕ) : sProp 𝕄 :=
  iprop((∃ g, flightP c (cell2 cc0_scoped11 (Ring.sl 2 i)) 131072 (oB (rb i)) (resV c XX XH XW XD gf fg GF FG i) (heldP c (oS (Ring.sl 2 i)) fullShare g))
    ∗ oRest c (rb i) (outC c XX XH XW XD XO gf fg GF FG i))
def outs (k : ℕ) : sProp 𝕄 :=
  if k % 11 = 0 ∧ 0 < k then iprop(oFly c XX XH XW XD XO gf fg GF FG (k / 11 - 1) ∗ oFree c (k / 11))
  else iprop(oAll c (outC c XX XH XW XD XO gf fg GF FG (k / 11)) ∗ oFree c (k / 11) ∗ oFree c (k / 11 + 1))

theorem oAll_split (b : Fin 16) (f : Buf (Elt F) (oA.view.loc (c : Thread nD τ))) : (oAll c f : sProp 𝕄) ⊣⊢ iprop(oBlk c b f ∗ oRest c b f) :=
  pointsTo_split_subset (Finset.subset_univ _)
/-- A row block landed over whatever, beside the rest of the result array: the array with the block written. -/
theorem oAll_join (b : Fin 16) (v : S512x2048.Idx → Elt F .f32) (f : Buf (Elt F) ((oB b).view.loc (c : Thread nD τ))) (g : Buf (Elt F) (oA.view.loc (c : Thread nD τ))) :
    iprop(heldP c (oB b) fullShare (landed c (oB b) v f) ∗ oRest c b g) ⊢ (oAll c (oPut c b v g) : sProp 𝕄) := by
  have h := slice_join c oA (Rect.unit (s := S8192x2048) (rowOff b) S512x2048.size (inbX b)) (fun _ => rfl) v f g
  unfold oPut oB
  exact h

/-! ## What every step keeps: the accumulator, the step number, the two staged arrays -/

abbrev comm (k : ℕ) : sProp 𝕄 :=
  iprop((∃ f, ⌜k % 11 ≠ 0 → accM.view.readAt (Elt F) accRect.toLoadRect f = accV c XH XW XD k⌝ ∗ heldP c accM fullShare f)
    ∗ (∃ f, ⌜stepM.view.readAt (Elt F) stepRect.toLoadRect f (Shape.Idx.first (numel1_S1 ▸ Nat.one_pos)) = wTr k⌝ ∗ heldP (F := F) c stepM fullShare f)
    ∗ heldP c gf fullShare GF ∗ heldP c fg fullShare FG ∗ (∃ W, owes (c : Thread nD τ) 0 W))

/-- Everything before step `k`. -/
def St (k : ℕ) : sProp 𝕄 :=
  iprop(comm c XH XW XD gf fg GF FG k ∗ (wSt c XW XD k ∗ wSt c XW XD (k + 1) ∗ wFree c XW XD (k + 2))
    ∗ (rows c XX XH k ∗ rFree c XX XH (k / 11 + 1)) ∗ outs c XX XH XW XD XO gf fg GF FG k)

end State

end Cert.Proof.Ffn

end
-- ==== Proof.Steps.lean ====
/-
  Opening and closing the slots a step works on, and the values it loads from them.
-/
module

public import proofs.«01_k».proof.Proof.State

@[expose] public section

set_option maxRecDepth 65536

noncomputable section

namespace Cert.Proof.Ffn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

variable (c : Dev nD) (XX : Buf (Elt F) (xA.view.loc (c : Thread nD τ))) (XH : Buf (Elt F) (hA.view.loc (c : Thread nD τ)))
  (XW : Buf (Elt F) (wA.view.loc (c : Thread nD τ))) (XD : Buf (Elt F) (dA.view.loc (c : Thread nD τ))) (XO : Buf (Elt F) (oA.view.loc (c : Thread nD τ)))
  (gf : Memref sig .tc .vmem S4x1x2048 .f32) (hgf : gf.IsWhole) (fg : Memref sig .tc .vmem S1x2048 .f32) (hfg : fg.IsWhole)
  (GF : Buf (Elt F) (gf.view.loc (c : Thread nD τ))) (FG : Buf (Elt F) (fg.view.loc (c : Thread nD τ)))

/-! ## Slots opened for a copy, closed after one -/

/-- A step's weight slots, free, with the blocks to be copied taken out of their arrays; -/
abbrev wOpen (t : ℕ) : sProp 𝕄 :=
  iprop((restP c (cell3 cc0_scoped5 (Ring.sl 3 t)) ∗ someP c (gS (Ring.sl 3 t)) ∗ wBlk c XW (gt t) (gq (Ring.sl 3 t)) ∗ wRest c XW (gt t) (gq (Ring.sl 3 t)))
    ∗ (restP c (cell3 cc0_scoped7 (Ring.sl 3 t)) ∗ someP c (uS (Ring.sl 3 t)) ∗ wBlk c XW (ut t) (uq (Ring.sl 3 t)) ∗ wRest c XW (ut t) (uq (Ring.sl 3 t)))
    ∗ (restP c (cell3 cc0_scoped9 (Ring.sl 3 t)) ∗ someP c (dS (Ring.sl 3 t)) ∗ dBlk c XD (tl t) (dq (Ring.sl 3 t)) ∗ dRest c XD (tl t) (dq (Ring.sl 3 t))))
theorem wFree_open (t : ℕ) : wFree c XW XD t ⊣⊢ (wOpen c XW XD t : sProp 𝕄) :=
  sep_congr (sep_congr .rfl (sep_congr .rfl (wAll_split c XW (gt t) _)))
    (sep_congr (sep_congr .rfl (sep_congr .rfl (wAll_split c XW (ut t) _))) (sep_congr .rfl (sep_congr .rfl (dAll_split c XD (tl t) _))))
/-- a row block's two slots likewise. -/
abbrev rOpen (i : ℕ) : sProp 𝕄 :=
  iprop((restP c (cell2 cc0_scoped1 (Ring.sl 2 i)) ∗ someP c (xS (Ring.sl 2 i)) ∗ xBlk c XX (rb i) (rq (Ring.sl 2 i)) ∗ xRest c XX (rb i) (rq (Ring.sl 2 i)))
    ∗ (restP c (cell2 cc0_scoped3 (Ring.sl 2 i)) ∗ someP c (hS (Ring.sl 2 i)) ∗ hBlk c XH (rb i) (rq (Ring.sl 2 i)) ∗ hRest c XH (rb i) (rq (Ring.sl 2 i))))
theorem rFree_open (i : ℕ) : rFree c XX XH i ⊣⊢ (rOpen c XX XH i : sProp 𝕄) :=
  sep_congr (sep_congr .rfl (sep_congr .rfl (xAll_split c XX (rb i) _))) (sep_congr .rfl (sep_congr .rfl (hAll_split c XH (rb i) _)))

/-- A step's copies landed: its slots are free again. -/
theorem wBack (t : ℕ) (f₁ f₂ f₃) : ⊢ (restP c (cell3 cc0_scoped5 (Ring.sl 3 t)) -∗ heldP c (gS (Ring.sl 3 t)) fullShare f₁ -∗ wBlk c XW (gt t) (gq (Ring.sl 3 t)) -∗ wRest c XW (gt t) (gq (Ring.sl 3 t))
    -∗ restP c (cell3 cc0_scoped7 (Ring.sl 3 t)) -∗ heldP c (uS (Ring.sl 3 t)) fullShare f₂ -∗ wBlk c XW (ut t) (uq (Ring.sl 3 t)) -∗ wRest c XW (ut t) (uq (Ring.sl 3 t))
    -∗ restP c (cell3 cc0_scoped9 (Ring.sl 3 t)) -∗ heldP c (dS (Ring.sl 3 t)) fullShare f₃ -∗ dBlk c XD (tl t) (dq (Ring.sl 3 t)) -∗ dRest c XD (tl t) (dq (Ring.sl 3 t)) -∗ wFree c XW XD t : sProp 𝕄) := by
  iintro G₁ G₂ G₃ G₄ U₁ U₂ U₃ U₄ D₁ D₂ D₃ D₄
  iapply (wFree_open c XW XD t).2
  isplitl [G₁ G₂ G₃ G₄]
  · isplitl [G₁]; · iexact G₁
    isplitl [G₂]; · iexists _; iexact G₂
    isplitl [G₃]; · iexact G₃
    iexact G₄
  isplitl [U₁ U₂ U₃ U₄]
  · isplitl [U₁]; · iexact U₁
    isplitl [U₂]; · iexists _; iexact U₂
    isplitl [U₃]; · iexact U₃
    iexact U₄
  isplitl [D₁]; · iexact D₁
  isplitl [D₂]; · iexists _; iexact D₂
  isplitl [D₃]; · iexact D₃
  iexact D₄
/-- A row block's copies landed: its words are held, and its blocks are back in their arrays. -/
theorem rLanded (i : ℕ) (f₁ f₂) : ⊢ (restP c (cell2 cc0_scoped1 (Ring.sl 2 i)) -∗ heldP c (xS (Ring.sl 2 i)) fullShare (landed c (xS (Ring.sl 2 i)) (xV c XX (rb i)) f₁)
    -∗ xBlk c XX (rb i) (rq (Ring.sl 2 i)) -∗ xRest c XX (rb i) (rq (Ring.sl 2 i))
    -∗ restP c (cell2 cc0_scoped3 (Ring.sl 2 i)) -∗ heldP c (hS (Ring.sl 2 i)) fullShare (landed c (hS (Ring.sl 2 i)) (hV c XH (rb i)) f₂)
    -∗ hBlk c XH (rb i) (rq (Ring.sl 2 i)) -∗ hRest c XH (rb i) (rq (Ring.sl 2 i)) -∗ rHeld c XX XH i : sProp 𝕄) := by
  iintro G₁ G₂ G₃ G₄ U₁ U₂ U₃ U₄
  isplitl [G₁ G₂ G₃ G₄]
  · isplitl [G₁]; · iexact G₁
    isplitl [G₂]; · iexists _; iexact G₂
    iapply (xAll_split c XX (rb i) _).2
    isplitl [G₃]; · iexact G₃
    iexact G₄
  isplitl [U₁]; · iexact U₁
  isplitl [U₂]; · iexists _; iexact U₂
  iapply (hAll_split c XH (rb i) _).2
  isplitl [U₃]; · iexact U₃
  iexact U₄
theorem rKept (i : ℕ) (f₁ f₂) : ⊢ (restP c (cell2 cc0_scoped1 (Ring.sl 2 i)) -∗ heldP c (xS (Ring.sl 2 i)) fullShare (landed c (xS (Ring.sl 2 i)) (xV c XX (rb i)) f₁) -∗ xAll c XX (rq (Ring.sl 2 i))
    -∗ restP c (cell2 cc0_scoped3 (Ring.sl 2 i)) -∗ heldP c (hS (Ring.sl 2 i)) fullShare (landed c (hS (Ring.sl 2 i)) (hV c XH (rb i)) f₂) -∗ hAll c XH (rq (Ring.sl 2 i))
    -∗ rHeld c XX XH i : sProp 𝕄) := by
  iintro G₁ G₂ G₃ U₁ U₂ U₃
  isplitl [G₁ G₂ G₃]
  · isplitl [G₁]; · iexact G₁
    isplitl [G₂]; · iexists _; iexact G₂
    iexact G₃
  isplitl [U₁]; · iexact U₁
  isplitl [U₂]; · iexists _; iexact U₂
  iexact U₃
theorem rBack (i : ℕ) (f₁ f₂) : ⊢ (restP c (cell2 cc0_scoped1 (Ring.sl 2 i)) -∗ heldP c (xS (Ring.sl 2 i)) fullShare f₁ -∗ xAll c XX (rq (Ring.sl 2 i))
    -∗ restP c (cell2 cc0_scoped3 (Ring.sl 2 i)) -∗ heldP c (hS (Ring.sl 2 i)) fullShare f₂ -∗ hAll c XH (rq (Ring.sl 2 i))
    -∗ rFree c XX XH i : sProp 𝕄) := by
  iintro G₁ G₂ G₃ U₁ U₂ U₃
  isplitl [G₁ G₂ G₃]
  · isplitl [G₁]; · iexact G₁
    isplitl [G₂]; · iexists _; iexact G₂
    iexact G₃
  isplitl [U₁]; · iexact U₁
  isplitl [U₂]; · iexists _; iexact U₂
  iexact U₃
/-! ## What a step loads -/

theorem ldX (s : Fin 2) {off} (h : off = slotOff s) (v : S512x2048.Idx → Elt F .f32) (f : xR.view.ty.Contents (Elt F)) (hh) :
    xR.view.readAt (Elt F) (Rect.unit (s := S2x512x2048) off S1x512x2048.size hh).toLoadRect ((xS s).view.writes (Elt F) f [⟨Rect.whole _, v⟩])
      = lift squeezes_S1x512x2048_S512x2048.numel_eq v := readAt_landed xR (inbRow2 _) h hh _ squeezes_S1x512x2048_S512x2048 f v
theorem ldH (s : Fin 2) {off} (h : off = slotOff s) (v : S512x2048.Idx → Elt F .bf16) (f : hR.view.ty.Contents (Elt F)) (hh) :
    hR.view.readAt (Elt F) (Rect.unit (s := S2x512x2048) off S1x512x2048.size hh).toLoadRect ((hS s).view.writes (Elt F) f [⟨Rect.whole _, v⟩])
      = lift squeezes_S1x512x2048_S512x2048.numel_eq v := readAt_landed hR (inbRow2 _) h hh _ squeezes_S1x512x2048_S512x2048 f v
theorem ldG (s : Fin 3) {off} (h : off = slotOff s) (v : S2048x512.Idx → Elt F .bf16) (f : gR.view.ty.Contents (Elt F)) (hh) :
    gR.view.readAt (Elt F) (Rect.unit (s := S3x2048x512) off S1x2048x512.size hh).toLoadRect ((gS s).view.writes (Elt F) f [⟨Rect.whole _, v⟩])
      = lift squeezes_S1x2048x512_S2048x512.numel_eq v := readAt_landed gR (inbCol3 _) h hh _ squeezes_S1x2048x512_S2048x512 f v
theorem ldU (s : Fin 3) {off} (h : off = slotOff s) (v : S2048x512.Idx → Elt F .bf16) (f : uR.view.ty.Contents (Elt F)) (hh) :
    uR.view.readAt (Elt F) (Rect.unit (s := S3x2048x512) off S1x2048x512.size hh).toLoadRect ((uS s).view.writes (Elt F) f [⟨Rect.whole _, v⟩])
      = lift squeezes_S1x2048x512_S2048x512.numel_eq v := readAt_landed uR (inbCol3 _) h hh _ squeezes_S1x2048x512_S2048x512 f v
theorem ldD (s : Fin 3) {off} (h : off = slotOff s) (v : S512x2048.Idx → Elt F .bf16) (f : dR.view.ty.Contents (Elt F)) (hh) :
    dR.view.readAt (Elt F) (Rect.unit (s := S3x512x2048) off S1x512x2048.size hh).toLoadRect ((dS s).view.writes (Elt F) f [⟨Rect.whole _, v⟩])
      = lift squeezes_S1x512x2048_S512x2048.numel_eq v := readAt_landed dR (inbRow3 _) h hh _ squeezes_S1x512x2048_S512x2048 f v

/-- A step's sum is the accumulator's next value. -/
theorem tile_eq (k : ℕ) {h : S1x512x2048.Idx → Elt F .bf16} {g u : S1x2048x512.Idx → Elt F .bf16} {a : S512x2048.Idx → Elt F .f32} {d : S1x512x2048.Idx → Elt F .bf16}
    (eh : h = lift squeezes_S1x512x2048_S512x2048.numel_eq (hV c XH (rb (k / 11)))) (eg : g = lift squeezes_S1x2048x512_S2048x512.numel_eq (wV c XW (gt k)))
    (eu : u = lift squeezes_S1x2048x512_S2048x512.numel_eq (wV c XW (ut k))) (ea : a = if k % 11 = 0 then k0_pay2 (F := F) else accV c XH XW XD k)
    (ed : d = lift squeezes_S1x512x2048_S512x2048.numel_eq (dV c XD (tl k))) : k0_pay3 (F := F) h g u a d = accV c XH XW XD (k + 1) := by
  subst eh eg eu ea ed; rfl

/-- The step, at the values it carries. -/
abbrev tripG (w22 w49 w56 w70 w77 w84 : BitVec 32) (w87 w83 : BitVec 1) (k : Step) :=
  k0_t1_body (F := F) xA (Memref.isWhole_whole _) hA (Memref.isWhole_whole _) gf hgf wA (Memref.isWhole_whole _) dA (Memref.isWhole_whole _)
    fg hfg oA (Memref.isWhole_whole _) accM (Memref.isWhole_whole _) stepM (Memref.isWhole_whole _)
    xR (Memref.isWhole_whole _) cc0_scoped1 hR (Memref.isWhole_whole _) cc0_scoped3 gR (Memref.isWhole_whole _) cc0_scoped5
    uR (Memref.isWhole_whole _) cc0_scoped7 dR (Memref.isWhole_whole _) cc0_scoped9 oR (Memref.isWhole_whole _) cc0_scoped11
    w22 w49 w56 w70 w77 w84 w87 w83 k (carried k.val)

end Cert.Proof.Ffn

end
-- ==== Proof.Middle.lean ====
/-
  A step of the pipeline at a row block's middle tile.
-/
module

public import proofs.«01_k».proof.Proof.Steps

@[expose] public section

set_option maxRecDepth 65536

noncomputable section

namespace Cert.Proof.Ffn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

variable (c : Dev nD) (XX : Buf (Elt F) (xA.view.loc (c : Thread nD τ))) (XH : Buf (Elt F) (hA.view.loc (c : Thread nD τ)))
  (XW : Buf (Elt F) (wA.view.loc (c : Thread nD τ))) (XD : Buf (Elt F) (dA.view.loc (c : Thread nD τ))) (XO : Buf (Elt F) (oA.view.loc (c : Thread nD τ)))
  (gf : Memref sig .tc .vmem S4x1x2048 .f32) (hgf : gf.IsWhole) (fg : Memref sig .tc .vmem S1x2048 .f32) (hfg : fg.IsWhole)
  (GF : Buf (Elt F) (gf.view.loc (c : Thread nD τ))) (FG : Buf (Elt F) (fg.view.loc (c : Thread nD τ)))

set_option maxHeartbeats 1000000

section Steps
variable (w22 w49 w56 w70 w77 w84 : BitVec 32) (w87 w83 : BitVec 1) (k : Step)

/-- A middle tile. -/
theorem tripC (h0 : k.val % 11 ≠ 0) (h10 : k.val % 11 ≠ 10) (h174 : k.val < 174) :
    iprop(comm c XH XW XD gf fg GF FG k.val ∗ wFly c XW XD k.val ∗ wFree c XW XD (k.val + 2) ∗ rHeld c XX XH (k.val / 11))
    ⊢ wp frame (wpE (defs₀ (F := F)) 𝒱₀ (c : Thread nD τ) none) Set.univ (tripG gf hgf fg hfg w22 w49 w56 w70 w77 w84 w87 w83 k)
      (fun r => iprop(⌜r = carried (k.val + 1)⌝ ∗ comm c XH XW XD gf fg GF FG (k.val + 1) ∗ wFree c XW XD k.val ∗ wFly c XW XD (k.val + 2) ∗ rHeld c XX XH (k.val / 11))) := by
  have d5 := chk5 k; have d4 := chk4 k; have d3 := chk3 k; have d2 := chk2 k; have d1 := chk1 k
  have e4 := (not_congr (cond4 k)).mpr (by omega); have e5 := (not_congr (cond5 k)).mpr (by omega)
  have e6 := (cond6 k).mpr (by omega); have e7 := (cond7 k).mpr (by omega); have e8 := (cond8 k).mpr (by omega)
  have e9 := (not_congr (cond9 k)).mpr (by omega); have e10 := (not_congr (cond10 k)).mpr (by omega)
  have e11 := cond11 k; have e12 := cond12 k; have e13 := cond13 k
  have e22 := (not_congr (cond22 k)).mpr (by omega); have e28 := (not_congr (cond28 k)).mpr (by omega)
  iintro ⟨⟨⟨%fa, %hfa, HA⟩, ⟨%fs, %hfs, HS⟩, Hgf, Hfg, ⟨%W, HW⟩⟩, ⟨⟨⟨%fg0, HG⟩, HGr⟩, ⟨⟨%fu0, HU⟩, HUr⟩, ⟨%fd0, HD⟩, HDr⟩, Hfree, ⟨HXc, ⟨%fx, HX⟩, HXa⟩, HHc, ⟨%fh, HH⟩, HHa⟩
  ihave Hop := (wFree_open c XW XD (k.val + 2)).1 $$ Hfree
  icases Hop with ⟨⟨JGc, ⟨%jg, JG⟩, JGb, JGr⟩, ⟨JUc, ⟨%ju, JU⟩, JUb, JUr⟩, JDc, ⟨%jd, JD⟩, JDb, JDr⟩
  dsimp only [tripG, carried]
  sl_unfold [k0_t1_body]
  sl_exec
  have hr : tripC.sl.r fs = wTr k.val := hfs
  have d6 : k0_chk6 (wIb k.val) (wIb k.val) (tripC.sl.r fs) := hr ▸ chk6 k
  have e16 : ¬ k0_cond16 (tripC.sl.r fs) = 1#1 := hr ▸ (not_congr (cond16 k)).mpr (by omega)
  have hz : ¬ zeroW (tripC.sl.r fs) = 1#1 := hr ▸ (not_congr (zeroW_iff k)).mpr (by omega)
  sl_exec (disch := exact hz)
  sl_step
  isplitr; · ipureintro; clear * -; simp only [Prod.mk.injEq]; revert k; decide +kernel
  isplitl [HA HS Hgf Hfg HW]
  · isplitl [HA]
    · iexists _; isplitr; swap; · iexact HA
      ipureintro; intro _
      exact (readAt_store accM.view accRect _ _).trans (tile_eq c XH XW XD k.val (ldH _ (off45 k) _ _ _) (ldG _ (off46 k) _ _ _) (ldU _ (off46 k) _ _ _) (if_neg h0).symm (ldD _ (off46 k) _ _ _))
    isplitl [HS]
    · iexists _; isplitr; swap; · iexact HS
      ipureintro
      exact (congrFun (readAt_store stepM.view stepRect _ _) _).trans ((congrArg (Scalar.addi · 1#32) hr).trans (wTr_succ k))
    isplitl [Hgf]; · iexact Hgf
    isplitl [Hfg]; · iexact Hfg
    iexists _; iexact HW
  isplitl [HG HG_dst HG_src HGr HU HU_dst HU_src HUr HD HD_dst HD_src HDr]
  · iapply (wBack c XW XD k.val _ _ _) $$ HG HG_dst HG_src HGr HU HU_dst HU_src HUr HD HD_dst HD_src HDr
  isplitl [JGc JGr JUc JUr JDc JDr]
  · isplitl [JGc JGr]
    · isplitl [JGc]; · iexists _; iexact JGc
      iexact JGr
    isplitl [JUc JUr]
    · isplitl [JUc]; · iexists _; iexact JUc
      iexact JUr
    isplitl [JDc]; · iexists _; iexact JDc
    iexact JDr
  iapply (rKept c XX XH (k.val / 11) _ _) $$ HXc HX HXa HHc HH HHa

/-- The last middle tile: nothing more to fetch. -/
theorem tripC' (hk : k.val = 174) :
    iprop(comm c XH XW XD gf fg GF FG k.val ∗ wFly c XW XD k.val ∗ rHeld c XX XH (k.val / 11))
    ⊢ wp frame (wpE (defs₀ (F := F)) 𝒱₀ (c : Thread nD τ) none) Set.univ (tripG gf hgf fg hfg w22 w49 w56 w70 w77 w84 w87 w83 k)
      (fun r => iprop(⌜r = carried (k.val + 1)⌝ ∗ comm c XH XW XD gf fg GF FG (k.val + 1) ∗ wFree c XW XD k.val ∗ rHeld c XX XH (k.val / 11))) := by
  have h0 : k.val % 11 ≠ 0 := by omega
  have d5 := chk5 k; have d4 := chk4 k; have d3 := chk3 k; have d2 := chk2 k; have d1 := chk1 k
  have e4 := (not_congr (cond4 k)).mpr (by omega); have e5 := (not_congr (cond5 k)).mpr (by omega)
  have e6 := (not_congr (cond6 k)).mpr (by omega); have e7 := (not_congr (cond7 k)).mpr (by omega); have e8 := (not_congr (cond8 k)).mpr (by omega)
  have e9 := (not_congr (cond9 k)).mpr (by omega); have e10 := (not_congr (cond10 k)).mpr (by omega)
  have e11 := cond11 k; have e12 := cond12 k; have e13 := cond13 k
  have e22 := (not_congr (cond22 k)).mpr (by omega); have e28 := (not_congr (cond28 k)).mpr (by omega)
  iintro ⟨⟨⟨%fa, %hfa, HA⟩, ⟨%fs, %hfs, HS⟩, Hgf, Hfg, ⟨%W, HW⟩⟩, ⟨⟨⟨%fg0, HG⟩, HGr⟩, ⟨⟨%fu0, HU⟩, HUr⟩, ⟨%fd0, HD⟩, HDr⟩, ⟨HXc, ⟨%fx, HX⟩, HXa⟩, HHc, ⟨%fh, HH⟩, HHa⟩
  dsimp only [tripG, carried]
  sl_unfold [k0_t1_body]
  sl_exec
  have hr : tripC'.sl.r fs = wTr k.val := hfs
  have d6 : k0_chk6 (wIb k.val) (wIb k.val) (tripC'.sl.r fs) := hr ▸ chk6 k
  have e16 : ¬ k0_cond16 (tripC'.sl.r fs) = 1#1 := hr ▸ (not_congr (cond16 k)).mpr (by omega)
  have hz : ¬ zeroW (tripC'.sl.r fs) = 1#1 := hr ▸ (not_congr (zeroW_iff k)).mpr (by omega)
  sl_exec (disch := exact hz)
  sl_step
  isplitr; · ipureintro; clear * -; simp only [Prod.mk.injEq]; revert k; decide +kernel
  isplitl [HA HS Hgf Hfg HW]
  · isplitl [HA]
    · iexists _; isplitr; swap; · iexact HA
      ipureintro; intro _
      exact (readAt_store accM.view accRect _ _).trans (tile_eq c XH XW XD k.val (ldH _ (off45 k) _ _ _) (ldG _ (off46 k) _ _ _) (ldU _ (off46 k) _ _ _) (if_neg h0).symm (ldD _ (off46 k) _ _ _))
    isplitl [HS]
    · iexists _; isplitr; swap; · iexact HS
      ipureintro
      exact (congrFun (readAt_store stepM.view stepRect _ _) _).trans ((congrArg (Scalar.addi · 1#32) hr).trans (wTr_succ k))
    isplitl [Hgf]; · iexact Hgf
    isplitl [Hfg]; · iexact Hfg
    iexists _; iexact HW
  isplitl [HG HG_dst HG_src HGr HU HU_dst HU_src HUr HD HD_dst HD_src HDr]
  · iapply (wBack c XW XD k.val _ _ _) $$ HG HG_dst HG_src HGr HU HU_dst HU_src HUr HD HD_dst HD_src HDr
  iapply (rKept c XX XH (k.val / 11) _ _) $$ HXc HX HXa HHc HH HHa

end Steps

end Cert.Proof.Ffn

end
-- ==== Proof.First.lean ====
/-
  A step of the pipeline at a row block's first tile.
-/
module

public import proofs.«01_k».proof.Proof.Middle

@[expose] public section

set_option maxRecDepth 65536

noncomputable section

namespace Cert.Proof.Ffn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

variable (c : Dev nD) (XX : Buf (Elt F) (xA.view.loc (c : Thread nD τ))) (XH : Buf (Elt F) (hA.view.loc (c : Thread nD τ)))
  (XW : Buf (Elt F) (wA.view.loc (c : Thread nD τ))) (XD : Buf (Elt F) (dA.view.loc (c : Thread nD τ))) (XO : Buf (Elt F) (oA.view.loc (c : Thread nD τ)))
  (gf : Memref sig .tc .vmem S4x1x2048 .f32) (hgf : gf.IsWhole) (fg : Memref sig .tc .vmem S1x2048 .f32) (hfg : fg.IsWhole)
  (GF : Buf (Elt F) (gf.view.loc (c : Thread nD τ))) (FG : Buf (Elt F) (fg.view.loc (c : Thread nD τ)))

/-- The accumulator just stored, loaded: the words stored. -/
theorem accCov (w : S512x2048.Idx → Elt F .f32) : accM.view.readCov (Val := Elt F) [⟨accRect, w⟩] accRect.toLoadRect = w :=
  readAt_store accM.view accRect _ _

set_option maxHeartbeats 1000000

section Steps
variable (w22 w49 w56 w70 w77 w84 : BitVec 32) (w87 w83 : BitVec 1) (k : Step)

/-- The first tile of the first row block, whose result slots are both free. -/
theorem tripA (hk : k.val = 0) :
    iprop(comm c XH XW XD gf fg GF FG k.val ∗ wFly c XW XD k.val ∗ wFree c XW XD (k.val + 2) ∗ rFly c XX XH (k.val / 11))
    ⊢ wp frame (wpE (defs₀ (F := F)) 𝒱₀ (c : Thread nD τ) none) Set.univ (tripG gf hgf fg hfg w22 w49 w56 w70 w77 w84 w87 w83 k)
      (fun r => iprop(⌜r = carried (k.val + 1)⌝ ∗ comm c XH XW XD gf fg GF FG (k.val + 1) ∗ wFree c XW XD k.val ∗ wFly c XW XD (k.val + 2) ∗ rHeld c XX XH (k.val / 11))) := by
  have h0 : k.val % 11 = 0 := by omega
  have d5 := chk5 k; have d4 := chk4 k; have d3 := chk3 k; have d2 := chk2 k; have d1 := chk1 k
  have e4 := (not_congr (cond4 k)).mpr (by omega); have e5 := (not_congr (cond5 k)).mpr (by omega)
  have e6 := (cond6 k).mpr (by omega); have e7 := (cond7 k).mpr (by omega); have e8 := (cond8 k).mpr (by omega)
  have e9 := (cond9 k).mpr (by omega); have e10 := (cond10 k).mpr (by omega)
  have e11 := cond11 k; have e12 := cond12 k; have e13 := cond13 k
  have e22 := (not_congr (cond22 k)).mpr (by omega); have e28 := (not_congr (cond28 k)).mpr (by omega)
  iintro ⟨⟨⟨%fa, %hfa, HA⟩, ⟨%fs, %hfs, HS⟩, Hgf, Hfg, ⟨%W, HW⟩⟩, ⟨⟨⟨%fg0, HG⟩, HGr⟩, ⟨⟨%fu0, HU⟩, HUr⟩, ⟨%fd0, HD⟩, HDr⟩, Hfree, ⟨⟨%fx, HX⟩, HXr⟩, ⟨%fh, HH⟩, HHr⟩
  ihave Hop := (wFree_open c XW XD (k.val + 2)).1 $$ Hfree
  icases Hop with ⟨⟨JGc, ⟨%jg, JG⟩, JGb, JGr⟩, ⟨JUc, ⟨%ju, JU⟩, JUb, JUr⟩, JDc, ⟨%jd, JD⟩, JDb, JDr⟩
  dsimp only [tripG, carried]
  sl_unfold [k0_t1_body]
  sl_exec
  have hr : tripA.sl.r fs = wTr k.val := hfs
  have d6 : k0_chk6 (wIb k.val) (wIb k.val) (tripA.sl.r fs) := hr ▸ chk6 k
  have e16 : ¬ k0_cond16 (tripA.sl.r fs) = 1#1 := hr ▸ (not_congr (cond16 k)).mpr (by omega)
  have hz : zeroW (tripA.sl.r fs) = 1#1 := hr ▸ (zeroW_iff k).mpr (by omega)
  sl_exec (disch := exact hz)
  sl_step
  isplitr; · ipureintro; clear * -; simp only [Prod.mk.injEq]; revert k; decide +kernel
  isplitl [HA HS Hgf Hfg HW]
  · isplitl [HA]
    · iexists _; isplitr; swap; · iexact HA
      ipureintro; intro _
      exact (readAt_store accM.view accRect _ _).trans (tile_eq c XH XW XD k.val (ldH _ (off45 k) _ _ _) (ldG _ (off46 k) _ _ _) (ldU _ (off46 k) _ _ _) ((accCov _).trans (if_pos h0).symm) (ldD _ (off46 k) _ _ _))
    isplitl [HS]
    · iexists _; isplitr; swap; · iexact HS
      ipureintro
      exact (congrFun (readAt_store stepM.view stepRect _ _) _).trans ((congrArg (Scalar.addi · 1#32) hr).trans (wTr_succ k))
    isplitl [Hgf]; · iexact Hgf
    isplitl [Hfg]; · iexact Hfg
    iexists _; iexact HW
  isplitl [HG HG_dst HG_src HGr HU HU_dst HU_src HUr HD HD_dst HD_src HDr]
  · iapply (wBack c XW XD k.val _ _ _) $$ HG HG_dst HG_src HGr HU HU_dst HU_src HUr HD HD_dst HD_src HDr
  isplitl [JGc JGr JUc JUr JDc JDr]
  · isplitl [JGc JGr]
    · isplitl [JGc]; · iexists _; iexact JGc
      iexact JGr
    isplitl [JUc JUr]
    · isplitl [JUc]; · iexists _; iexact JUc
      iexact JUr
    isplitl [JDc]; · iexists _; iexact JDc
    iexact JDr
  iapply (rLanded c XX XH (k.val / 11) _ _) $$ HX HX_dst HX_src HXr HH HH_dst HH_src HHr

/-- A later row block's first tile: the block before it has left. -/
theorem tripB (hk : k.val % 11 = 0 ∧ 0 < k.val) :
    iprop(comm c XH XW XD gf fg GF FG k.val ∗ wFly c XW XD k.val ∗ wFree c XW XD (k.val + 2) ∗ rFly c XX XH (k.val / 11) ∗ oFly c XX XH XW XD XO gf fg GF FG ((k.val - 1) / 11))
    ⊢ wp frame (wpE (defs₀ (F := F)) 𝒱₀ (c : Thread nD τ) none) Set.univ (tripG gf hgf fg hfg w22 w49 w56 w70 w77 w84 w87 w83 k)
      (fun r => iprop(⌜r = carried (k.val + 1)⌝ ∗ comm c XH XW XD gf fg GF FG (k.val + 1) ∗ wFree c XW XD k.val ∗ wFly c XW XD (k.val + 2) ∗ rHeld c XX XH (k.val / 11)
        ∗ oAll c (outC c XX XH XW XD XO gf fg GF FG ((k.val - 1) / 11 + 1)) ∗ oFree c ((k.val - 1) / 11))) := by
  have h0 := hk.1
  have hlt := step_lt k
  have h174 : k.val < 174 := by omega
  have d5 := chk5 k; have d4 := chk4 k; have d3 := chk3 k; have d2 := chk2 k; have d1 := chk1 k
  have e4 := (not_congr (cond4 k)).mpr (by omega); have e5 := (not_congr (cond5 k)).mpr (by omega)
  have e6 := (cond6 k).mpr (by omega); have e7 := (cond7 k).mpr (by omega); have e8 := (cond8 k).mpr (by omega)
  have e9 := (cond9 k).mpr (by omega); have e10 := (cond10 k).mpr (by omega)
  have e11 := cond11 k; have e12 := cond12 k; have e13 := cond13 k
  have e22 := (not_congr (cond22 k)).mpr (by omega); have e28 := (cond28 k).mpr (by omega)
  iintro ⟨⟨⟨%fa, %hfa, HA⟩, ⟨%fs, %hfs, HS⟩, Hgf, Hfg, ⟨%W, HW⟩⟩, ⟨⟨⟨%fg0, HG⟩, HGr⟩, ⟨⟨%fu0, HU⟩, HUr⟩, ⟨%fd0, HD⟩, HDr⟩, Hfree, ⟨⟨⟨%fx, HX⟩, HXr⟩, ⟨%fh, HH⟩, HHr⟩, ⟨%go, %fo, HO⟩, HOr⟩
  ihave Hop := (wFree_open c XW XD (k.val + 2)).1 $$ Hfree
  icases Hop with ⟨⟨JGc, ⟨%jg, JG⟩, JGb, JGr⟩, ⟨JUc, ⟨%ju, JU⟩, JUb, JUr⟩, JDc, ⟨%jd, JD⟩, JDb, JDr⟩
  dsimp only [tripG, carried]
  sl_unfold [k0_t1_body]
  sl_exec
  have hr : tripB.sl.r fs = wTr k.val := hfs
  have d6 : k0_chk6 (wIb k.val) (wIb k.val) (tripB.sl.r fs) := hr ▸ chk6 k
  have e16 : ¬ k0_cond16 (tripB.sl.r fs) = 1#1 := hr ▸ (not_congr (cond16 k)).mpr (by omega)
  have hz : zeroW (tripB.sl.r fs) = 1#1 := hr ▸ (zeroW_iff k).mpr (by omega)
  sl_exec (disch := exact hz)
  sl_step
  isplitr; · ipureintro; clear * -; simp only [Prod.mk.injEq]; revert k; decide +kernel
  isplitl [HA HS Hgf Hfg HW]
  · isplitl [HA]
    · iexists _; isplitr; swap; · iexact HA
      ipureintro; intro _
      exact (readAt_store accM.view accRect _ _).trans (tile_eq c XH XW XD k.val (ldH _ (off45 k) _ _ _) (ldG _ (off46 k) _ _ _) (ldU _ (off46 k) _ _ _) ((accCov _).trans (if_pos h0).symm) (ldD _ (off46 k) _ _ _))
    isplitl [HS]
    · iexists _; isplitr; swap; · iexact HS
      ipureintro
      exact (congrFun (readAt_store stepM.view stepRect _ _) _).trans ((congrArg (Scalar.addi · 1#32) hr).trans (wTr_succ k))
    isplitl [Hgf]; · iexact Hgf
    isplitl [Hfg]; · iexact Hfg
    iexists _; iexact HW
  isplitl [HG HG_dst HG_src HGr HU HU_dst HU_src HUr HD HD_dst HD_src HDr]
  · iapply (wBack c XW XD k.val _ _ _) $$ HG HG_dst HG_src HGr HU HU_dst HU_src HUr HD HD_dst HD_src HDr
  isplitl [JGc JGr JUc JUr JDc JDr]
  · isplitl [JGc JGr]
    · isplitl [JGc]; · iexists _; iexact JGc
      iexact JGr
    isplitl [JUc JUr]
    · isplitl [JUc]; · iexists _; iexact JUc
      iexact JUr
    isplitl [JDc]; · iexists _; iexact JDc
    iexact JDr
  isplitl [HX HX_dst HX_src HXr HH HH_dst HH_src HHr]
  · iapply (rLanded c XX XH (k.val / 11) _ _) $$ HX HX_dst HX_src HXr HH HH_dst HH_src HHr
  isplitl [HO_dst HOr]
  · iapply (oAll_join c (rb ((k.val - 1) / 11)) (resV c XX XH XW XD gf fg GF FG ((k.val - 1) / 11)) _ (outC c XX XH XW XD XO gf fg GF FG ((k.val - 1) / 11)))
    isplitl [HO_dst]; · iexact HO_dst
    iexact HOr
  isplitl [HO]; · iexact HO
  iexists _; iexact HO_src

end Steps

end Cert.Proof.Ffn

end
-- ==== Proof.Last.lean ====
/-
  A step of the pipeline at a row block's last tile.
-/
module

public import proofs.«01_k».proof.Proof.First

@[expose] public section

set_option maxRecDepth 65536

noncomputable section

namespace Cert.Proof.Ffn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

variable (c : Dev nD) (XX : Buf (Elt F) (xA.view.loc (c : Thread nD τ))) (XH : Buf (Elt F) (hA.view.loc (c : Thread nD τ)))
  (XW : Buf (Elt F) (wA.view.loc (c : Thread nD τ))) (XD : Buf (Elt F) (dA.view.loc (c : Thread nD τ))) (XO : Buf (Elt F) (oA.view.loc (c : Thread nD τ)))
  (gf : Memref sig .tc .vmem S4x1x2048 .f32) (hgf : gf.IsWhole) (fg : Memref sig .tc .vmem S1x2048 .f32) (hfg : fg.IsWhole)
  (GF : Buf (Elt F) (gf.view.loc (c : Thread nD τ))) (FG : Buf (Elt F) (fg.view.loc (c : Thread nD τ)))

/-- A row block's gate, read at the offset the step's number gives. -/
theorem offGf : ∀ k : Step, (![k.val / 44, 0, 0] : Fin 3 → ℕ) = ![(rb (k.val / 11)).val / 4, 0, 0] := by decide +kernel
theorem ldGf (b : Fin 16) {off} (e : off = ![b.val / 4, 0, 0]) (hh) :
    gf.view.readAt (Elt F) (Rect.unit (s := S4x1x2048) off S1x1x2048.size hh).toLoadRect GF = gf.view.readAt (Elt F) (gfRect b).toLoadRect GF := by
  subst e; rfl
/-- The row block's result, from the step's loads. -/
theorem res_eq (k : ℕ) (h10 : k % 11 = 10) {x : S1x512x2048.Idx → Elt F .f32} {g : S1x1x2048.Idx → Elt F .f32} {a : S512x2048.Idx → Elt F .f32} {f : S1x2048.Idx → Elt F .f32}
    (ex : x = lift squeezes_S1x512x2048_S512x2048.numel_eq (xV c XX (rb (k / 11)))) (eg : g = gf.view.readAt (Elt F) (gfRect (rb (k / 11))).toLoadRect GF)
    (ea : a = accV c XH XW XD (k + 1)) (ef : f = fg.view.readAt (Elt F) fgRect.toLoadRect FG) : k0_pay1 (F := F) x g a f = resV c XX XH XW XD gf fg GF FG (k / 11) := by
  have e : 11 * (k / 11) + 11 = k + 1 := by omega
  subst ex eg ea ef; rw [resV, e]
theorem pay4_lift (v : S512x2048.Idx → Elt F .f32) : k0_pay4 (F := F) v = lift squeezes_S1x512x2048_S512x2048.numel_eq v := by
  funext y
  exact congrArg v (congrArg (fun e => e y) (Shape.reshapeEquiv_symm squeezes_S1x512x2048_S512x2048.numel_eq).symm)
/-- The result's slot just stored, read by its copy. -/
theorem stO (s : Fin 2) {off} (h : off = slotOff s) (hh) (f : oR.view.ty.Contents (Elt F)) (w : S1x512x2048.Idx → Elt F .f32) (v : S512x2048.Idx → Elt F .f32)
    (hw : w = lift squeezes_S1x512x2048_S512x2048.numel_eq v) :
    (oS s).view.read (Elt F) (View.write (Elt F) (oR.access (Rect.unit (s := S2x512x2048) off S1x512x2048.size hh)) f w Finset.univ) = v :=
  read_slot_store oR (inbRow2 _) h hh _ squeezes_S1x512x2048_S512x2048 f w v hw

set_option maxHeartbeats 1000000

section Steps
variable (w22 w49 w56 w70 w77 w84 : BitVec 32) (w87 w83 : BitVec 1) (k : Step)

/-- A row block's last tile: its result leaves, the next row block's rows are fetched. -/
theorem tripD (hk : k.val % 11 = 10 ∧ k.val < 175) :
    iprop(comm c XH XW XD gf fg GF FG k.val ∗ wFly c XW XD k.val ∗ wFree c XW XD (k.val + 2) ∗ rHeld c XX XH (k.val / 11) ∗ rFree c XX XH (k.val / 11 + 1)
        ∗ oAll c (outC c XX XH XW XD XO gf fg GF FG (k.val / 11)) ∗ oFree c (k.val / 11))
    ⊢ wp frame (wpE (defs₀ (F := F)) 𝒱₀ (c : Thread nD τ) none) Set.univ (tripG gf hgf fg hfg w22 w49 w56 w70 w77 w84 w87 w83 k)
      (fun r => iprop(⌜r = carried (k.val + 1)⌝ ∗ comm c XH XW XD gf fg GF FG (k.val + 1) ∗ wFree c XW XD k.val ∗ wFly c XW XD (k.val + 2) ∗ rFree c XX XH (k.val / 11) ∗ rFly c XX XH (k.val / 11 + 1)
        ∗ oFly c XX XH XW XD XO gf fg GF FG (k.val / 11))) := by
  have h0 : k.val % 11 ≠ 0 := by omega
  have h165 : k.val < 165 := by omega
  have h174 : k.val < 174 := by omega
  have d5 := chk5 k; have d4 := chk4 k; have d3 := chk3 k; have d2 := chk2 k; have d1 := chk1 k
  have e4 := (cond4 k).mpr (by omega); have e5 := (cond5 k).mpr (by omega)
  have e6 := (cond6 k).mpr (by omega); have e7 := (cond7 k).mpr (by omega); have e8 := (cond8 k).mpr (by omega)
  have e9 := (not_congr (cond9 k)).mpr (by omega); have e10 := (not_congr (cond10 k)).mpr (by omega)
  have e11 := cond11 k; have e12 := cond12 k; have e13 := cond13 k
  have e22 := (cond22 k).mpr (by omega); have e28 := (not_congr (cond28 k)).mpr (by omega)
  iintro ⟨⟨⟨%fa, %hfa, HA⟩, ⟨%fs, %hfs, HS⟩, Hgf, Hfg, ⟨%W, HW⟩⟩, ⟨⟨⟨%fg0, HG⟩, HGr⟩, ⟨⟨%fu0, HU⟩, HUr⟩, ⟨%fd0, HD⟩, HDr⟩, Hfree, ⟨⟨HXc, ⟨%fx, HX⟩, HXa⟩, HHc, ⟨%fh, HH⟩, HHa⟩, Hrf, HOa, HOc, ⟨%fo, HO⟩⟩
  ihave Hop := (wFree_open c XW XD (k.val + 2)).1 $$ Hfree
  icases Hop with ⟨⟨JGc, ⟨%jg, JG⟩, JGb, JGr⟩, ⟨JUc, ⟨%ju, JU⟩, JUb, JUr⟩, JDc, ⟨%jd, JD⟩, JDb, JDr⟩
  ihave Hrp := (rFree_open c XX XH (k.val / 11 + 1)).1 $$ Hrf
  icases Hrp with ⟨⟨JXc, ⟨%jx, JX⟩, JXb, JXr⟩, JHc, ⟨%jh, JH⟩, JHb, JHr⟩
  ihave HOs := (oAll_split c (rb (k.val / 11)) _).1 $$ HOa
  icases HOs with ⟨HOb, HOr⟩
  dsimp only [tripG, carried]
  sl_unfold [k0_t1_body]
  sl_exec
  have hr : tripD.sl.r fs = wTr k.val := hfs
  have d6 : k0_chk6 (wIb k.val) (wIb k.val) (tripD.sl.r fs) := hr ▸ chk6 k
  have e16 : k0_cond16 (tripD.sl.r fs) = 1#1 := hr ▸ (cond16 k).mpr (by omega)
  have hz : ¬ zeroW (tripD.sl.r fs) = 1#1 := hr ▸ (not_congr (zeroW_iff k)).mpr (by omega)
  sl_exec (disch := exact hz)
  sl_step
  isplitr; · ipureintro; clear * -; simp only [Prod.mk.injEq]; revert k; decide +kernel
  isplitl [HA HS Hgf Hfg HW]
  · isplitl [HA]
    · iexists _; isplitr; swap; · iexact HA
      ipureintro; intro _
      exact (readAt_store accM.view accRect _ _).trans (tile_eq c XH XW XD k.val (ldH _ (off45 k) _ _ _) (ldG _ (off46 k) _ _ _) (ldU _ (off46 k) _ _ _) (if_neg h0).symm (ldD _ (off46 k) _ _ _))
    isplitl [HS]
    · iexists _; isplitr; swap; · iexact HS
      ipureintro
      exact (congrFun (readAt_store stepM.view stepRect _ _) _).trans ((congrArg (Scalar.addi · 1#32) hr).trans (wTr_succ k))
    isplitl [Hgf]; · iexact Hgf
    isplitl [Hfg]; · iexact Hfg
    iexists _; iexact HW
  isplitl [HG HG_dst HG_src HGr HU HU_dst HU_src HUr HD HD_dst HD_src HDr]
  · iapply (wBack c XW XD k.val _ _ _) $$ HG HG_dst HG_src HGr HU HU_dst HU_src HUr HD HD_dst HD_src HDr
  isplitl [JGc JGr JUc JUr JDc JDr]
  · isplitl [JGc JGr]
    · isplitl [JGc]; · iexists _; iexact JGc
      iexact JGr
    isplitl [JUc JUr]
    · isplitl [JUc]; · iexists _; iexact JUc
      iexact JUr
    isplitl [JDc]; · iexists _; iexact JDc
    iexact JDr
  isplitl [HXc HX HXa HHc HH HHa]
  · iapply (rBack c XX XH (k.val / 11) _ _) $$ HXc HX HXa HHc HH HHa
  isplitl [JXc JXr JHc JHr]
  · isplitl [JXc JXr]
    · isplitl [JXc]; · iexists _; iexact JXc
      iexact JXr
    isplitl [JHc]; · iexists _; iexact JHc
    iexact JHr
  isplitr [HOr]; swap; · iexact HOr
  have hv : tripD.sl.dma15 c XX XH XW XD gf fg GF FG k d5 d4 d3 d2 fs fo d6 e16 = resV c XX XH XW XD gf fg GF FG (k.val / 11) := by
    have ho : k0_off51 (wIb k.val) = slotOff (Ring.sl 2 (k.val / 11)) := off45 k
    refine stO _ ho _ fo (k0_pay4 (tripD.sl.r_8 c XX XH XW XD gf fg GF FG k d5 d4 d3 d2 fs d6 e16)) _ ((pay4_lift _).trans (congrArg (lift _)
      (res_eq c XX XH XW XD gf fg GF FG k.val (by omega) (ldX _ (off45 k) _ _ _) (ldGf c gf GF _ ((congrArg k0_off50 hr).trans ((off50 k).trans (offGf k))) _) ((accCov _).trans ?_) rfl)))
    exact tile_eq c XH XW XD k.val (ldH _ (off45 k) _ _ _) (ldG _ (off46 k) _ _ _) (ldU _ (off46 k) _ _ _) (if_neg h0).symm (ldD _ (off46 k) _ _ _)
  iapply (entails_of_eq' (congrArg (fun v => iprop(∃ g, flightP c (cell2 cc0_scoped11 (Ring.sl 2 (k.val / 11))) 131072 (oB (rb (k.val / 11))) v (heldP c (oS (Ring.sl 2 (k.val / 11))) fullShare g))) hv))
  iexists _, _; iexact HOc

/-- The last row block's last tile. -/
theorem tripD' (hk : k.val = 175) :
    iprop(comm c XH XW XD gf fg GF FG k.val ∗ wFly c XW XD k.val ∗ rHeld c XX XH (k.val / 11)
        ∗ oAll c (outC c XX XH XW XD XO gf fg GF FG (k.val / 11)) ∗ oFree c (k.val / 11))
    ⊢ wp frame (wpE (defs₀ (F := F)) 𝒱₀ (c : Thread nD τ) none) Set.univ (tripG gf hgf fg hfg w22 w49 w56 w70 w77 w84 w87 w83 k)
      (fun r => iprop(⌜r = carried (k.val + 1)⌝ ∗ comm c XH XW XD gf fg GF FG (k.val + 1) ∗ wFree c XW XD k.val ∗ rFree c XX XH (k.val / 11)
        ∗ oFly c XX XH XW XD XO gf fg GF FG (k.val / 11))) := by
  have h0 : k.val % 11 ≠ 0 := by omega
  have d5 := chk5 k; have d4 := chk4 k; have d3 := chk3 k; have d2 := chk2 k; have d1 := chk1 k
  have e4 := (not_congr (cond4 k)).mpr (by omega); have e5 := (not_congr (cond5 k)).mpr (by omega)
  have e6 := (not_congr (cond6 k)).mpr (by omega); have e7 := (not_congr (cond7 k)).mpr (by omega); have e8 := (not_congr (cond8 k)).mpr (by omega)
  have e9 := (not_congr (cond9 k)).mpr (by omega); have e10 := (not_congr (cond10 k)).mpr (by omega)
  have e11 := cond11 k; have e12 := cond12 k; have e13 := cond13 k
  have e22 := (cond22 k).mpr (by omega); have e28 := (not_congr (cond28 k)).mpr (by omega)
  iintro ⟨⟨⟨%fa, %hfa, HA⟩, ⟨%fs, %hfs, HS⟩, Hgf, Hfg, ⟨%W, HW⟩⟩, ⟨⟨⟨%fg0, HG⟩, HGr⟩, ⟨⟨%fu0, HU⟩, HUr⟩, ⟨%fd0, HD⟩, HDr⟩, ⟨⟨HXc, ⟨%fx, HX⟩, HXa⟩, HHc, ⟨%fh, HH⟩, HHa⟩, HOa, HOc, ⟨%fo, HO⟩⟩
  ihave HOs := (oAll_split c (rb (k.val / 11)) _).1 $$ HOa
  icases HOs with ⟨HOb, HOr⟩
  dsimp only [tripG, carried]
  sl_unfold [k0_t1_body]
  sl_exec
  have hr : tripD'.sl.r fs = wTr k.val := hfs
  have d6 : k0_chk6 (wIb k.val) (wIb k.val) (tripD'.sl.r fs) := hr ▸ chk6 k
  have e16 : k0_cond16 (tripD'.sl.r fs) = 1#1 := hr ▸ (cond16 k).mpr (by omega)
  have hz : ¬ zeroW (tripD'.sl.r fs) = 1#1 := hr ▸ (not_congr (zeroW_iff k)).mpr (by omega)
  sl_exec (disch := exact hz)
  sl_step
  isplitr; · ipureintro; clear * -; simp only [Prod.mk.injEq]; revert k; decide +kernel
  isplitl [HA HS Hgf Hfg HW]
  · isplitl [HA]
    · iexists _; isplitr; swap; · iexact HA
      ipureintro; intro _
      exact (readAt_store accM.view accRect _ _).trans (tile_eq c XH XW XD k.val (ldH _ (off45 k) _ _ _) (ldG _ (off46 k) _ _ _) (ldU _ (off46 k) _ _ _) (if_neg h0).symm (ldD _ (off46 k) _ _ _))
    isplitl [HS]
    · iexists _; isplitr; swap; · iexact HS
      ipureintro
      exact (congrFun (readAt_store stepM.view stepRect _ _) _).trans ((congrArg (Scalar.addi · 1#32) hr).trans (wTr_succ k))
    isplitl [Hgf]; · iexact Hgf
    isplitl [Hfg]; · iexact Hfg
    iexists _; iexact HW
  isplitl [HG HG_dst HG_src HGr HU HU_dst HU_src HUr HD HD_dst HD_src HDr]
  · iapply (wBack c XW XD k.val _ _ _) $$ HG HG_dst HG_src HGr HU HU_dst HU_src HUr HD HD_dst HD_src HDr
  isplitl [HXc HX HXa HHc HH HHa]
  · iapply (rBack c XX XH (k.val / 11) _ _) $$ HXc HX HXa HHc HH HHa
  isplitr [HOr]; swap; · iexact HOr
  have hv : tripD'.sl.dma15 c XX XH XW XD gf fg GF FG k d5 d4 d3 d2 fs fo d6 e16 = resV c XX XH XW XD gf fg GF FG (k.val / 11) := by
    have ho : k0_off51 (wIb k.val) = slotOff (Ring.sl 2 (k.val / 11)) := off45 k
    refine stO _ ho _ fo (k0_pay4 (tripD'.sl.r_8 c XX XH XW XD gf fg GF FG k d5 d4 d3 d2 fs d6 e16)) _ ((pay4_lift _).trans (congrArg (lift _)
      (res_eq c XX XH XW XD gf fg GF FG k.val (by omega) (ldX _ (off45 k) _ _ _) (ldGf c gf GF _ ((congrArg k0_off50 hr).trans ((off50 k).trans (offGf k))) _) ((accCov _).trans ?_) rfl)))
    exact tile_eq c XH XW XD k.val (ldH _ (off45 k) _ _ _) (ldG _ (off46 k) _ _ _) (ldU _ (off46 k) _ _ _) (if_neg h0).symm (ldD _ (off46 k) _ _ _)
  iapply (entails_of_eq' (congrArg (fun v => iprop(∃ g, flightP c (cell2 cc0_scoped11 (Ring.sl 2 (k.val / 11))) 131072 (oB (rb (k.val / 11))) v (heldP c (oS (Ring.sl 2 (k.val / 11))) fullShare g))) hv))
  iexists _, _; iexact HOc

end Steps

end Cert.Proof.Ffn

end
-- ==== Proof.Loop.lean ====
/-
  A step of the pipeline, at any step.
-/
module

public import proofs.«01_k».proof.Proof.Last

@[expose] public section

set_option maxRecDepth 65536

noncomputable section

namespace Cert.Proof.Ffn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

variable (c : Dev nD) (XX : Buf (Elt F) (xA.view.loc (c : Thread nD τ))) (XH : Buf (Elt F) (hA.view.loc (c : Thread nD τ)))
  (XW : Buf (Elt F) (wA.view.loc (c : Thread nD τ))) (XD : Buf (Elt F) (dA.view.loc (c : Thread nD τ))) (XO : Buf (Elt F) (oA.view.loc (c : Thread nD τ)))
  (gf : Memref sig .tc .vmem S4x1x2048 .f32) (hgf : gf.IsWhole) (fg : Memref sig .tc .vmem S1x2048 .f32) (hfg : fg.IsWhole)
  (GF : Buf (Elt F) (gf.view.loc (c : Thread nD τ))) (FG : Buf (Elt F) (fg.view.loc (c : Thread nD τ)))

/-! ## What is before each step, by case -/

theorem wSt_fly {t : ℕ} (h : t < 176) : wSt c XW XD t = wFly c XW XD t := if_pos h
theorem wSt_free {t : ℕ} (h : ¬ t < 176) : wSt c XW XD t = wFree c XW XD t := if_neg h
theorem wFree_add (t : ℕ) : wFree c XW XD (t + 3) = wFree c XW XD t := by unfold wFree; rw [Ring.sl_add]
theorem rows_fly {k : ℕ} (h : k % 11 = 0) (h' : k < 176) : rows c XX XH k = rFly c XX XH (k / 11) := (if_pos h).trans (if_pos (by omega))
theorem rows_free {k : ℕ} (h : k % 11 = 0) (h' : ¬ k < 176) : rows c XX XH k = rFree c XX XH (k / 11) := (if_pos h).trans (if_neg (by omega))
theorem rows_held {k : ℕ} (h : k % 11 ≠ 0) : rows c XX XH k = rHeld c XX XH (k / 11) := if_neg h
theorem rFree_add (i : ℕ) : rFree c XX XH (i + 2) = rFree c XX XH i := by unfold rFree; rw [Ring.sl_add]
theorem oFree_add (i : ℕ) : oFree (F := F) c (i + 2) = oFree c i := by unfold oFree; rw [Ring.sl_add]
theorem outs_fly {k : ℕ} (h : k % 11 = 0 ∧ 0 < k) : outs c XX XH XW XD XO gf fg GF FG k = iprop(oFly c XX XH XW XD XO gf fg GF FG (k / 11 - 1) ∗ oFree c (k / 11)) := if_pos h
theorem outs_all {k : ℕ} (h : ¬ (k % 11 = 0 ∧ 0 < k)) :
    outs c XX XH XW XD XO gf fg GF FG k = iprop(oAll c (outC c XX XH XW XD XO gf fg GF FG (k / 11)) ∗ oFree c (k / 11) ∗ oFree c (k / 11 + 1)) := if_neg h

section Steps
variable (w22 w49 w56 w70 w77 w84 : BitVec 32) (w87 w83 : BitVec 1) (k : Step)

/-- Any step: from what is before it to what is before the next. -/
theorem trip : St c XX XH XW XD XO gf fg GF FG k.val
    ⊢ wp frame (wpE (defs₀ (F := F)) 𝒱₀ (c : Thread nD τ) none) Set.univ (tripG gf hgf fg hfg w22 w49 w56 w70 w77 w84 w87 w83 k)
      (fun r => iprop(⌜r = carried (k.val + 1)⌝ ∗ St c XX XH XW XD XO gf fg GF FG (k.val + 1))) := by
  have hlt := step_lt k
  have e3 : k.val + 1 + 2 = k.val + 3 := rfl
  unfold St
  rw [wSt_fly c XW XD hlt, show k.val + 1 + 1 = k.val + 2 from rfl, e3, wFree_add]
  by_cases h0 : k.val % 11 = 0
  · have ed : (k.val + 1) / 11 = k.val / 11 := by omega
    rw [wSt_fly c XW XD (show k.val + 1 < 176 by omega), wSt_fly c XW XD (show k.val + 2 < 176 by omega), rows_fly c XX XH h0 hlt, rows_held c XX XH (show (k.val + 1) % 11 ≠ 0 by omega),
      outs_all c XX XH XW XD XO gf fg GF FG (k := k.val + 1) (by omega), ed]
    by_cases hp : 0 < k.val
    · rw [outs_fly c XX XH XW XD XO gf fg GF FG ⟨h0, hp⟩]
      have ej : k.val / 11 - 1 = (k.val - 1) / 11 := by omega
      have ei : k.val / 11 = (k.val - 1) / 11 + 1 := by omega
      rw [ej, show k.val / 11 + 1 = (k.val - 1) / 11 + 2 by omega, oFree_add]
      iintro ⟨Hc, ⟨W0, W1, W2⟩, ⟨R0, R1⟩, ⟨O0, O1⟩⟩
      iapply (wp_wand_r Idealize.ShloMosaic.frame (wpE (defs₀ (F := F)) 𝒱₀ (c : Thread nD τ) none) Set.univ)
      isplitl [Hc W0 W2 R0 O0]
      · iapply (tripB c XX XH XW XD XO gf hgf fg hfg GF FG w22 w49 w56 w70 w77 w84 w87 w83 k ⟨h0, hp⟩)
        iframe
      iintro %r ⟨%hr, Hc, W0, W2, R0, O0, O2⟩
      isplitr; · ipureintro; exact hr
      rw [← ei]
      iframe
    · rw [outs_all c XX XH XW XD XO gf fg GF FG (k := k.val) (by omega)]
      iintro ⟨Hc, ⟨W0, W1, W2⟩, ⟨R0, R1⟩, O⟩
      iapply (wp_wand_r Idealize.ShloMosaic.frame (wpE (defs₀ (F := F)) 𝒱₀ (c : Thread nD τ) none) Set.univ)
      isplitl [Hc W0 W2 R0]
      · iapply (tripA c XX XH XW XD gf hgf fg hfg GF FG w22 w49 w56 w70 w77 w84 w87 w83 k (by omega))
        iframe
      iintro %r ⟨%hr, Hc, W0, W2, R0⟩
      isplitr; · ipureintro; exact hr
      iframe
  rw [rows_held c XX XH h0, outs_all c XX XH XW XD XO gf fg GF FG (k := k.val) (by omega)]
  by_cases h10 : k.val % 11 = 10
  · have ed : (k.val + 1) / 11 = k.val / 11 + 1 := by omega
    rw [outs_fly c XX XH XW XD XO gf fg GF FG (k := k.val + 1) (by omega), ed, Nat.add_sub_cancel, show k.val / 11 + 1 + 1 = k.val / 11 + 2 from rfl, rFree_add]
    by_cases hl : k.val < 175
    · rw [wSt_fly c XW XD (show k.val + 1 < 176 by omega), wSt_fly c XW XD (show k.val + 2 < 176 by omega), rows_fly c XX XH (k := k.val + 1) (by omega) (by omega), ed]
      iintro ⟨Hc, ⟨W0, W1, W2⟩, ⟨R0, R1⟩, ⟨Oa, O0, O1⟩⟩
      iapply (wp_wand_r Idealize.ShloMosaic.frame (wpE (defs₀ (F := F)) 𝒱₀ (c : Thread nD τ) none) Set.univ)
      isplitl [Hc W0 W2 R0 R1 Oa O0]
      · iapply (tripD c XX XH XW XD XO gf hgf fg hfg GF FG w22 w49 w56 w70 w77 w84 w87 w83 k ⟨h10, hl⟩)
        iframe
      iintro %r ⟨%hr, Hc, W0, W2, R0, R1, O0⟩
      isplitr; · ipureintro; exact hr
      iframe
    · rw [wSt_free c XW XD (show ¬ k.val + 1 < 176 by omega), wSt_free c XW XD (show ¬ k.val + 2 < 176 by omega), rows_free c XX XH (k := k.val + 1) (by omega) (by omega), ed]
      iintro ⟨Hc, ⟨W0, W1, W2⟩, ⟨R0, R1⟩, ⟨Oa, O0, O1⟩⟩
      iapply (wp_wand_r Idealize.ShloMosaic.frame (wpE (defs₀ (F := F)) 𝒱₀ (c : Thread nD τ) none) Set.univ)
      isplitl [Hc W0 R0 Oa O0]
      · iapply (tripD' c XX XH XW XD XO gf hgf fg hfg GF FG w22 w49 w56 w70 w77 w84 w87 w83 k (by omega))
        iframe
      iintro %r ⟨%hr, Hc, W0, R0, O0⟩
      isplitr; · ipureintro; exact hr
      iframe
  have ed : (k.val + 1) / 11 = k.val / 11 := by omega
  rw [wSt_fly c XW XD (show k.val + 1 < 176 by omega), rows_held c XX XH (show (k.val + 1) % 11 ≠ 0 by omega), outs_all c XX XH XW XD XO gf fg GF FG (k := k.val + 1) (by omega), ed]
  by_cases hl : k.val < 174
  · rw [wSt_fly c XW XD (show k.val + 2 < 176 by omega)]
    iintro ⟨Hc, ⟨W0, W1, W2⟩, ⟨R0, R1⟩, O⟩
    iapply (wp_wand_r Idealize.ShloMosaic.frame (wpE (defs₀ (F := F)) 𝒱₀ (c : Thread nD τ) none) Set.univ)
    isplitl [Hc W0 W2 R0]
    · iapply (tripC c XX XH XW XD gf hgf fg hfg GF FG w22 w49 w56 w70 w77 w84 w87 w83 k h0 h10 hl)
      iframe
    iintro %r ⟨%hr, Hc, W0, W2, R0⟩
    isplitr; · ipureintro; exact hr
    iframe
  · rw [wSt_free c XW XD (show ¬ k.val + 2 < 176 by omega)]
    iintro ⟨Hc, ⟨W0, W1, W2⟩, ⟨R0, R1⟩, O⟩
    iapply (wp_wand_r Idealize.ShloMosaic.frame (wpE (defs₀ (F := F)) 𝒱₀ (c : Thread nD τ) none) Set.univ)
    isplitl [Hc W0 R0]
    · iapply (tripC' c XX XH XW XD gf hgf fg hfg GF FG w22 w49 w56 w70 w77 w84 w87 w83 k (by omega))
      iframe
    iintro %r ⟨%hr, Hc, W0, R0⟩
    isplitr; · ipureintro; exact hr
    iframe

end Steps

end Cert.Proof.Ffn

end
-- ==== Proof.Body.lean ====
/-
  The whole kernel: the first fetches, the loop over the steps, the wait for the last row block's copy.
-/
module

public import proofs.«01_k».proof.Proof.Loop

@[expose] public section

set_option maxRecDepth 65536

noncomputable section

namespace Cert.Proof.Ffn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

/-! ## The first fetches' spellings, and the last wait's -/

section Canon
@[sl_canon] theorem semX0 (hh) : (cc0_scoped1.slice (Rect.unit (s := S2) k0_off1 S1.size hh)).squeeze S_ squeezes_S1_S_ = cell2 cc0_scoped1 (Ring.sl 2 0) := cell2_congr _ (by decide) _
@[sl_canon] theorem slotX0 (hh hs) : (xR.slice (Rect.unit (s := S2x512x2048) k0_off2 S1x512x2048.size hh) hs).squeeze S512x2048 squeezes_S1x512x2048_S512x2048 = xS (Ring.sl 2 0) := xS_congr (by decide) _ _
@[sl_canon] theorem blkX0 (hh hs) : xA.slice (Rect.unit (s := S8192x2048) ![0, 0] S512x2048.size hh) hs = xB (rb 0) := xB_congr (by decide) _ _
@[sl_canon] theorem semH0 (hh) : (cc0_scoped3.slice (Rect.unit (s := S2) k0_off1 S1.size hh)).squeeze S_ squeezes_S1_S_ = cell2 cc0_scoped3 (Ring.sl 2 0) := cell2_congr _ (by decide) _
@[sl_canon] theorem slotH0 (hh hs) : (hR.slice (Rect.unit (s := S2x512x2048) k0_off2 S1x512x2048.size hh) hs).squeeze S512x2048 squeezes_S1x512x2048_S512x2048 = hS (Ring.sl 2 0) := hS_congr (by decide) _ _
@[sl_canon] theorem blkH0 (hh hs) : hA.slice (Rect.unit (s := S8192x2048) ![0, 0] S512x2048.size hh) hs = hB (rb 0) := hB_congr (by decide) _ _
@[sl_canon] theorem semG0 (hh) : (cc0_scoped5.slice (Rect.unit (s := S3) k0_off3 S1.size hh)).squeeze S_ squeezes_S1_S_ = cell3 cc0_scoped5 (Ring.sl 3 0) := cell3_congr _ (by decide) _
@[sl_canon] theorem slotG0 (hh hs) : (gR.slice (Rect.unit (s := S3x2048x512) k0_off4 S1x2048x512.size hh) hs).squeeze S2048x512 squeezes_S1x2048x512_S2048x512 = gS (Ring.sl 3 0) := gS_congr (by decide) _ _
@[sl_canon] theorem blkG0 (hh hs) : wA.slice (Rect.unit (s := S2048x11264) ![0, 0] S2048x512.size hh) hs = wB (gt 0) := wB_congr (by decide) _ _
@[sl_canon] theorem semU0 (hh) : (cc0_scoped7.slice (Rect.unit (s := S3) k0_off3 S1.size hh)).squeeze S_ squeezes_S1_S_ = cell3 cc0_scoped7 (Ring.sl 3 0) := cell3_congr _ (by decide) _
@[sl_canon] theorem slotU0 (hh hs) : (uR.slice (Rect.unit (s := S3x2048x512) k0_off4 S1x2048x512.size hh) hs).squeeze S2048x512 squeezes_S1x2048x512_S2048x512 = uS (Ring.sl 3 0) := uS_congr (by decide) _ _
@[sl_canon] theorem blkU0 (hh hs) : wA.slice (Rect.unit (s := S2048x11264) ![0, 5632] S2048x512.size hh) hs = wB (ut 0) := wB_congr (by decide) _ _
@[sl_canon] theorem semD0 (hh) : (cc0_scoped9.slice (Rect.unit (s := S3) k0_off3 S1.size hh)).squeeze S_ squeezes_S1_S_ = cell3 cc0_scoped9 (Ring.sl 3 0) := cell3_congr _ (by decide) _
@[sl_canon] theorem slotD0 (hh hs) : (dR.slice (Rect.unit (s := S3x512x2048) k0_off5 S1x512x2048.size hh) hs).squeeze S512x2048 squeezes_S1x512x2048_S512x2048 = dS (Ring.sl 3 0) := dS_congr (by decide) _ _
@[sl_canon] theorem blkD0 (hh hs) : dA.slice (Rect.unit (s := S5632x2048) ![0, 0] S512x2048.size hh) hs = dB (tl 0) := dB_congr (by decide) _ _
@[sl_canon] theorem semG1 (hh) : (cc0_scoped5.slice (Rect.unit (s := S3) k0_off6 S1.size hh)).squeeze S_ squeezes_S1_S_ = cell3 cc0_scoped5 (Ring.sl 3 1) := cell3_congr _ (by decide) _
@[sl_canon] theorem slotG1 (hh hs) : (gR.slice (Rect.unit (s := S3x2048x512) k0_off7 S1x2048x512.size hh) hs).squeeze S2048x512 squeezes_S1x2048x512_S2048x512 = gS (Ring.sl 3 1) := gS_congr (by decide) _ _
@[sl_canon] theorem blkG1 (hh hs) : wA.slice (Rect.unit (s := S2048x11264) k0_off8 S2048x512.size hh) hs = wB (gt 1) := wB_congr (by decide) _ _
@[sl_canon] theorem semU1 (hh) : (cc0_scoped7.slice (Rect.unit (s := S3) k0_off9 S1.size hh)).squeeze S_ squeezes_S1_S_ = cell3 cc0_scoped7 (Ring.sl 3 1) := cell3_congr _ (by decide) _
@[sl_canon] theorem slotU1 (hh hs) : (uR.slice (Rect.unit (s := S3x2048x512) k0_off10 S1x2048x512.size hh) hs).squeeze S2048x512 squeezes_S1x2048x512_S2048x512 = uS (Ring.sl 3 1) := uS_congr (by decide) _ _
@[sl_canon] theorem blkU1 (hh hs) : wA.slice (Rect.unit (s := S2048x11264) k0_off11 S2048x512.size hh) hs = wB (ut 1) := wB_congr (by decide) _ _
@[sl_canon] theorem semD1 (hh) : (cc0_scoped9.slice (Rect.unit (s := S3) k0_off12 S1.size hh)).squeeze S_ squeezes_S1_S_ = cell3 cc0_scoped9 (Ring.sl 3 1) := cell3_congr _ (by decide) _
@[sl_canon] theorem slotD1 (hh hs) : (dR.slice (Rect.unit (s := S3x512x2048) k0_off13 S1x512x2048.size hh) hs).squeeze S512x2048 squeezes_S1x512x2048_S512x2048 = dS (Ring.sl 3 1) := dS_congr (by decide) _ _
@[sl_canon] theorem blkD1 (hh hs) : dA.slice (Rect.unit (s := S5632x2048) k0_off14 S512x2048.size hh) hs = dB (tl 1) := dB_congr (by decide) _ _
@[sl_canon] theorem semO1 (hh) : (cc0_scoped11.slice (Rect.unit (s := S2) (k0_off58 (wOd 176)) S1.size hh)).squeeze S_ squeezes_S1_S_ = cell2 cc0_scoped11 (Ring.sl 2 15) := cell2_congr _ (by decide +kernel) _
@[sl_canon] theorem slotO1 (hh hs) : (oR.slice (Rect.unit (s := S2x512x2048) (k0_off60 (wOd 176)) S1x512x2048.size hh) hs).squeeze S512x2048 squeezes_S1x512x2048_S512x2048 = oS (Ring.sl 2 15) := oS_congr (by decide +kernel) _ _
@[sl_canon] theorem blkO1 (hh hs) : oA.slice (Rect.unit (s := S8192x2048) (k0_off59 (wBf 176) (wBi 176)) S512x2048.size hh) hs = oB (rb 15) := oB_congr (by decide +kernel) _ _
end Canon

variable (c : Dev nD) (XX : Buf (Elt F) (xA.view.loc (c : Thread nD τ))) (XH : Buf (Elt F) (hA.view.loc (c : Thread nD τ)))
  (XW : Buf (Elt F) (wA.view.loc (c : Thread nD τ))) (XD : Buf (Elt F) (dA.view.loc (c : Thread nD τ))) (XO : Buf (Elt F) (oA.view.loc (c : Thread nD τ)))
  (gf : Memref sig .tc .vmem S4x1x2048 .f32) (hgf : gf.IsWhole) (fg : Memref sig .tc .vmem S1x2048 .f32) (hfg : fg.IsWhole)
  (GF : Buf (Elt F) (gf.view.loc (c : Thread nD τ))) (FG : Buf (Elt F) (fg.view.loc (c : Thread nD τ)))

/-- The kernel on the given staging buffers, the rest its own. -/
abbrev bodyG : Prog (TpuEff nD τ sig (Elt F) Λ₀ .tc) PUnit :=
  cc0_ffn xA (Memref.isWhole_whole _) hA (Memref.isWhole_whole _) gf hgf wA (Memref.isWhole_whole _) dA (Memref.isWhole_whole _)
    fg hfg oA (Memref.isWhole_whole _) accM (Memref.isWhole_whole _) stepM (Memref.isWhole_whole _)
    xR (Memref.isWhole_whole _) cc0_scoped1 hR (Memref.isWhole_whole _) cc0_scoped3 gR (Memref.isWhole_whole _) cc0_scoped5
    uR (Memref.isWhole_whole _) cc0_scoped7 dR (Memref.isWhole_whole _) cc0_scoped9 oR (Memref.isWhole_whole _) cc0_scoped11

/-- What the kernel is handed, and what it hands back: every slot free, the result array at `f`. -/
abbrev atRest (f : Buf (Elt F) (oA.view.loc (c : Thread nD τ))) : sProp 𝕄 :=
  iprop(someP (F := F) c accM ∗ someP (F := F) c stepM ∗ heldP c gf fullShare GF ∗ heldP c fg fullShare FG
    ∗ (wFree c XW XD 0 ∗ wFree c XW XD 1 ∗ wFree c XW XD 2) ∗ (rFree c XX XH 0 ∗ rFree c XX XH 1)
    ∗ oAll c f ∗ oFree c 0 ∗ oFree c 1 ∗ ∃ W, owes (c : Thread nD τ) 0 W)

/-- What holds before each step, with the words the loop carries. -/
def inv (k : ℕ) (r : BitVec 32 × BitVec 32 × BitVec 32 × BitVec 32 × BitVec 32 × BitVec 32 × BitVec 32 × BitVec 32 × BitVec 32 × BitVec 32 × BitVec 32 × BitVec 32 × BitVec 32 × BitVec 32) : sProp 𝕄 :=
  iprop(⌜r = carried k⌝ ∗ St c XX XH XW XD XO gf fg GF FG k)

/-- Before the first step: two steps' tiles and the first row block in flight, the result array as it was. -/
theorem St_first : iprop(comm c XH XW XD gf fg GF FG 0 ∗ (wFly c XW XD 0 ∗ wFly c XW XD 1 ∗ wFree c XW XD 2) ∗ (rFly c XX XH 0 ∗ rFree c XX XH 1) ∗ oAll c XO ∗ oFree c 0 ∗ oFree c 1)
    ⊢ (St c XX XH XW XD XO gf fg GF FG 0 : sProp 𝕄) := by
  unfold St
  rw [wSt_fly c XW XD (show 0 < 176 by omega), wSt_fly c XW XD (show 0 + 1 < 176 by omega), rows_fly c XX XH (k := 0) rfl (by omega), outs_all c XX XH XW XD XO gf fg GF FG (k := 0) (by omega)]
  exact .rfl
/-- After the last: every weight and row slot free, the last row block on its way. -/
theorem St_last : St c XX XH XW XD XO gf fg GF FG 176
    ⊢ (iprop(comm c XH XW XD gf fg GF FG 176 ∗ (wFree c XW XD 176 ∗ wFree c XW XD 177 ∗ wFree c XW XD 178) ∗ (rFree c XX XH 16 ∗ rFree c XX XH 17)
      ∗ oFly c XX XH XW XD XO gf fg GF FG 15 ∗ oFree c 16) : sProp 𝕄) := by
  unfold St
  rw [wSt_free c XW XD (show ¬ 176 < 176 by omega), wSt_free c XW XD (show ¬ 176 + 1 < 176 by omega), rows_free c XX XH (k := 176) rfl (by omega), outs_fly c XX XH XW XD XO gf fg GF FG (k := 176) (by omega)]

theorem wFree_last : iprop(wFree c XW XD 176 ∗ wFree c XW XD 177 ∗ wFree c XW XD 178) ⊢ (iprop(wFree c XW XD 0 ∗ wFree c XW XD 1 ∗ wFree c XW XD 2) : sProp 𝕄) := by
  unfold wFree
  rw [show Ring.sl 3 176 = Ring.sl 3 2 from rfl, show Ring.sl 3 177 = Ring.sl 3 0 from rfl, show Ring.sl 3 178 = Ring.sl 3 1 from rfl]
  iintro ⟨H2, H0, H1⟩
  isplitl [H0]; · iexact H0
  isplitl [H1]; · iexact H1
  iexact H2
theorem rFree_last : iprop(rFree c XX XH 16 ∗ rFree c XX XH 17) ⊢ (iprop(rFree c XX XH 0 ∗ rFree c XX XH 1) : sProp 𝕄) := by
  unfold rFree
  rw [show Ring.sl 2 16 = Ring.sl 2 0 from rfl, show Ring.sl 2 17 = Ring.sl 2 1 from rfl]
theorem oFree_last (s : Fin 2) (hs : s = Ring.sl 2 15) (x) (hx : x = (cell2 cc0_scoped11 s).sem) (g) : ⊢ (oFree c 16 -∗ semVal ((c : Thread nD τ), SemLoc.dma x) 0 -∗ heldP c (oS s) fullShare g -∗ iprop(oFree c 0 ∗ oFree c 1) : sProp 𝕄) := by
  subst hx hs
  unfold oFree
  rw [show Ring.sl 2 16 = Ring.sl 2 0 from rfl, show Ring.sl 2 15 = Ring.sl 2 1 from rfl]
  iintro ⟨H0, H0'⟩ H1 H1'
  isplitl [H0 H0']
  · isplitl [H0]; · iexact H0
    iexact H0'
  isplitl [H1]; · iexact H1
  iexists _; iexact H1'

theorem inv_last (r) : inv c XX XH XW XD XO gf fg GF FG (Scf.trips k0_t1_loop.lb k0_t1_loop.ub k0_t1_loop.st) r
    ⊢ (iprop(⌜r = carried 176⌝ ∗ St c XX XH XW XD XO gf fg GF FG 176) : sProp 𝕄) := by
  rw [show Scf.trips k0_t1_loop.lb k0_t1_loop.ub k0_t1_loop.st = 176 from trips_eq]
  exact .rfl

set_option maxHeartbeats 1000000 in
/-- The kernel, from every slot free to every slot free, with the sixteen row blocks written. -/
theorem bodyRun : atRest c XX XH XW XD gf fg GF FG XO
    ⊢ wp frame (wpE (defs₀ (F := F)) 𝒱₀ (c : Thread nD τ) none) Set.univ (bodyG gf hgf fg hfg)
      (fun _ => atRest c XX XH XW XD gf fg GF FG (outC c XX XH XW XD XO gf fg GF FG 16)) := by
  have e1 : k0_cond1 = 1#1 := by decide
  have e2 : k0_cond2 = 1#1 := by decide
  have e3 : k0_cond3 = 1#1 := by decide
  have d8 := chk8
  have d7 := chk7
  iintro ⟨⟨%fa, HA⟩, ⟨%fs, HS⟩, Hgf, Hfg, ⟨W0, W1, W2⟩, ⟨R0, R1⟩, HO, O0, O1, ⟨%W, HW⟩⟩
  ihave Hop := (wFree_open c XW XD 0).1 $$ W0
  icases Hop with ⟨⟨JGc, ⟨%jg, JG⟩, JGb, JGr⟩, ⟨JUc, ⟨%ju, JU⟩, JUb, JUr⟩, JDc, ⟨%jd, JD⟩, JDb, JDr⟩
  ihave Hop := (wFree_open c XW XD 1).1 $$ W1
  icases Hop with ⟨⟨KGc, ⟨%kg, KG⟩, KGb, KGr⟩, ⟨KUc, ⟨%ku, KU⟩, KUb, KUr⟩, KDc, ⟨%kd, KD⟩, KDb, KDr⟩
  ihave Hop := (rFree_open c XX XH 0).1 $$ R0
  icases Hop with ⟨⟨JXc, ⟨%jx, JX⟩, JXb, JXr⟩, JHc, ⟨%jh, JH⟩, JHb, JHr⟩
  sl_exec
  sl_for (inv c XX XH XW XD XO gf fg GF FG) $$ [HA HS Hgf Hfg W2 R1 HO O0 O1 HW JGc JGr JUc JUr JDc JDr KGc KGr KUc KUr KDc KDr JXc JXr JHc JHr]
  case region =>
    intro k r
    unfold inv
    iintro ⟨%e, H⟩
    subst e
    iapply (trip c XX XH XW XD XO gf hgf fg hfg GF FG _ _ _ _ _ _ _ _ k)
    iexact H
  · unfold inv
    isplitr; · ipureintro; simp only [carried, Prod.mk.injEq]; decide
    iapply (St_first c XX XH XW XD XO gf fg GF FG)
    isplitl [HA HS Hgf Hfg HW]
    · isplitl [HA]
      · iexists _; isplitr; swap; · iexact HA
        ipureintro; intro h; exact absurd rfl h
      isplitl [HS]
      · iexists _; isplitr; swap; · iexact HS
        ipureintro
        exact congrFun (readAt_store stepM.view stepRect _ _) _
      isplitl [Hgf]; · iexact Hgf
      isplitl [Hfg]; · iexact Hfg
      iexists _; iexact HW
    isplitl [JGc JGr JUc JUr JDc JDr KGc KGr KUc KUr KDc KDr W2]
    · isplitl [JGc JGr JUc JUr JDc JDr]
      · isplitl [JGc JGr]
        · isplitl [JGc]; · iexists _; iexact JGc
          iexact JGr
        isplitl [JUc JUr]
        · isplitl [JUc]; · iexists _; iexact JUc
          iexact JUr
        isplitl [JDc]; · iexists _; iexact JDc
        iexact JDr
      isplitr [W2]
      · isplitl [KGc KGr]
        · isplitl [KGc]; · iexists _; iexact KGc
          iexact KGr
        isplitl [KUc KUr]
        · isplitl [KUc]; · iexists _; iexact KUc
          iexact KUr
        isplitl [KDc]; · iexists _; iexact KDc
        iexact KDr
      iexact W2
    isplitl [JXc JXr JHc JHr R1]
    · isplitr [R1]
      · isplitl [JXc JXr]
        · isplitl [JXc]; · iexists _; iexact JXc
          iexact JXr
        isplitl [JHc]; · iexists _; iexact JHc
        iexact JHr
      iexact R1
    isplitl [HO]; · iexact HO
    isplitl [O0]; · iexact O0
    iexact O1
  iintro %r HI
  ihave HI := (inv_last c XX XH XW XD XO gf fg GF FG r) $$ HI
  icases HI with ⟨%er, HI⟩
  subst er
  ihave HS := (St_last c XX XH XW XD XO gf fg GF FG) $$ HI
  icases HS with ⟨⟨⟨%fa', %hfa, HA⟩, ⟨%fs', %hfs, HS⟩, Hgf, Hfg, ⟨%W', HW⟩⟩, ⟨W2, W0, W1⟩, ⟨R0, R1⟩, ⟨⟨%go, %fo, HO⟩, HOr⟩, O0⟩
  sl_exec
  sl_step
  isplitl [HA]; · iexists _; iexact HA
  isplitl [HS]; · iexists _; iexact HS
  isplitl [Hgf]; · iexact Hgf
  isplitl [Hfg]; · iexact Hfg
  isplitl [W0 W1 W2]
  · iapply (wFree_last c XW XD)
    isplitl [W2]; · iexact W2
    isplitl [W0]; · iexact W0
    iexact W1
  isplitl [R0 R1]
  · iapply (rFree_last c XX XH)
    isplitl [R0]; · iexact R0
    iexact R1
  isplitl [HO_dst HOr]
  · iapply (oAll_join c (rb 15) (resV c XX XH XW XD gf fg GF FG 15) fo (outC c XX XH XW XD XO gf fg GF FG 15))
    isplitl [HO_dst]; · iexact HO_dst
    iexact HOr
  ihave Ho := (oFree_last c (Ring.sl 2 15) rfl ⟨16, _⟩ rfl go) $$ O0 HO HO_src
  icases Ho with ⟨O0, O1⟩
  isplitl [O0]; · iexact O0
  isplitl [O1]; · iexact O1
  iexists _; iexact HW

end Cert.Proof.Ffn

end
-- ==== Proof.Slots.lean ====
/-
  The rings whole are their slots, the arrays whole are the shares their slots read them at, and the kernel's own
  semaphores are the slots' cells: what the launch hands the kernel is every slot free.
-/
module

public import proofs.«01_k».proof.Proof.Body
public import proofs.«01_k».proof.Proof.Gen.KernelIdeal.Frame

@[expose] public section

set_option maxRecDepth 65536

noncomputable section

namespace Cert.Proof.Ffn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

/-! ## A ring whole is its slots -/

section Sets
variable {n a b : ℕ} (inb : ∀ (s : Fin n) (i : Fin 3), slotOff s i + (![1, a, b] : Fin 3 → ℕ) i ≤ (![n, a, b] : Fin 3 → ℕ) i)

/-- The elements of slot `s` of a ring of `n` slots. -/
abbrev slotSet (s : Fin n) : Finset (⟨3, ![n, a, b]⟩ : Shape).Idx := (Rect.unit (s := ⟨3, ![n, a, b]⟩) (slotOff s) ![1, a, b] (inb s)).set

theorem mem_slotSet (s : Fin n) (y : (⟨3, ![n, a, b]⟩ : Shape).Idx) : y ∈ slotSet inb s ↔ (y 0).val = s.val := by
  rw [Rect.mem_set_unit]
  have h1 : (y 1).val < a := (y 1).isLt
  have h2 : (y 2).val < b := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + a; omega
    · show 0 ≤ (y 2).val ∧ (y 2).val < 0 + b; omega
theorem slotSet_disjoint (s s' : Fin n) (hne : s ≠ s') : Disjoint (slotSet inb s) (slotSet inb s') := by
  rw [Finset.disjoint_left]; intro y hy hy'; rw [mem_slotSet] at hy hy'; exact hne (Fin.ext (hy.symm.trans hy'))
theorem slotSet_cover : (Finset.univ : Finset (Fin n)).biUnion (slotSet inb) = Finset.univ := by
  ext y; simp only [Finset.mem_biUnion, Finset.mem_univ, true_and, iff_true]; exact ⟨⟨(y 0).val, (y 0).isLt⟩, (mem_slotSet inb _ y).mpr rfl⟩

end Sets

omit [FloatOps F] in
theorem bigSep_fin2 (Φ : Fin 2 → sProp 𝕄) : bigSep Finset.univ Φ = iprop(Φ 0 ∗ Φ 1) :=
  bigSep_univ_eq_bigSepL [(0 : Fin 2), (1 : Fin 2)] (by decide) (by decide) Φ
omit [FloatOps F] in
theorem bigSep_fin3 (Φ : Fin 3 → sProp 𝕄) : bigSep Finset.univ Φ = iprop(Φ 0 ∗ Φ 1 ∗ Φ 2) :=
  bigSep_univ_eq_bigSepL [(0 : Fin 3), (1 : Fin 3), (2 : Fin 3)] (by decide) (by decide) Φ

section Pieces
variable {ℓ : Loc nD τ sig}

omit [FloatOps F] in
/-- A buffer at contents whatever is its pieces at contents whatever: two pieces, three pieces. -/
theorem pieces_two (I : Fin 2 → Finset (Idx ℓ)) (hd : ∀ b b', b ≠ b' → Disjoint (I b) (I b')) (hc : Finset.univ.biUnion I = Finset.univ) :
    iprop(∃ f : Buf (Elt F) ℓ, ℓ ↦{fullShare} f) ⊣⊢ (iprop((∃ f : Buf (Elt F) ℓ, ℓ ↦[I 0]{fullShare} f) ∗ (∃ f : Buf (Elt F) ℓ, ℓ ↦[I 1]{fullShare} f)) : sProp 𝕄) := by
  constructor
  · iintro ⟨%f, H⟩
    ihave H := (entails_of_eq' ((Ring.pointsTo_blocks (Ix := Unit) (Name := ℕ) (U := UU nD τ) (Lvl := ℕ) (q := fullShare) I hd hc f).trans (bigSep_fin2 _))) $$ H
    icases H with ⟨H0, H1⟩
    isplitl [H0]; · iexists f; iexact H0
    iexists f; iexact H1
  · iintro ⟨⟨%f, H0⟩, H1⟩
    iapply (Ring.pointsTo_blocks_join_exists I hd hc f)
    irw [bigSep_fin2]
    isplitl [H0]; · iexists f; iexact H0
    iexact H1
omit [FloatOps F] in
theorem pieces_three (I : Fin 3 → Finset (Idx ℓ)) (hd : ∀ b b', b ≠ b' → Disjoint (I b) (I b')) (hc : Finset.univ.biUnion I = Finset.univ) :
    iprop(∃ f : Buf (Elt F) ℓ, ℓ ↦{fullShare} f)
      ⊣⊢ (iprop((∃ f : Buf (Elt F) ℓ, ℓ ↦[I 0]{fullShare} f) ∗ (∃ f : Buf (Elt F) ℓ, ℓ ↦[I 1]{fullShare} f) ∗ (∃ f : Buf (Elt F) ℓ, ℓ ↦[I 2]{fullShare} f)) : sProp 𝕄) := by
  constructor
  · iintro ⟨%f, H⟩
    ihave H := (entails_of_eq' ((Ring.pointsTo_blocks (Ix := Unit) (Name := ℕ) (U := UU nD τ) (Lvl := ℕ) (q := fullShare) I hd hc f).trans (bigSep_fin3 _))) $$ H
    icases H with ⟨H0, H1, H2⟩
    isplitl [H0]; · iexists f; iexact H0
    isplitl [H1]; · iexists f; iexact H1
    iexists f; iexact H2
  · iintro ⟨⟨%f, H0⟩, H1, H2⟩
    iapply (Ring.pointsTo_blocks_join_exists I hd hc f)
    irw [bigSep_fin3]
    isplitl [H0]; · iexists f; iexact H0
    isplitl [H1]; · iexact H1
    iexact H2

end Pieces

section Rings
variable (c : Dev nD)

theorem xS_set (s : Fin 2) : (xS s).view.set = slotSet inbRow2 s := (View.set_reshape _ _).trans (View.set_slice_whole _ _)
theorem hS_set (s : Fin 2) : (hS s).view.set = slotSet inbRow2 s := (View.set_reshape _ _).trans (View.set_slice_whole _ _)
theorem oS_set (s : Fin 2) : (oS s).view.set = slotSet inbRow2 s := (View.set_reshape _ _).trans (View.set_slice_whole _ _)
theorem gS_set (s : Fin 3) : (gS s).view.set = slotSet inbCol3 s := (View.set_reshape _ _).trans (View.set_slice_whole _ _)
theorem uS_set (s : Fin 3) : (uS s).view.set = slotSet inbCol3 s := (View.set_reshape _ _).trans (View.set_slice_whole _ _)
theorem dS_set (s : Fin 3) : (dS s).view.set = slotSet inbRow3 s := (View.set_reshape _ _).trans (View.set_slice_whole _ _)

theorem someP_of_set {sp : Space} {s : Shape} {e : EltTy} (D : Memref sig .tc sp s e) {I} (h : D.view.set = I) :
    (someP (F := F) c D : sProp 𝕄) = iprop(∃ f, D.view.loc (c : Thread nD τ) ↦[I]{fullShare} f) := by subst h; rfl

/-- A buffer whole, at contents whatever. -/
abbrev bufP (b : Ref sig .tc) : sProp 𝕄 := iprop(∃ f : Buf (Elt F) ((c : Thread nD τ).loc b), ((c : Thread nD τ).loc b) ↦{fullShare} f)

theorem xRing : bufP (F := F) c cc0_scoped0 ⊣⊢ (iprop(someP c (xS 0) ∗ someP c (xS 1)) : sProp 𝕄) := by
  rw [someP_of_set c _ (xS_set 0), someP_of_set c _ (xS_set 1)]
  exact pieces_two (ℓ := (c : Thread nD τ).loc cc0_scoped0) (slotSet inbRow2) (slotSet_disjoint _) (slotSet_cover _)
theorem hRing : bufP (F := F) c cc0_scoped2 ⊣⊢ (iprop(someP c (hS 0) ∗ someP c (hS 1)) : sProp 𝕄) := by
  rw [someP_of_set c _ (hS_set 0), someP_of_set c _ (hS_set 1)]
  exact pieces_two (ℓ := (c : Thread nD τ).loc cc0_scoped2) (slotSet inbRow2) (slotSet_disjoint _) (slotSet_cover _)
theorem gRing : bufP (F := F) c cc0_scoped4 ⊣⊢ (iprop(someP c (gS 0) ∗ someP c (gS 1) ∗ someP c (gS 2)) : sProp 𝕄) := by
  rw [someP_of_set c _ (gS_set 0), someP_of_set c _ (gS_set 1), someP_of_set c _ (gS_set 2)]
  exact pieces_three (ℓ := (c : Thread nD τ).loc cc0_scoped4) (slotSet inbCol3) (slotSet_disjoint _) (slotSet_cover _)
theorem uRing : bufP (F := F) c cc0_scoped6 ⊣⊢ (iprop(someP c (uS 0) ∗ someP c (uS 1) ∗ someP c (uS 2)) : sProp 𝕄) := by
  rw [someP_of_set c _ (uS_set 0), someP_of_set c _ (uS_set 1), someP_of_set c _ (uS_set 2)]
  exact pieces_three (ℓ := (c : Thread nD τ).loc cc0_scoped6) (slotSet inbCol3) (slotSet_disjoint _) (slotSet_cover _)
theorem dRing : bufP (F := F) c cc0_scoped8 ⊣⊢ (iprop(someP c (dS 0) ∗ someP c (dS 1) ∗ someP c (dS 2)) : sProp 𝕄) := by
  rw [someP_of_set c _ (dS_set 0), someP_of_set c _ (dS_set 1), someP_of_set c _ (dS_set 2)]
  exact pieces_three (ℓ := (c : Thread nD τ).loc cc0_scoped8) (slotSet inbRow3) (slotSet_disjoint _) (slotSet_cover _)
theorem oRing : bufP (F := F) c cc0_scoped10 ⊣⊢ (iprop(someP c (oS 0) ∗ someP c (oS 1)) : sProp 𝕄) := by
  rw [someP_of_set c _ (oS_set 0), someP_of_set c _ (oS_set 1)]
  exact pieces_two (ℓ := (c : Thread nD τ).loc cc0_scoped10) (slotSet inbRow2) (slotSet_disjoint _) (slotSet_cover _)

end Rings

/-! ## The cells -/

/-- The kernel's own semaphores, ring by ring. -/
abbrev osem : Fin 15 → SemLoc sig := ![.dma (cell2 cc0_scoped1 0).sem, .dma (cell2 cc0_scoped1 1).sem, .dma (cell2 cc0_scoped3 0).sem, .dma (cell2 cc0_scoped3 1).sem,
  .dma (cell3 cc0_scoped5 0).sem, .dma (cell3 cc0_scoped5 1).sem, .dma (cell3 cc0_scoped5 2).sem, .dma (cell3 cc0_scoped7 0).sem, .dma (cell3 cc0_scoped7 1).sem, .dma (cell3 cc0_scoped7 2).sem,
  .dma (cell3 cc0_scoped9 0).sem, .dma (cell3 cc0_scoped9 1).sem, .dma (cell3 cc0_scoped9 2).sem, .dma (cell2 cc0_scoped11 0).sem, .dma (cell2 cc0_scoped11 1).sem]
theorem ownSemFacts : Pipeline.OwnSemFacts spec0 osem := by decide

theorem ownSems0_eq (c : Dev nD) : (Pipeline.ownSems0 (Ix := Unit) (Name := ℕ) (U := UU nD τ) (Lvl := ℕ) (Val := Elt F) (τ := τ) osem c : sProp 𝕄)
    = iprop(restP c (cell2 cc0_scoped1 0) ∗ restP c (cell2 cc0_scoped1 1) ∗ restP c (cell2 cc0_scoped3 0) ∗ restP c (cell2 cc0_scoped3 1)
      ∗ restP c (cell3 cc0_scoped5 0) ∗ restP c (cell3 cc0_scoped5 1) ∗ restP c (cell3 cc0_scoped5 2) ∗ restP c (cell3 cc0_scoped7 0) ∗ restP c (cell3 cc0_scoped7 1) ∗ restP c (cell3 cc0_scoped7 2)
      ∗ restP c (cell3 cc0_scoped9 0) ∗ restP c (cell3 cc0_scoped9 1) ∗ restP c (cell3 cc0_scoped9 2) ∗ restP c (cell2 cc0_scoped11 0) ∗ restP c (cell2 cc0_scoped11 1)) := by
  unfold Pipeline.ownSems0
  exact bigSep_univ_eq_bigSepL [(0 : Fin 15), 1, 2, 3, 4, 5, 6, 7, 8, 9, 10, 11, 12, 13, 14] (by decide) (by decide) _

end Cert.Proof.Ffn

end
-- ==== Proof.Launch.lean ====
/-
  The run of the whole program: the host's operations, then the kernel, from any memory, for any float values.
-/
module

public import proofs.«01_k».proof.Defs
public import proofs.«01_k».proof.Proof.Gen.Kernel.Launch
public import proofs.«01_k».proof.Proof.Slots
public import Idealize.ShloMosaic.Lib.Pipeline.KitQuiescent

@[expose] public section

set_option maxRecDepth 65536

noncomputable section

namespace Cert.Proof.Ffn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UU nD τ) ℕ

/-! ## What the launch hands over is every slot free, and back -/

section Rest
variable (c : Dev nD) (XX : Buf (Elt F) (xA.view.loc (c : Thread nD τ))) (XH : Buf (Elt F) (hA.view.loc (c : Thread nD τ)))
  (XW : Buf (Elt F) (wA.view.loc (c : Thread nD τ))) (XD : Buf (Elt F) (dA.view.loc (c : Thread nD τ)))

/-- The kernel's slots, free, and its two scratch buffers. -/
abbrev slotsP : sProp 𝕄 :=
  iprop(someP (F := F) c accM ∗ someP (F := F) c stepM ∗ (wFree c XW XD 0 ∗ wFree c XW XD 1 ∗ wFree c XW XD 2) ∗ (rFree c XX XH 0 ∗ rFree c XX XH 1) ∗ oFree c 0 ∗ oFree c 1)
/-- The buffers the kernel allocates. -/
abbrev scopedP : sProp 𝕄 :=
  iprop(bufP (F := F) c cc0_scratch0 ∗ bufP c cc0_scoped0 ∗ bufP c cc0_scoped2 ∗ bufP c cc0_scoped4 ∗ bufP c cc0_scoped6 ∗ bufP c cc0_scoped8 ∗ bufP c cc0_scoped10 ∗ bufP c cc0_scratch1)

theorem acc_whole : (someP (F := F) c accM : sProp 𝕄) = bufP c cc0_scratch0 := someP_of_set c accM (View.set_whole _)
theorem step_whole : (someP (F := F) c stepM : sProp 𝕄) = bufP c cc0_scratch1 := someP_of_set c stepM (View.set_whole _)

theorem slots_in : iprop((xAll c XX fullShare ∗ hAll c XH fullShare ∗ wAll c XW fullShare ∗ dAll c XD fullShare) ∗ Pipeline.ownSems0 osem c ∗ scopedP c)
    ⊢ (slotsP c XX XH XW XD : sProp 𝕄) := by
  rw [ownSems0_eq]
  unfold slotsP
  rw [acc_whole, step_whole]
  iintro ⟨⟨X, H, W, D⟩, ⟨A0, A1, B0, B1, C0, C1, C2, D0, D1, D2, E0, E1, E2, F0, F1⟩, HA, Hx, Hh, Hg, Hu, Hd, Ho, HS⟩
  ihave X := (pointsTo_share (PosShare.mem_left_op_right fullShare)).1 $$ X
  icases X with ⟨X0, X1⟩
  ihave H := (pointsTo_share (PosShare.mem_left_op_right fullShare)).1 $$ H
  icases H with ⟨H0, H1⟩
  ihave W := (pointsTo_share (PosShare.mem_left_op_right fullShare)).1 $$ W
  icases W with ⟨G, U⟩
  ihave G := (Ring.pointsTo_thirds _ _).1 $$ G
  icases G with ⟨G0, G1, G2⟩
  ihave U := (Ring.pointsTo_thirds _ _).1 $$ U
  icases U with ⟨U0, U1, U2⟩
  ihave D := (Ring.pointsTo_thirds _ _).1 $$ D
  icases D with ⟨K0, K1, K2⟩
  ihave Hx := (xRing c).1 $$ Hx
  icases Hx with ⟨x0, x1⟩
  ihave Hh := (hRing c).1 $$ Hh
  icases Hh with ⟨h0, h1⟩
  ihave Hg := (gRing c).1 $$ Hg
  icases Hg with ⟨g0, g1, g2⟩
  ihave Hu := (uRing c).1 $$ Hu
  icases Hu with ⟨u0, u1, u2⟩
  ihave Hd := (dRing c).1 $$ Hd
  icases Hd with ⟨d0, d1, d2⟩
  ihave Ho := (oRing c).1 $$ Ho
  icases Ho with ⟨o0, o1⟩
  isplitl [HA]; · iexact HA
  isplitl [HS]; · iexact HS
  isplitl [C0 C1 C2 D0 D1 D2 E0 E1 E2 G0 G1 G2 U0 U1 U2 K0 K1 K2 g0 g1 g2 u0 u1 u2 d0 d1 d2]
  · isplitl [C0 D0 E0 G0 U0 K0 g0 u0 d0]
    · isplitl [C0 g0 G0]
      · isplitl [C0]; · iexact C0
        isplitl [g0]; · iexact g0
        iexact G0
      isplitl [D0 u0 U0]
      · isplitl [D0]; · iexact D0
        isplitl [u0]; · iexact u0
        iexact U0
      isplitl [E0]; · iexact E0
      isplitl [d0]; · iexact d0
      iexact K0
    isplitl [C1 D1 E1 G1 U1 K1 g1 u1 d1]
    · isplitl [C1 g1 G1]
      · isplitl [C1]; · iexact C1
        isplitl [g1]; · iexact g1
        iexact G1
      isplitl [D1 u1 U1]
      · isplitl [D1]; · iexact D1
        isplitl [u1]; · iexact u1
        iexact U1
      isplitl [E1]; · iexact E1
      isplitl [d1]; · iexact d1
      iexact K1
    isplitl [C2 g2 G2]
    · isplitl [C2]; · iexact C2
      isplitl [g2]; · iexact g2
      iexact G2
    isplitl [D2 u2 U2]
    · isplitl [D2]; · iexact D2
      isplitl [u2]; · iexact u2
      iexact U2
    isplitl [E2]; · iexact E2
    isplitl [d2]; · iexact d2
    iexact K2
  isplitl [A0 A1 B0 B1 X0 X1 H0 H1 x0 x1 h0 h1]
  · isplitl [A0 B0 X0 H0 x0 h0]
    · isplitl [A0 x0 X0]
      · isplitl [A0]; · iexact A0
        isplitl [x0]; · iexact x0
        iexact X0
      isplitl [B0]; · iexact B0
      isplitl [h0]; · iexact h0
      iexact H0
    isplitl [A1 x1 X1]
    · isplitl [A1]; · iexact A1
      isplitl [x1]; · iexact x1
      iexact X1
    isplitl [B1]; · iexact B1
    isplitl [h1]; · iexact h1
    iexact H1
  isplitl [F0 o0]
  · isplitl [F0]; · iexact F0
    iexact o0
  isplitl [F1]; · iexact F1
  iexact o1

theorem slots_out : slotsP c XX XH XW XD ⊢ (iprop(Pipeline.ownSems0 osem c ∗ scopedP c) : sProp 𝕄) := by
  rw [ownSems0_eq]
  unfold slotsP
  rw [acc_whole, step_whole]
  iintro ⟨HA, HS, ⟨⟨⟨C0, g0, -⟩, ⟨D0, u0, -⟩, E0, d0, -⟩, ⟨⟨C1, g1, -⟩, ⟨D1, u1, -⟩, E1, d1, -⟩, ⟨C2, g2, -⟩, ⟨D2, u2, -⟩, E2, d2, -⟩, ⟨⟨⟨A0, x0, -⟩, B0, h0, -⟩, ⟨A1, x1, -⟩, B1, h1, -⟩, ⟨F0, o0⟩, F1, o1⟩
  isplitl [A0 A1 B0 B1 C0 C1 C2 D0 D1 D2 E0 E1 E2 F0 F1]
  · isplitl [A0]; · iexact A0
    isplitl [A1]; · iexact A1
    isplitl [B0]; · iexact B0
    isplitl [B1]; · iexact B1
    isplitl [C0]; · iexact C0
    isplitl [C1]; · iexact C1
    isplitl [C2]; · iexact C2
    isplitl [D0]; · iexact D0
    isplitl [D1]; · iexact D1
    isplitl [D2]; · iexact D2
    isplitl [E0]; · iexact E0
    isplitl [E1]; · iexact E1
    isplitl [E2]; · iexact E2
    isplitl [F0]; · iexact F0
    iexact F1
  isplitl [HA]; · iexact HA
  isplitl [x0 x1]
  · iapply (xRing c).2
    isplitl [x0]; · iexact x0
    iexact x1
  isplitl [h0 h1]
  · iapply (hRing c).2
    isplitl [h0]; · iexact h0
    iexact h1
  isplitl [g0 g1 g2]
  · iapply (gRing c).2
    isplitl [g0]; · iexact g0
    isplitl [g1]; · iexact g1
    iexact g2
  isplitl [u0 u1 u2]
  · iapply (uRing c).2
    isplitl [u0]; · iexact u0
    isplitl [u1]; · iexact u1
    iexact u2
  isplitl [d0 d1 d2]
  · iapply (dRing c).2
    isplitl [d0]; · iexact d0
    isplitl [d1]; · iexact d1
    iexact d2
  isplitl [o0 o1]
  · iapply (oRing c).2
    isplitl [o0]; · iexact o0
    iexact o1
  iexact HS

end Rest

/-- The kernel's body, with what is done with its result. -/
theorem body_then (c : Dev nD) (XX : Buf (Elt F) (xA.view.loc (c : Thread nD τ))) (XH : Buf (Elt F) (hA.view.loc (c : Thread nD τ)))
    (XW : Buf (Elt F) (wA.view.loc (c : Thread nD τ))) (XD : Buf (Elt F) (dA.view.loc (c : Thread nD τ))) (XO : Buf (Elt F) (oA.view.loc (c : Thread nD τ)))
    (gf : Memref sig .tc .vmem S4x1x2048 .f32) (hgf : gf.IsWhole) (fg : Memref sig .tc .vmem S1x2048 .f32) (hfg : fg.IsWhole)
    (GF : Buf (Elt F) (gf.view.loc (c : Thread nD τ))) (FG : Buf (Elt F) (fg.view.loc (c : Thread nD τ))) (Q : PUnit → sProp 𝕄) :
    iprop(atRest c XX XH XW XD gf fg GF FG XO ∗ (∀ a, atRest c XX XH XW XD gf fg GF FG (outC c XX XH XW XD XO gf fg GF FG 16) -∗ Q a))
      ⊢ wp frame (wpE (defs₀ (F := F)) 𝒱₀ (c : Thread nD τ) none) Set.univ (bodyG gf hgf fg hfg) Q :=
  (sep_mono_l (bodyRun c XX XH XW XD XO gf hgf fg hfg GF FG)).trans (wp_wand_r _ _ _)

/-! ## The pipeline's proof data -/

section Run
variable (m : (ℓ : Loc nD τ sig) → Buf (Elt F) ℓ) (ρ : Dev nD → PrngReg)

abbrev st0 (t : Fin cfg0.N) : Memref sig .tc .vmem S4x1x2048 .f32 := win0_0.stage (cfg0.slots t 0)
abbrev st1 (t : Fin cfg0.N) : Memref sig .tc .vmem S1x2048 .f32 := win0_1.stage (cfg0.slots t 1)
abbrev hst0 (t : Fin cfg0.N) : (st0 t).IsWhole := hstage0_0 0
abbrev hst1 (t : Fin cfg0.N) : (st1 t).IsWhole := hstage0_1 0

/-- What the result array ends at, by the windows' blocks at the one point. -/
def outAt (t : Fin cfg0.N) (c : Dev nD) : Buf (Elt F) (oA.view.loc (c : Thread nD τ)) :=
  outC c (V m c main_v0) (V m c main_v2) (V m c main_v5) (V m c main_v7) (V m c main_v9) (st0 t) (st1 t)
    ((st0 t).view.rep (iblk m c 0 t)) ((st1 t).view.rep (iblk m c 1 t)) 16
abbrev outF (c : Dev nD) : Buf (Elt F) (oA.view.loc (c : Thread nD τ)) := outAt m t0_0 c

/-- The argument arrays, as the kernel finds them. -/
abbrev argsP (c : Dev nD) : sProp 𝕄 :=
  iprop((((c : Thread nD τ).loc main_arg0) ↦{fullShare} V m c main_arg0) ∗ (((c : Thread nD τ).loc main_arg1) ↦{fullShare} V m c main_arg1)
    ∗ (((c : Thread nD τ).loc main_arg2) ↦{fullShare} V m c main_arg2) ∗ (((c : Thread nD τ).loc main_arg3) ↦{fullShare} V m c main_arg3)
    ∗ (((c : Thread nD τ).loc main_arg4) ↦{fullShare} V m c main_arg4) ∗ (((c : Thread nD τ).loc main_arg5) ↦{fullShare} V m c main_arg5))

/-- What the kernel's body is given besides the two windows, the result array at `f`. -/
def restAt (c : Dev nD) (f : Buf (Elt F) (oA.view.loc (c : Thread nD τ))) : sProp 𝕄 :=
  iprop(argsP m c ∗ slotsP c (V m c main_v0) (V m c main_v2) (V m c main_v5) (V m c main_v7) ∗ oAll c f)

def dats (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => iblk m c 1 t
  Φ t := restAt m c (if t.val = 0 then V m c main_v9 else outF m c)
  q _ := fullShare
  owed _ := 0

theorem before_w0 (c : Dev nD) (t : Fin cfg0.N) (d) : (dats m 0 c).before 0 t d = iblk m c 0 t := by
  unfold Dat.before; rw [if_pos (fetch0_0 t)]; unfold Dat.fetched Dat.blockOf iblk; dsimp only [dats]; rfl
theorem before_w1 (c : Dev nD) (t : Fin cfg0.N) (d) : (dats m 0 c).before 1 t d = iblk m c 1 t := by
  unfold Dat.before; rw [if_pos (fetch0_1 t)]; unfold Dat.fetched Dat.blockOf iblk; dsimp only [dats]; rfl
theorem after_w0 (c : Dev nD) (t : Fin cfg0.N) : (dats m 0 c).after 0 t = iblk m c 0 t := by dsimp only [dats]
theorem after_w1 (c : Dev nD) (t : Fin cfg0.N) : (dats m 0 c).after 1 t = iblk m c 1 t := by dsimp only [dats]
theorem Φ_first (c : Dev nD) (t : Fin (cfg0.N + 1)) (h : t.val = 0) : (dats m 0 c).Φ t = restAt m c (V m c main_v9) := congrArg (restAt m c) (if_pos h)
theorem Φ_last (c : Dev nD) (t : Fin (cfg0.N + 1)) (h : ¬ t.val = 0) : (dats m 0 c).Φ t = restAt m c (outF m c) := congrArg (restAt m c) (if_neg h)

/-! ## The body's obligation -/

theorem defs_tc : (defs₀ (F := F)) .tc cfg0.body
    = fun a => bodyG (win0_0.stage (a.2 0)) (hstage0_0 0) (win0_1.stage (a.2 1)) (hstage0_1 0) := rfl
theorem prog_eq (t : Fin cfg0.N) : (defs₀ (F := F)) .tc cfg0.body (cfg0.bodyArgs t (cfg0.slots t)) = bodyG (st0 t) (hst0 t) (st1 t) (hst1 t) :=
  (congrFun defs_tc _).trans rfl

set_option maxHeartbeats 400000 in
set_option backward.isDefEq.respectTransparency.types false in
theorem body_obligation (c : Dev nD) : BodyObligation (dats (F := F) m 0 c) (defs₀ (F := F)) 𝒱₀ () Set.univ := fun t => by
  have ht : t.val = 0 := congrArg Fin.val (fin_N0 t)
  rw [bigSep_W0, bigSep_W0]
  dsimp only
  simp only [before_w0, before_w1, after_w0, after_w1]
  rw [Φ_first m c t.castSucc ht, Φ_last m c t.succ (Nat.succ_ne_zero _), show outF m c = outAt m t c from congrArg (outAt m · c) (fin_N0 t).symm]
  unfold Dat.owesAt Pipeline.owesWithin
  rw [show (dats m 0 c).owed t.castSucc = 0 from rfl, show (dats m 0 c).owed t.succ = 0 from rfl]
  unfold owns restAt
  iintro ⟨⟨HA, ⟨Ha, Hs, HW, HR, HO0, HO1⟩, HO⟩, ⟨%W, -, Hw⟩, ⟨%d0, %g0, %hg0, H0⟩, ⟨%d1, %g1, %hg1, H1⟩⟩
  ihave H0 := (pointsTo_rep_entails (c : Thread nD τ) (st0 t) g0 fullShare) $$ H0
  ihave H1 := (pointsTo_rep_entails (c : Thread nD τ) (st1 t) g1 fullShare) $$ H1
  rw [hg0, hg1]
  sl_rw [prog_eq t]
  iapply (body_then c (V m c main_v0) (V m c main_v2) (V m c main_v5) (V m c main_v7) (V m c main_v9) (st0 t) (hst0 t) (st1 t) (hst1 t)
    ((st0 t).view.rep (iblk m c 0 t)) ((st1 t).view.rep (iblk m c 1 t)) _)
  isplitl [Ha Hs HW HR HO0 HO1 HO Hw H0 H1]
  · isplitl [Ha]; · iexact Ha
    isplitl [Hs]; · iexact Hs
    isplitl [H0]; · iexact H0
    isplitl [H1]; · iexact H1
    isplitl [HW]; · iexact HW
    isplitl [HR]; · iexact HR
    isplitl [HO]; · iexact HO
    isplitl [HO0]; · iexact HO0
    isplitl [HO1]; · iexact HO1
    iexists W; iexact Hw
  · iintro %a ⟨Ha, Hs, H0, H1, HW, HR, HO, HO0, HO1, ⟨%W', Hw⟩⟩
    isplitl [HA Ha Hs HW HR HO HO0 HO1]
    · isplitl [HA]; · iexact HA
      isplitr [HO]
      · isplitl [Ha]; · iexact Ha
        isplitl [Hs]; · iexact Hs
        isplitl [HW]; · iexact HW
        isplitl [HR]; · iexact HR
        isplitl [HO0]; · iexact HO0
        iexact HO1
      iexact HO
    isplitl [Hw]
    · iexists W'; isplitr; · ipureintro; exact fun _ _ => Or.inl trivial
      iexact Hw
    isplitl [H0]
    · iexists _; isplitr; · ipureintro; exact View.read_rep _ _
      iexact H0
    iexists _; isplitr; · ipureintro; exact View.read_rep _ _
    iexact H1

/-! ## The run -/

def intoΦ (c : Dev nD) : sProp 𝕄 :=
  iprop((argsP m c ∗ oAll c (V m c main_v9))
    ∗ (xAll c (V m c main_v0) fullShare ∗ hAll c (V m c main_v2) fullShare ∗ wAll c (V m c main_v5) fullShare ∗ dAll c (V m c main_v7) fullShare)
    ∗ Pipeline.ownSems0 osem c)
def outOfΦ (c : Dev nD) : sProp 𝕄 := iprop(argsP m c ∗ oAll c (outF m c))
def u₀ : UU nD τ := (initOf (Pipeline.cells cfgs cellOf_inj) (Pipeline.launchToks cfgs cellOf_inj), 1)
/-- The memory at the end: the arguments as launched, the result array at `outF`. -/
def QY (c : Dev nD) (s : MemSt nD τ sig (Elt F)) : Prop :=
  (s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)
    ∧ s.mem ((c : Thread nD τ).loc main_arg4) = m ((c : Thread nD τ).loc main_arg4)
    ∧ s.mem ((c : Thread nD τ).loc main_arg5) = m ((c : Thread nD τ).loc main_arg5))
  ∧ s.mem ((c : Thread nD τ).loc main_v9) = outF m c

set_option backward.isDefEq.respectTransparency.types false in
/-- From any memory with the counters at zero, for any float values: every fair run of the program ends, with the
    arguments unchanged, the result array at `outF` and every counter at zero. -/
theorem run_main : θ_run defs (onTc (τ := τ) (main (F := F))) (s₀ m ρ) (fun r => (∀ c, QY m c r.2) ∧ r.2.sem = fun _ => 0) :=
  Pipeline.θ_run_region_kit_quiescent cfgs (dats m) () (0 : Fin 1) launch0 ownSemFacts EP defs₀ 𝒱₀ m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m)
    (hmain := Pipeline.hmain_prefix cfgs 0 defs₀ 𝒱₀ m main hostOps0 hostOps0_sub hostOps0_fresh main_chain)
    (hA := fun _ _ => rfl)
    (X := intoΦ m) (Y := outOfΦ m) (Z := fun _ => iprop(emp))
    (hX := fun c => by
      rw [unscopedRest0_eq]
      unfold intoΦ
      iintro ⟨⟨A0, A1, A2, A3, A4, A5, X, -, H, -, W, -, D, O⟩, HS, -, -⟩; imodintro
      isplitl
      · isplitl [A0 A1 A2 A3 A4 A5 O]
        · isplitr [O]
          · isplitl [A0]; · iexact A0
            isplitl [A1]; · iexact A1
            isplitl [A2]; · iexact A2
            isplitl [A3]; · iexact A3
            isplitl [A4]; · iexact A4
            iexact A5
          iexact O
        isplitr [HS]
        · isplitl [X]; · iexact X
          isplitl [H]; · iexact H
          isplitl [W]; · iexact W
          iexact D
        iexact HS
      iempintro)
    (hin := fun c => by
      rw [scopedRest0_eq, Φ_first m c 0 rfl]
      unfold intoΦ restAt
      iintro ⟨⟨⟨HA, HO⟩, HX, HS⟩, Hb⟩
      isplitl [HA]; · iexact HA
      isplitr [HO]
      · iapply (slots_in c _ _ _ _)
        isplitl [HX]; · iexact HX
        isplitl [HS]; · iexact HS
        iexact Hb
      iexact HO)
    (hout := fun c => by
      rw [scopedRest0_eq, Φ_last m c (Fin.last cfg0.N) (by decide)]
      unfold outOfΦ restAt
      iintro ⟨HA, HS, HO⟩
      isplitl [HA HO]
      · isplitl [HA]; · iexact HA
        iexact HO
      iapply (slots_out c _ _ _ _)
      iexact HS)
    (QY := QY m)
    (hY := fun c s' => by
      unfold outOfΦ
      iintro ⟨⟨⟨A0, A1, A2, A3, A4, A5⟩, O⟩, -, HSI⟩
      icombine HSI A0 gives %h0
      icombine HSI A1 gives %h1
      icombine HSI A2 gives %h2
      icombine HSI A3 gives %h3
      icombine HSI A4 gives %h4
      icombine HSI A5 gives %h5
      icombine HSI O gives %h6
      imodintro
      isplitr
      · ipureintro
        exact ⟨⟨(Buf.eq_of_forall_mem_univ h0).trans (V_main_arg0 m c), (Buf.eq_of_forall_mem_univ h1).trans (V_main_arg1 m c),
          (Buf.eq_of_forall_mem_univ h2).trans (V_main_arg2 m c), (Buf.eq_of_forall_mem_univ h3).trans (V_main_arg3 m c),
          (Buf.eq_of_forall_mem_univ h4).trans (V_main_arg4 m c), (Buf.eq_of_forall_mem_univ h5).trans (V_main_arg5 m c)⟩, Buf.eq_of_forall_mem_univ h6⟩
      iexact HSI)
    (hQ := fun _ hh hz => ⟨fun c => (hh c).2, hz⟩)

end Run

end Cert.Proof.Ffn

end
-- ==== Proof.Frames.lean ====
/-
  The two frames: the run at the ideal floats, and at the bits, where the two programs have the same text.
-/
module

public import proofs.«01_k».proof.Defs
public import proofs.«01_k».proof.Proof.Gen.Kernel
public import proofs.«01_k».proof.Proof.Launch

@[expose] public section

set_option maxRecDepth 65536

noncomputable section

namespace Cert.Proof.Ffn

open Cert.KernelIdeal Cert.KernelIdeal.Gen
open Idealize.ShloMosaic Idealize.SL.Sem

variable {F : FTy → Type} [FloatOps F]

theorem frame_kernelIdeal : Cert.quiescent_KernelIdeal := fun m ρ _ =>
  (θ_run Cert.KernelIdeal.defs _ _).mono (fun _ h => ⟨fun c => (h.1 c).1, h.2⟩) (run_main (F := Ideal) m ρ)

/-! The two programs' body tables are one: their kernels have one text. -/

theorem ffn_same : Cert.Kernel.cc0_ffn (F := F) = Cert.KernelIdeal.cc0_ffn (F := F) := rfl

theorem defs₀_same : Cert.Kernel.defs₀ (F := F) = Cert.KernelIdeal.defs₀ (F := F) := by
  unfold Cert.Kernel.defs₀ Cert.KernelIdeal.defs₀
  refine congrArg Defs.onTc (funext fun l => funext fun a => ?_)
  match l, a with
  | 0, (t, s) =>
    show Cert.Kernel.cc0_ffn (F := F) _ _ _ _ _ _ _ _ _ _ _ _ _ _ _ _ _ _ _ _ _ _ _ _ _ _ _ _ _ _ _ _ _ _ _ _ = _
    rw [ffn_same]

theorem defs_same : Cert.Kernel.defs (F := F) = Cert.KernelIdeal.defs (F := F) := congrArg (Pipeline.defs (Cert.Kernel.pcfgs (F := F))) defs₀_same

theorem frame_kernel : Cert.quiescent_Kernel := fun m ρ _ => by
  rw [defs_same]
  exact (θ_run Cert.KernelIdeal.defs _ _).mono (fun _ h => ⟨fun c => (h.1 c).1, h.2⟩) (run_main (F := Bits) m ρ)

end Cert.Proof.Ffn

end
-- ==== Proof.Reference.lean ====
/-
  The references' frames: they have no counters, so all are zero.
-/
module

public import proofs.«01_k».proof.Defs
public import proofs.«01_k».proof.Proof.Gen.ReferenceIdeal.Run
public import proofs.«01_k».proof.Proof.Gen.ReferenceOutIdeal.Run
public import proofs.«01_k».proof.Proof.Gen.ReferenceInIdeal.Run
public import proofs.«01_k».proof.Proof.Gen.ReferenceNormIdeal.Run
public import Idealize.ShloMosaic.Lib.Quiescent

@[expose] public section

namespace Cert.Proof.Ffn

open Idealize.ShloMosaic

/-- The reference has no counters: they are all zero. -/
theorem frame_reference : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run m ρ)

end Cert.Proof.Ffn

namespace Cert.Proof.Mix

open Idealize.ShloMosaic

theorem frame_reference : Cert.quiescent_ReferenceOutIdeal := fun m ρ _ =>
  (θ_run Cert.ReferenceOutIdeal.defs _ _).mono (fun r h => ⟨fun c => (h c).2.2, sem_eq_zero_of_no_sems (by decide) r.2⟩) (Cert.ReferenceOutIdeal.Value.run m ρ)

end Cert.Proof.Mix

namespace Cert.Proof.Into

open Idealize.ShloMosaic

theorem frame_reference : Cert.quiescent_ReferenceInIdeal := fun m ρ _ =>
  (θ_run Cert.ReferenceInIdeal.defs _ _).mono (fun r h => ⟨fun c => (h c).2, sem_eq_zero_of_no_sems (by decide) r.2⟩) (Cert.ReferenceInIdeal.Value.run m ρ)

end Cert.Proof.Into

namespace Cert.Proof.Lead

open Idealize.ShloMosaic

theorem frame_reference : Cert.quiescent_ReferenceNormIdeal := fun m ρ _ =>
  (θ_run Cert.ReferenceNormIdeal.defs _ _).mono (fun r h => ⟨fun c => (h c).2.2, sem_eq_zero_of_no_sems (by decide) r.2⟩) (Cert.ReferenceNormIdeal.Value.run m ρ)

end Cert.Proof.Lead
-- ==== Proof.Block.lean ====
/-
  What one tile adds to the accumulator and what the last tile of a row block stores, element by element, over the reals.
-/
module

public import proofs.«01_k».proof.Proof.State
public import Idealize.ShloMosaic.Lib.Pointwise

@[expose] public section

set_option maxRecDepth 65536

noncomputable section

namespace Cert.Proof.Ffn

open Cert.KernelIdeal Cert.KernelIdeal.Gen
open Idealize.ShloMosaic

/-- A window loaded under a leading unit axis, at an index. -/
theorem lift_eq {Val : EltTy → Type} {e : EltTy} {s t : Shape} (h : t.numel = s.numel) (v : t.Idx → Val e) (y : s.Idx) :
    lift h v y = v (Shape.reshapeEquiv h.symm y) := rfl

/-- The activation of one inner unit from a row `h` and its gate and up columns. -/
def actOf (h g u : Fin 2048 → EReal) : EReal :=
  (∑ d, h d * g d) * Ideal.logistic (∑ d, h d * g d) * (∑ d, h d * u d)

theorem tile_apply (H : S512x2048.Idx → Elt Ideal .bf16) (G U : S2048x512.Idx → Elt Ideal .bf16) (a : S512x2048.Idx → Elt Ideal .f32)
    (D : S512x2048.Idx → Elt Ideal .bf16) (p : Fin 512) (q : Fin 2048) :
    k0_pay3 (F := Ideal) (lift squeezes_S1x512x2048_S512x2048.numel_eq H) (lift squeezes_S1x2048x512_S2048x512.numel_eq G)
      (lift squeezes_S1x2048x512_S2048x512.numel_eq U) a (lift squeezes_S1x512x2048_S512x2048.numel_eq D) (ix2 p q)
    = a (ix2 p q) + ∑ k : Fin 512, actOf (fun d => H (ix2 p d)) (fun d => G (ix2 d k)) (fun d => U (ix2 d k)) * D (ix2 k q) := by
  pointwise [k0_pay3, actOf, lift_eq]

/-- A row of the block before the last norm: the residual plus the gated sum. -/
def resOf (x g a : Fin 2048 → EReal) (q : Fin 2048) : EReal := x q + g q * a q

/-- A row after the last norm, `f` the norm's scale. -/
def normOf (y f : Fin 2048 → EReal) (q : Fin 2048) : EReal :=
  y q * Ideal.rsqrt (Ideal.div (∑ k, y k * y k) (Ideal.ofBits .f32 0x45000000#32) + Ideal.ofBits .f32 0x358637BD#32) * f q

theorem block_apply (X : S512x2048.Idx → Elt Ideal .f32) (g : S1x1x2048.Idx → Elt Ideal .f32) (a : S512x2048.Idx → Elt Ideal .f32)
    (f : S1x2048.Idx → Elt Ideal .f32) (p : Fin 512) (q : Fin 2048) :
    k0_pay1 (F := Ideal) (lift squeezes_S1x512x2048_S512x2048.numel_eq X) g a f (ix2 p q)
    = normOf (resOf (fun k => X (ix2 p k)) (fun k => g (ix3 0 0 k)) (fun k => a (ix2 p k))) (fun k => f (ix2 0 k)) q := by
  pointwise [k0_pay1, normOf, resOf, lift_eq]

end Cert.Proof.Ffn

end
-- ==== Proof.Array.lean ====
/-
  The accumulator over a row block's tiles, and the result array over the row blocks, in terms of the whole arrays.
-/
module

public import proofs.«01_k».proof.Proof.Block

@[expose] public section

set_option maxRecDepth 65536

noncomputable section

namespace Cert.Proof.Ffn

open Cert.KernelIdeal Cert.KernelIdeal.Gen
open Idealize.ShloMosaic
open Idealize.ShloMosaic.TcCoe

/-- Row `p` of row block `b`; column `k` of column block `t`; inner unit `k` of tile `t`. -/
def rowI (b : Fin 16) (p : Fin 512) : Fin 8192 := ⟨512 * b.val + p.val, by omega⟩
def colI (t : Fin 22) (k : Fin 512) : Fin 11264 := ⟨512 * t.val + k.val, by omega⟩
def innI (t : Fin 11) (k : Fin 512) : Fin 5632 := ⟨512 * t.val + k.val, by omega⟩

section Blocks
variable {F : FTy → Type} [FloatOps F]
variable (c : Dev nD) (XX : Buf (Elt F) (xA.view.loc (c : Thread nD τ))) (XH : Buf (Elt F) (hA.view.loc (c : Thread nD τ)))
  (XW : Buf (Elt F) (wA.view.loc (c : Thread nD τ))) (XD : Buf (Elt F) (dA.view.loc (c : Thread nD τ))) (XO : Buf (Elt F) (oA.view.loc (c : Thread nD τ)))
  (gf : Memref sig .tc .vmem S4x1x2048 .f32) (fg : Memref sig .tc .vmem S1x2048 .f32)
  (GF : Buf (Elt F) (gf.view.loc (c : Thread nD τ))) (FG : Buf (Elt F) (fg.view.loc (c : Thread nD τ)))

/-- Where a block's element lies in its array. -/
theorem row_emb {n : ℕ} (b : ℕ) (h : ∀ a, (![512 * b, 0] : Fin 2 → ℕ) a + S512x2048.size a ≤ (⟨2, ![n, 2048]⟩ : Shape).size a)
    (p : Fin 512) (q : Fin 2048) (r : Fin n) (hr : r.val = 512 * b + p.val) :
    (Rect.unit (s := ⟨2, ![n, 2048]⟩) ![512 * b, 0] S512x2048.size h).emb (ix2 p q : S512x2048.Idx) = (ix2 r q : (⟨2, ![n, 2048]⟩ : Shape).Idx) := by
  funext a
  apply Fin.ext
  match a with
  | ⟨0, _⟩ => show 512 * b + 1 * p.val = r.val; omega
  | ⟨1, _⟩ => show 0 + 1 * q.val = q.val; omega

/-- Where a column block's element lies in its array. -/
theorem col_emb (b : Fin 22) (d : Fin 2048) (k : Fin 512) :
    (Rect.unit (s := S2048x11264) (colOff b) S2048x512.size (inbW b)).emb (ix2 d k : S2048x512.Idx) = (ix2 d (colI b k) : S2048x11264.Idx) := by
  funext a
  apply Fin.ext
  match a with
  | ⟨0, _⟩ => show 0 + 1 * d.val = d.val; omega
  | ⟨1, _⟩ => show 512 * b.val + 1 * k.val = 512 * b.val + k.val; omega

theorem xV_apply (b : Fin 16) (p : Fin 512) (q : Fin 2048) : xV c XX b (ix2 p q) = XX (ix2 (rowI b p) q) :=
  congrArg XX (row_emb (n := 8192) b.val (inbX b) p q (rowI b p) rfl)
theorem hV_apply (b : Fin 16) (p : Fin 512) (q : Fin 2048) : hV c XH b (ix2 p q) = XH (ix2 (rowI b p) q) :=
  congrArg XH (row_emb (n := 8192) b.val (inbX b) p q (rowI b p) rfl)
theorem dV_apply (t : Fin 11) (k : Fin 512) (q : Fin 2048) : dV c XD t (ix2 k q) = XD (ix2 (innI t k) q) :=
  congrArg XD (row_emb (n := 5632) t.val (inbD t) k q (innI t k) rfl)
theorem wV_apply (t : Fin 22) (d : Fin 2048) (k : Fin 512) : wV c XW t (ix2 d k) = XW (ix2 d (colI t k)) :=
  congrArg XW (col_emb t d k)

/-! ## The result array, row block by row block -/

/-- What a view written whole holds at the place of an element. -/
theorem read_at {Val : EltTy → Type} {κ : Kind} {sp : Space} {s : Shape} {e : EltTy} (w : View sig κ sp s e) (he : w.ty.elt = e) (f : w.ty.Contents Val)
    (v : s.Idx → Val e) {y : s.Idx} {i : w.ty.Idx} (hi : w.emb y = i) :
    w.writes Val f [⟨Rect.whole s, v⟩] i = _root_.cast (congrArg Val he.symm) (v y) := by
  subst hi
  have h := congrFun (View.read_writes_whole w f v) y
  rw [View.read_apply] at h
  rw [← h, cast_cast, cast_eq]

/-- A row block just written: its rows hold it. -/
theorem oPut_in (b : Fin 16) (v : S512x2048.Idx → Elt F .f32) (f : Buf (Elt F) (oA.view.loc (c : Thread nD τ))) (p : Fin 512) (q : Fin 2048) :
    oPut c b v f (ix2 (rowI b p) q) = v (ix2 p q) := by
  have e : (oB b).view.emb (ix2 p q) = (ix2 (rowI b p) q : S8192x2048.Idx) := row_emb (n := 8192) b.val (inbX b) p q (rowI b p) rfl
  unfold oPut
  exact read_at (oB b).view rfl f v e

/-- The other rows stay. -/
theorem oPut_out (b : Fin 16) (v : S512x2048.Idx → Elt F .f32) (f : Buf (Elt F) (oA.view.loc (c : Thread nD τ))) (r : Fin 8192) (q : Fin 2048)
    (h : r.val / 512 ≠ b.val) : oPut c b v f (ix2 r q) = f (ix2 r q) := by
  have hne : ∀ y : S512x2048.Idx, (oB b).view.emb y ≠ (ix2 r q : S8192x2048.Idx) := fun y e => by
    have h0 : 512 * b.val + 1 * (y 0).val = r.val := congrArg (fun i : S8192x2048.Idx => (i 0).val) e
    have h1 : (y 0).val < 512 := (y 0).isLt
    omega
  unfold oPut
  exact View.writes_apply_of_forall_ne (oB b).view f [⟨Rect.whole S512x2048, v⟩] hne

/-- Once the row blocks below `n` are written, each holds its value. -/
theorem outC_apply (n : ℕ) (hn : n ≤ 16) (b : Fin 16) (hb : b.val < n) (p : Fin 512) (q : Fin 2048) :
    outC c XX XH XW XD XO gf fg GF FG n (ix2 (rowI b p) q) = resV c XX XH XW XD gf fg GF FG b.val (ix2 p q) := by
  induction n with
  | zero => exact absurd hb (Nat.not_lt_zero _)
  | succ n ih =>
    have hr : (rb n).val = n := Nat.mod_eq_of_lt (by omega)
    show oPut c (rb n) (resV c XX XH XW XD gf fg GF FG n) (outC c XX XH XW XD XO gf fg GF FG n) (ix2 (rowI b p) q) = _
    by_cases h : b.val = n
    · obtain rfl : b = rb n := Fin.ext (h.trans hr.symm)
      rw [oPut_in, hr]
    · refine (oPut_out c (rb n) _ _ (rowI b p) q ?_).trans (ih (by omega) (by omega))
      show (512 * b.val + p.val) / 512 ≠ (rb n).val
      omega

end Blocks

/-! ## The accumulator, tile by tile -/

section Sum
variable (c : Dev nD) (XH : Buf (Elt Ideal) (hA.view.loc (c : Thread nD τ)))
  (XW : Buf (Elt Ideal) (wA.view.loc (c : Thread nD τ))) (XD : Buf (Elt Ideal) (dA.view.loc (c : Thread nD τ)))

/-- The gate's and the up product's column of inner unit `k`. -/
def gateI (k : Fin 5632) : Fin 11264 := ⟨k.val, by omega⟩
def upI (k : Fin 5632) : Fin 11264 := ⟨5632 + k.val, by omega⟩

/-- Inner unit `k`'s share of the down product at row `r`, column `q`. -/
def unitV (r : Fin 8192) (q : Fin 2048) (k : Fin 5632) : EReal :=
  actOf (fun d => XH (ix2 r d)) (fun d => XW (ix2 d (gateI k))) (fun d => XW (ix2 d (upI k))) * XD (ix2 k q)

/-- One step adds its tile's inner units. -/
theorem tileV_apply (b : Fin 16) (t : Fin 11) (a : S512x2048.Idx → Elt Ideal .f32) (p : Fin 512) (q : Fin 2048) :
    tileV c XH XW XD (11 * b.val + t.val) a (ix2 p q) = a (ix2 p q) + ∑ k : Fin 512, unitV c XH XW XD (rowI b p) q (innI t k) := by
  have hb : rb ((11 * b.val + t.val) / 11) = b := Fin.ext (by show (11 * b.val + t.val) / 11 % 16 = b.val; omega)
  have hg (k : Fin 512) : colI (gt (11 * b.val + t.val)) k = gateI (innI t k) :=
    Fin.ext (by show 512 * ((11 * b.val + t.val) % 11) + k.val = 512 * t.val + k.val; omega)
  have hu (k : Fin 512) : colI (ut (11 * b.val + t.val)) k = upI (innI t k) :=
    Fin.ext (by show 512 * (11 + (11 * b.val + t.val) % 11) + k.val = 5632 + (512 * t.val + k.val); omega)
  have ht : tl (11 * b.val + t.val) = t := Fin.ext (by show (11 * b.val + t.val) % 11 = t.val; omega)
  unfold tileV
  rw [tile_apply, hb, ht]
  refine congrArg (a (ix2 p q) + ·) (Finset.sum_congr rfl fun k _ => ?_)
  refine congrArg₂ (· * ·) (congr (congrArg₂ actOf (funext fun d => hV_apply c XH b p d) (funext fun d => (wV_apply c XW _ d k).trans ?_))
    (funext fun d => (wV_apply c XW _ d k).trans ?_)) (dV_apply c XD t k q)
  · rw [hg]
  · rw [hu]

/-- The accumulator after `n` tiles of row block `b`: the sum over their inner units. -/
theorem accV_apply (b : Fin 16) (p : Fin 512) (q : Fin 2048) : ∀ n : ℕ, n < 11 →
    accV c XH XW XD (11 * b.val + n + 1) (ix2 p q)
      = ∑ t ∈ Finset.range (n + 1), ∑ k : Fin 512, unitV c XH XW XD (rowI b p) q (innI (Fin.ofNat 11 t) k)
  | 0, _ => by
    have h0 : (11 * b.val) % 11 = 0 := by omega
    show tileV c XH XW XD (11 * b.val + (0 : Fin 11).val) (if (11 * b.val) % 11 = 0 then k0_pay2 (F := Ideal) else accV c XH XW XD (11 * b.val)) (ix2 p q) = _
    rw [if_pos h0, tileV_apply, Finset.sum_range_one]
    have hz : k0_pay2 (F := Ideal) (ix2 p q) = 0 := by pointwise [k0_pay2]
    rw [hz, zero_add]
    rfl
  | n + 1, hn => by
    have h0 : ¬(11 * b.val + (n + 1)) % 11 = 0 := by omega
    have ht : (⟨n + 1, hn⟩ : Fin 11) = Fin.ofNat 11 (n + 1) := Fin.ext (Nat.mod_eq_of_lt hn).symm
    show tileV c XH XW XD (11 * b.val + (⟨n + 1, hn⟩ : Fin 11).val)
      (if (11 * b.val + (n + 1)) % 11 = 0 then k0_pay2 (F := Ideal) else accV c XH XW XD (11 * b.val + (n + 1))) (ix2 p q) = _
    rw [if_neg h0, tileV_apply, Finset.sum_range_succ _ (n + 1), ht, ← accV_apply b p q n (by omega)]
    rfl

/-- Tiles and their inner units are all the inner units. -/
theorem sum_tiles (f : Fin 5632 → EReal) : ∑ t : Fin 11, ∑ k : Fin 512, f (innI t k) = ∑ k : Fin 5632, f k := by
  rw [← Fintype.sum_prod_type' (fun t k => f (innI t k))]
  exact Fintype.sum_equiv (finProdFinEquiv (m := 11) (n := 512)) _ _ fun x => congrArg f (Fin.ext (by
    show 512 * x.1.val + x.2.val = (finProdFinEquiv x).val; rw [finProdFinEquiv_apply_val]; omega))

/-- The accumulator when a row block ends: the down product's row. -/
theorem acc_full (b : Fin 16) (p : Fin 512) (q : Fin 2048) :
    accV c XH XW XD (11 * b.val + 11) (ix2 p q) = ∑ k : Fin 5632, unitV c XH XW XD (rowI b p) q k := by
  refine (accV_apply c XH XW XD b p q 10 (by omega)).trans ?_
  rw [← sum_tiles, Finset.sum_range]
  exact Finset.sum_congr rfl fun t _ => by rw [show Fin.ofNat 11 t.val = t from Fin.ext (Nat.mod_eq_of_lt t.isLt)]

end Sum

end Cert.Proof.Ffn

end
-- ==== Proof.Whole.lean ====
/-
  The reference, element by element over the reals: the layer's equation that the kernel is held to.
-/
module

public import proofs.«01_k».proof.Proof.Array
public import proofs.«01_k».proof.Proof.Gen.ReferenceIdeal.Run

@[expose] public section

set_option maxRecDepth 65536

noncomputable section

namespace Cert.Proof.Ffn

open Cert.ReferenceIdeal Cert.ReferenceIdeal.Gen
open Idealize.ShloMosaic

/-- The feed-forward block at sequence `s`, position `r`, column `q`: from the residual stream `x`, the activations `h`, the
    gate `g`, the gate and up weights `w`, the down weights `d` and the last norm's scale `f`. -/
def ffnOf (x h : (⟨3, ![4, 2048, 2048]⟩ : Shape).Idx → EReal) (g : (⟨2, ![4, 2048]⟩ : Shape).Idx → EReal) (w : (⟨3, ![1, 2048, 11264]⟩ : Shape).Idx → EReal)
    (d : (⟨3, ![1, 5632, 2048]⟩ : Shape).Idx → EReal) (f : (⟨1, ![2048]⟩ : Shape).Idx → EReal) (s : Fin 4) (r q : Fin 2048) : EReal :=
  normOf (resOf (fun k => x (ix3 s r k)) (fun k => g (ix2 s k)) (fun k => ∑ u : Fin 5632,
    actOf (fun i => h (ix3 s r i)) (fun i => w (ix3 0 i (gateI u))) (fun i => w (ix3 0 i (upI u))) * d (ix3 0 u k))) (fun k => f (ix1 k)) q

section
variable (x h : FVec Ideal S4x2048x2048 .f32) (g : FVec Ideal S4x2048 .f32) (w : FVec Ideal S1x2048x11264 .f32)
  (d : FVec Ideal S1x5632x2048 .f32) (f : FVec Ideal S2048 .f32)

/-- The reference's activations. -/
def actR : FVec Ideal S4x2048x5632 .f32 :=
  have P : FVec Ideal S4x2048x11264 .f32 := Host.dotGeneral (F := Ideal) dot_S4x2048x2048_S2048x11264_S4x2048x11264_2_0_01_1_n_n none h (shapeCast S2048x11264 w shapeCasts_S1x2048x11264_S2048x11264)
  have G : FVec Ideal S4x2048x5632 .f32 := extractStridedSlice S4x2048x5632 ![0, 0, 0] P slices_S4x2048x11264_S4x2048x5632_0_0_0
  have one : FVec Ideal S4x2048x5632 .f32 := broadcastInDim S4x2048x5632 ![] bcast_S_S4x2048x5632 (constant S_ .f32 0x3F800000#32)
  mulf (mulf G (Host.divf one (addf one (Host.exp (Host.negf G))))) (extractStridedSlice S4x2048x5632 ![0, 0, 5632] P slices_S4x2048x11264_S4x2048x5632_0_0_5632)

/-- The reference's rows before the last norm. -/
def resR : FVec Ideal S4x2048x2048 .f32 :=
  addf x (mulf (broadcastInDim S4x2048x2048 ![0, 1, 2] bcast_S4x1x2048_S4x2048x2048_0_1_2 (broadcastInDim S4x1x2048 ![0, 2] bcast_S4x2048_S4x1x2048_0_2 g))
    (Host.dotGeneral dot_S4x2048x5632_S5632x2048_S4x2048x2048_2_0_01_1_n_n none (actR h w) (shapeCast S5632x2048 d shapeCasts_S1x5632x2048_S5632x2048)))

/-- The reference's last norm. -/
def normR (y : FVec Ideal S4x2048x2048 .f32) : FVec Ideal S8192x2048 .f32 :=
  shapeCast S8192x2048 (mulf (mulf y (broadcastInDim S4x2048x2048 ![0, 1, 2] bcast_S4x2048x1_S4x2048x2048_0_1_2 (Host.rsqrt (addf
    (Host.divf (broadcastInDim S4x2048x1 ![0, 1] bcast_S4x2048_S4x2048x1_0_1 (Host.reduceAdd (mulf y y) (constant S_ .f32 0x00000000#32) reducesTo_S4x2048x2048_S4x2048_d2 h_S_))
      (broadcastInDim S4x2048x1 ![] bcast_S_S4x2048x1 (constant S_ .f32 0x45000000#32)))
    (broadcastInDim S4x2048x1 ![] bcast_S_S4x2048x1 (constant S_ .f32 0x358637BD#32))))))
    (broadcastInDim S4x2048x2048 ![0, 1, 2] bcast_S1x1x2048_S4x2048x2048_0_1_2 (broadcastInDim S1x1x2048 ![2] bcast_S2048_S1x1x2048_2 f))) shapeCasts_S4x2048x2048_S8192x2048

theorem actR_apply (s : Fin 4) (r : Fin 2048) (u : Fin 5632) :
    actR h w (ix3 s r u) = actOf (fun i => h (ix3 s r i)) (fun i => w (ix3 0 i (gateI u))) (fun i => w (ix3 0 i (upI u))) := by
  pointwise [actR, actOf, gateI, upI, Ideal.logistic]

theorem resR_apply (s : Fin 4) (r k : Fin 2048) :
    resR x h g w d (ix3 s r k) = resOf (fun k => x (ix3 s r k)) (fun k => g (ix2 s k)) (fun k => ∑ u : Fin 5632, actR h w (ix3 s r u) * d (ix3 0 u k)) k := by
  pointwise [resR, resOf]

theorem normR_apply (y : FVec Ideal S4x2048x2048 .f32) (R : Fin 8192) (q : Fin 2048) :
    normR f y (ix2 R q) = normOf (fun k => y (ix3 ⟨R.val / 2048, by omega⟩ ⟨R.val % 2048, by omega⟩ k)) (fun k => f (ix1 k)) q := by
  pointwise [normR, normOf]

end

/-- The reference's result, at row `R` and column `q`. -/
theorem reference_apply (m : (ℓ : Loc nD τ sig) → Buf (Elt Ideal) ℓ) (c : Dev nD) (R : Fin 8192) (q : Fin 2048) :
    Cert.ReferenceIdeal.Value.res_main_v25 m c (ix2 R q)
    = ffnOf (m (c.tc.loc main_arg0)) (m (c.tc.loc main_arg1)) (m (c.tc.loc main_arg2)) (m (c.tc.loc main_arg3)) (m (c.tc.loc main_arg4))
        (m (c.tc.loc main_arg5)) ⟨R.val / 2048, by omega⟩ ⟨R.val % 2048, by omega⟩ q := by
  have h : Cert.ReferenceIdeal.Value.res_main_v25 m c = normR (m (c.tc.loc main_arg5)) (resR (m (c.tc.loc main_arg0)) (m (c.tc.loc main_arg1))
    (m (c.tc.loc main_arg2)) (m (c.tc.loc main_arg3)) (m (c.tc.loc main_arg4))) := rfl
  refine (congrFun h (ix2 R q)).trans ((normR_apply _ _ R q).trans ?_)
  refine congrArg (fun y => normOf y _ q) (funext fun k => (resR_apply _ _ _ _ _ _ _ k).trans ?_)
  refine congrArg (fun a => resOf _ _ a k) (funext fun j => Finset.sum_congr rfl fun u _ => ?_)
  rw [actR_apply]

end Cert.Proof.Ffn

end
-- ==== Proof.Result.lean ====
/-
  The kernel's result, element by element over the reals, from its arguments: the layer's equation; and its
  equality with the reference's result.
-/
module

public import proofs.«01_k».proof.Defs
public import proofs.«01_k».proof.Proof.Gen.ReferenceIdeal.Run
public import proofs.«01_k».proof.Proof.Launch
public import proofs.«01_k».proof.Proof.Whole

@[expose] public section

set_option maxRecDepth 65536

noncomputable section

namespace Cert.Proof.Ffn

open Cert.KernelIdeal Cert.KernelIdeal.Gen
open Idealize.SL.Sem
open Idealize.ShloMosaic Idealize.ShloMosaic.TcCoe Idealize.ShloMosaic.StableHlo

variable (m : (ℓ : Loc nD τ sig) → Buf (Elt Ideal) ℓ) (c : Dev nD)

/-! ## The host's reshapes and casts, element by element -/

theorem rows_apply {φ : FTy} (x : FVec Ideal S4x2048x2048 φ) (r : Fin 8192) (k : Fin 2048) :
    shapeCast S8192x2048 x shapeCasts_S4x2048x2048_S8192x2048 (ix2 r k) = x (ix3 ⟨r.val / 2048, by omega⟩ ⟨r.val % 2048, by omega⟩ k) := by
  pointwise []
theorem rows_cast_apply (x : FVec Ideal S4x2048x2048 .f32) (r : Fin 8192) (k : Fin 2048) :
    truncf .bf16 (shapeCast S8192x2048 x shapeCasts_S4x2048x2048_S8192x2048 : FVec Ideal S8192x2048 .f32) bitsLt_bf16_f32 (ix2 r k)
      = x (ix3 ⟨r.val / 2048, by omega⟩ ⟨r.val % 2048, by omega⟩ k) := by
  pointwise []
theorem up_cast_apply (x : FVec Ideal S1x2048x11264 .f32) (d : Fin 2048) (k : Fin 11264) :
    truncf .bf16 (shapeCast S2048x11264 x shapeCasts_S1x2048x11264_S2048x11264 : FVec Ideal S2048x11264 .f32) bitsLt_bf16_f32 (ix2 d k) = x (ix3 0 d k) := by
  pointwise []
theorem down_cast_apply (x : FVec Ideal S1x5632x2048 .f32) (k : Fin 5632) (q : Fin 2048) :
    truncf .bf16 (shapeCast S5632x2048 x shapeCasts_S1x5632x2048_S5632x2048 : FVec Ideal S5632x2048 .f32) bitsLt_bf16_f32 (ix2 k q) = x (ix3 0 k q) := by
  pointwise []
theorem gates_apply (x : FVec Ideal S4x2048 .f32) (s : Fin 4) (k : Fin 2048) :
    shapeCast S4x1x2048 x shapeCasts_S4x2048_S4x1x2048 (ix3 s 0 k) = x (ix2 s k) := by
  pointwise []
theorem scale_apply (x : FVec Ideal S2048 .f32) (k : Fin 2048) : shapeCast S1x2048 x shapeCasts_S2048_S1x2048 (ix2 0 k) = x (ix1 k) := by
  pointwise []

/-! ## The arrays the kernel reads, from the arguments -/

theorem x_apply (r : Fin 8192) (k : Fin 2048) :
    V m c main_v0 (ix2 r k) = m (c.tc.loc main_arg0) (ix3 ⟨r.val / 2048, by omega⟩ ⟨r.val % 2048, by omega⟩ k) := by
  have h : V m c main_v0 = shapeCast S8192x2048 (m (c.tc.loc main_arg0)) shapeCasts_S4x2048x2048_S8192x2048 := by unfold V; after_results; rfl
  exact (congrFun h _).trans (rows_apply (φ := .f32) (m (c.tc.loc main_arg0)) r k)
theorem h_apply (r : Fin 8192) (k : Fin 2048) :
    V m c main_v2 (ix2 r k) = m (c.tc.loc main_arg1) (ix3 ⟨r.val / 2048, by omega⟩ ⟨r.val % 2048, by omega⟩ k) := by
  have h : V m c main_v2 = truncf .bf16 (shapeCast S8192x2048 (m (c.tc.loc main_arg1)) shapeCasts_S4x2048x2048_S8192x2048 : FVec Ideal S8192x2048 .f32) bitsLt_bf16_f32 := by
    unfold V; after_results; rfl
  exact (congrFun h _).trans (rows_cast_apply (m (c.tc.loc main_arg1)) r k)
theorem w_apply (d : Fin 2048) (k : Fin 11264) : V m c main_v5 (ix2 d k) = m (c.tc.loc main_arg3) (ix3 0 d k) := by
  have h : V m c main_v5 = truncf .bf16 (shapeCast S2048x11264 (m (c.tc.loc main_arg3)) shapeCasts_S1x2048x11264_S2048x11264 : FVec Ideal S2048x11264 .f32) bitsLt_bf16_f32 := by
    unfold V; after_results; rfl
  exact (congrFun h _).trans (up_cast_apply (m (c.tc.loc main_arg3)) d k)
theorem d_apply (k : Fin 5632) (q : Fin 2048) : V m c main_v7 (ix2 k q) = m (c.tc.loc main_arg4) (ix3 0 k q) := by
  have h : V m c main_v7 = truncf .bf16 (shapeCast S5632x2048 (m (c.tc.loc main_arg4)) shapeCasts_S1x5632x2048_S5632x2048 : FVec Ideal S5632x2048 .f32) bitsLt_bf16_f32 := by
    unfold V; after_results; rfl
  exact (congrFun h _).trans (down_cast_apply (m (c.tc.loc main_arg4)) k q)
theorem g_apply (s : Fin 4) (k : Fin 2048) : V m c main_v3 (ix3 s 0 k) = m (c.tc.loc main_arg2) (ix2 s k) := by
  have h : V m c main_v3 = shapeCast S4x1x2048 (m (c.tc.loc main_arg2)) shapeCasts_S4x2048_S4x1x2048 := by unfold V; after_results; rfl
  exact (congrFun h _).trans (gates_apply (m (c.tc.loc main_arg2)) s k)
theorem f_apply (k : Fin 2048) : V m c main_v8 (ix2 0 k) = m (c.tc.loc main_arg5) (ix1 k) := by
  have h : V m c main_v8 = shapeCast S1x2048 (m (c.tc.loc main_arg5)) shapeCasts_S2048_S1x2048 := by unfold V; after_results; rfl
  exact (congrFun h _).trans (scale_apply (m (c.tc.loc main_arg5)) k)

/-- The two staged arrays are staged whole. -/
theorem iblk0 : iblk m c 0 t0_0 = V m c main_v3 :=
  Memref.read_access_unit_zero (Elt Ideal) main_v3 (show (fun a => win0_0.index t0_0 a * main_v3.ty.shape.size a) = fun _ => 0 from
    funext fun a => by fin_cases a <;> decide) (fun a => by fin_cases a <;> decide) (V m c main_v3)
theorem iblk1 : iblk m c 1 t0_0 = V m c main_v8 :=
  Memref.read_access_unit_zero (Elt Ideal) main_v8 (show (fun a => win0_1.index t0_0 a * main_v8.ty.shape.size a) = fun _ => 0 from
    funext fun a => by fin_cases a <;> decide) (fun a => by fin_cases a <;> decide) (V m c main_v8)

/-- A row block's gate, and the last norm's scale, as the kernel loads them. -/
theorem gate_apply (b : Fin 16) (k : Fin 2048) :
    (st0 t0_0).view.readAt (Elt Ideal) (gfRect b).toLoadRect ((st0 t0_0).view.rep (iblk m c 0 t0_0)) (ix3 0 0 k)
      = m (c.tc.loc main_arg2) (ix2 ⟨b.val / 4, by omega⟩ k) := by
  refine (congrFun (View.readAt_rep (st0 t0_0).view (gfRect b).toLoadRect (iblk m c 0 t0_0)) (ix3 0 0 k)).trans ?_
  have e : (gfRect b).toLoadRect.idx (ix3 0 0 k : S1x1x2048.Idx) = (ix3 ⟨b.val / 4, by omega⟩ 0 k : S4x1x2048.Idx) := by
    funext a
    apply Fin.ext
    match a with
    | ⟨0, _⟩ => show b.val / 4 + 1 * 0 = b.val / 4; omega
    | ⟨1, _⟩ => rfl
    | ⟨2, _⟩ => show 0 + 1 * k.val = k.val; omega
  exact (congrArg (iblk m c 0 t0_0) e).trans ((congrFun (iblk0 m c) _).trans (g_apply m c _ k))
theorem norm_scale_apply (k : Fin 2048) :
    (st1 t0_0).view.readAt (Elt Ideal) fgRect.toLoadRect ((st1 t0_0).view.rep (iblk m c 1 t0_0)) (ix2 0 k) = m (c.tc.loc main_arg5) (ix1 k) := by
  refine (congrFun (View.readAt_rep (st1 t0_0).view fgRect.toLoadRect (iblk m c 1 t0_0)) (ix2 0 k)).trans ?_
  have e : fgRect.toLoadRect.idx (ix2 0 k : S1x2048.Idx) = (ix2 0 k : S1x2048.Idx) := by
    funext a
    apply Fin.ext
    match a with
    | ⟨0, _⟩ => rfl
    | ⟨1, _⟩ => show 0 + 1 * k.val = k.val; omega
  exact (congrArg (iblk m c 1 t0_0) e).trans ((congrFun (iblk1 m c) _).trans (f_apply m c k))

/-! ## The result -/

/-- The kernel's result, at row `R` and column `q`. -/
theorem kernel_apply (R : Fin 8192) (q : Fin 2048) :
    outF m c (ix2 R q) = ffnOf (m (c.tc.loc main_arg0)) (m (c.tc.loc main_arg1)) (m (c.tc.loc main_arg2)) (m (c.tc.loc main_arg3)) (m (c.tc.loc main_arg4))
      (m (c.tc.loc main_arg5)) ⟨R.val / 2048, by omega⟩ ⟨R.val % 2048, by omega⟩ q := by
  obtain ⟨b, p, rfl⟩ : ∃ (b : Fin 16) (p : Fin 512), R = rowI b p :=
    ⟨⟨R.val / 512, by omega⟩, ⟨R.val % 512, by omega⟩, Fin.ext (by show R.val = 512 * (R.val / 512) + R.val % 512; omega)⟩
  have hb : rb b.val = b := Fin.ext (Nat.mod_eq_of_lt b.isLt)
  refine (outC_apply c _ _ _ _ _ _ _ _ _ 16 le_rfl b b.isLt p q).trans ?_
  unfold resV
  rw [hb]
  refine (block_apply _ _ _ _ p q).trans ?_
  have hs : (⟨b.val / 4, by omega⟩ : Fin 4) = ⟨(rowI b p).val / 2048, by omega⟩ := Fin.ext (by show b.val / 4 = (512 * b.val + p.val) / 2048; omega)
  refine congr (congrArg₂ normOf (congr (congrArg₂ resOf (funext fun k => ?_) (funext fun k => ?_)) (funext fun k => ?_)) (funext fun k => norm_scale_apply m c k)) rfl
  · exact (xV_apply c _ b p k).trans (x_apply m c _ k)
  · exact (gate_apply m c b k).trans (by rw [hs])
  · refine (acc_full c _ _ _ b p k).trans (Finset.sum_congr rfl fun u _ => ?_)
    refine congrArg₂ (· * ·) (congr (congrArg₂ actOf (funext fun i => h_apply m c _ i) (funext fun i => w_apply m c i _)) (funext fun i => w_apply m c i _)) (d_apply m c u k)

/-- The two programs' results are one array, from one set of arguments. -/
theorem result_same (m' : (ℓ : Loc Cert.ReferenceIdeal.nD Cert.ReferenceIdeal.τ Cert.ReferenceIdeal.sig) → Buf (Elt Ideal) ℓ)
    (h0 : m' (c.tc.loc Cert.ReferenceIdeal.main_arg0) = m (c.tc.loc main_arg0)) (h1 : m' (c.tc.loc Cert.ReferenceIdeal.main_arg1) = m (c.tc.loc main_arg1))
    (h2 : m' (c.tc.loc Cert.ReferenceIdeal.main_arg2) = m (c.tc.loc main_arg2)) (h3 : m' (c.tc.loc Cert.ReferenceIdeal.main_arg3) = m (c.tc.loc main_arg3))
    (h4 : m' (c.tc.loc Cert.ReferenceIdeal.main_arg4) = m (c.tc.loc main_arg4)) (h5 : m' (c.tc.loc Cert.ReferenceIdeal.main_arg5) = m (c.tc.loc main_arg5)) :
    Cert.ReferenceIdeal.Value.res_main_v25 m' c = outF m c := by
  refine funext fun (i : S8192x2048.Idx) => ?_
  rw [eq_ix2 i]
  refine (reference_apply m' c (i 0) (i 1)).trans (Eq.trans ?_ (kernel_apply m c (i 0) (i 1)).symm)
  rw [h0, h1, h2, h3, h4, h5]

/-- The kernel's result is the reference's. -/
theorem algebraic : Cert.algebraic_KernelIdeal_ReferenceIdeal := fun m ρ m' ρ' _ hm =>
  ⟨fun c => outF m c, (θ_run Cert.KernelIdeal.defs _ _).mono (fun _ h c => ⟨(h.1 c).2, (h.1 c).1⟩) (run_main (F := Ideal) m ρ),
    (θ_run Cert.ReferenceIdeal.defs _ _).mono (fun _ h c => ⟨(h c).1.trans (result_same m c m' (hm c).1 (hm c).2.1 (hm c).2.2.1 (hm c).2.2.2.1
      (hm c).2.2.2.2.1 (hm c).2.2.2.2.2), (h c).2⟩) (Cert.ReferenceIdeal.Value.run m' ρ')⟩

end Cert.Proof.Ffn

end
-- ==== Proof.OutBlock.lean ====
/-
  What one row block of the output projection's call stores, element by element, over the reals: the residual plus the
  gated projection, and that row after the norm and the modulation.
-/
module

public import proofs.«01_k».proof.Proof.Gen.KernelOutIdeal.Value
public import proofs.«01_k».proof.Proof.Block
public import Idealize.ShloMosaic.Lib.Pointwise
public import Idealize.ShloMosaic.Lib.Pipeline.ValueKit

@[expose] public section

set_option maxRecDepth 65536

noncomputable section

namespace Cert.Proof.Mix

open Cert.KernelOutIdeal Cert.KernelOutIdeal.Gen
open Cert.Proof.Ffn (resOf normOf)
open Idealize.ShloMosaic

/-- A row normed, then scaled and shifted by the row's modulation. -/
def modOf (y f sh sc : Fin 2048 → EReal) (q : Fin 2048) : EReal :=
  normOf y f q * (Ideal.ofBits .f32 0x3F800000#32 + sc q) + sh q

/-- A row of the residual plus the gated projection of the two mixers' rows, `u` and `v` the two halves of the weights. -/
def mixRow (a b : Fin 1024 → EReal) (x g : Fin 2048 → EReal) (u v : Fin 1024 → Fin 2048 → EReal) : Fin 2048 → EReal :=
  resOf x g fun j => ∑ k, a k * u k j + ∑ k, b k * v k j

theorem mixRow_congr {a a' b b' : Fin 1024 → EReal} {x x' g g' : Fin 2048 → EReal} {u u' v v' : Fin 1024 → Fin 2048 → EReal} (q : Fin 2048)
    (ha : ∀ k, a k = a' k) (hb : ∀ k, b k = b' k) (hx : ∀ k, x k = x' k) (hg : ∀ k, g k = g' k) (hu : ∀ k j, u k j = u' k j) (hv : ∀ k j, v k j = v' k j) :
    mixRow a b x g u v q = mixRow a' b' x' g' u' v' q := by
  obtain rfl := funext ha; obtain rfl := funext hb; obtain rfl := funext hx; obtain rfl := funext hg
  obtain rfl := funext fun k => funext (hu k); obtain rfl := funext fun k => funext (hv k); rfl
theorem modOf_congr {y y' f f' sh sh' sc sc' : Fin 2048 → EReal} (q : Fin 2048)
    (hy : ∀ k, y k = y' k) (hf : ∀ k, f k = f' k) (hs : ∀ k, sh k = sh' k) (hc : ∀ k, sc k = sc' k) :
    modOf y f sh sc q = modOf y' f' sh' sc' q := by
  obtain rfl := funext hy; obtain rfl := funext hf; obtain rfl := funext hs; obtain rfl := funext hc; rfl

theorem pay8_apply (A : FVec Ideal S256x1024 .bf16) (W : FVec Ideal S1024x2048 .bf16) (B : FVec Ideal S256x1024 .bf16) (W' : FVec Ideal S1024x2048 .bf16)
    (X : FVec Ideal S256x2048 .f32) (g : FVec Ideal S1x1x2048 .f32) (p : Fin 256) (q : Fin 2048) :
    k0_pay8 (F := Ideal) A W B W' X g (ix2 p q)
    = mixRow (fun k => A (ix2 p k)) (fun k => B (ix2 p k)) (fun k => X (ix2 p k)) (fun k => g (ix3 0 0 k)) (fun k j => W (ix2 k j)) (fun k j => W' (ix2 k j)) q := by
  pointwise [k0_pay8, mixRow, resOf]

theorem pay1_apply (y : FVec Ideal S256x2048 .f32) (f : FVec Ideal S1x2048 .f32) (sh sc : FVec Ideal S1x1x2048 .f32) (p : Fin 256) (q : Fin 2048) :
    k0_pay1 (F := Ideal) y (k0_pay9 f) sh sc (ix2 p q)
    = modOf (fun k => y (ix2 p k)) (fun k => f (ix2 0 k)) (fun k => sh (ix3 0 0 k)) (fun k => sc (ix3 0 0 k)) q := by
  pointwise [k0_pay1, k0_pay9, modOf, normOf]

/-! ## The two halves of the row block -/

theorem ld_low (x : FVec Ideal S512x1024 .bf16) (p : Fin 256) (k : Fin 1024) :
    View.ld (Val := Elt Ideal) (e' := .bf16) x r0_0 (ix2 p k) = x (ix2 ⟨p.val, by omega⟩ k) := congrArg x (by
  funext a; apply Fin.ext
  match a with
  | ⟨0, _⟩ => show 0 + 1 * p.val = p.val; omega
  | ⟨1, _⟩ => show 0 + 1 * k.val = k.val; omega)
theorem ld_high (x : FVec Ideal S512x1024 .bf16) (p : Fin 256) (k : Fin 1024) :
    View.ld (Val := Elt Ideal) (e' := .bf16) x r0_6 (ix2 p k) = x (ix2 ⟨256 + p.val, by omega⟩ k) := congrArg x (by
  funext a; apply Fin.ext
  match a with
  | ⟨0, _⟩ => show 256 + 1 * p.val = 256 + p.val; omega
  | ⟨1, _⟩ => show 0 + 1 * k.val = k.val; omega)
theorem emb_low (p : Fin 256) (k : Fin 2048) : r0_3.emb (ix2 p k : S256x2048.Idx) = (ix2 ⟨p.val, by omega⟩ k : S512x2048.Idx) := by
  funext a; apply Fin.ext
  match a with
  | ⟨0, _⟩ => show 0 + 1 * p.val = p.val; omega
  | ⟨1, _⟩ => show 0 + 1 * k.val = k.val; omega
theorem emb_high (p : Fin 256) (k : Fin 2048) : r0_7.emb (ix2 p k : S256x2048.Idx) = (ix2 ⟨256 + p.val, by omega⟩ k : S512x2048.Idx) := by
  funext a; apply Fin.ext
  match a with
  | ⟨0, _⟩ => show 256 + 1 * p.val = 256 + p.val; omega
  | ⟨1, _⟩ => show 0 + 1 * k.val = k.val; omega
theorem ld_low_wide (x : FVec Ideal S512x2048 .f32) (p : Fin 256) (k : Fin 2048) :
    View.ld (Val := Elt Ideal) (e' := .f32) x r0_3 (ix2 p k) = x (ix2 ⟨p.val, by omega⟩ k) := congrArg x (emb_low p k)
theorem ld_high_wide (x : FVec Ideal S512x2048 .f32) (p : Fin 256) (k : Fin 2048) :
    View.ld (Val := Elt Ideal) (e' := .f32) x r0_7 (ix2 p k) = x (ix2 ⟨256 + p.val, by omega⟩ k) := congrArg x (emb_high p k)
theorem ld_top (x : FVec Ideal S2048x2048 .bf16) (k : Fin 1024) (j : Fin 2048) :
    View.ld (Val := Elt Ideal) (e' := .bf16) x r0_1 (ix2 k j) = x (ix2 ⟨k.val, by omega⟩ j) := congrArg x (by
  funext a; apply Fin.ext
  match a with
  | ⟨0, _⟩ => show 0 + 1 * k.val = k.val; omega
  | ⟨1, _⟩ => show 0 + 1 * j.val = j.val; omega)
theorem ld_bottom (x : FVec Ideal S2048x2048 .bf16) (k : Fin 1024) (j : Fin 2048) :
    View.ld (Val := Elt Ideal) (e' := .bf16) x r0_2 (ix2 k j) = x (ix2 ⟨1024 + k.val, by omega⟩ j) := congrArg x (by
  funext a; apply Fin.ext
  match a with
  | ⟨0, _⟩ => show 1024 + 1 * k.val = 1024 + k.val; omega
  | ⟨1, _⟩ => show 0 + 1 * j.val = j.val; omega)
theorem ld_gate (x : FVec Ideal S1x1x2048 .f32) : View.ld (Val := Elt Ideal) (e' := .f32) x r0_4 = x :=
  View.ld_unit_lit (Val := Elt Ideal) (e := .f32) (S := S1x1x2048) (off := ![0, 0, 0]) inb_S1x1x2048_S1x1x2048_0_0_0 x (by decide)
theorem ld_scale (x : FVec Ideal S1x2048 .f32) : View.ld (Val := Elt Ideal) (e' := .f32) x r0_5 = x :=
  View.ld_unit_lit (Val := Elt Ideal) (e := .f32) (S := S1x2048) (off := ![0, 0]) inb_S1x2048_S1x2048_0_0 x (by decide)

/-- No row of the lower half lies in the upper store. -/
theorem low_not_mem (p : Fin 256) (q : Fin 2048) : (ix2 ⟨p.val, by omega⟩ q : S512x2048.Idx) ∉ r0_7.set := fun h => by
  obtain ⟨x, hx⟩ := r0_7.exists_idx_of_mem h
  have h0 := congrArg Fin.val (congrFun hx (0 : Fin 2))
  have h1 : (r0_7.idx x (0 : Fin 2)).val = 256 + 1 * (x (0 : Fin 2)).val := rfl
  have h2 : ((ix2 ⟨p.val, by omega⟩ q : S512x2048.Idx) (0 : Fin 2)).val = p.val := rfl
  omega

/-- The two stores of a block, read in its lower and in its upper half. -/
theorem canon_low {Val : EltTy → Type} [∀ e, Nonempty (Val e)] {e : EltTy} (u v : S256x2048.Idx → Val e) (p : Fin 256) (q : Fin 2048) :
    View.canon ([⟨r0_7, u⟩, ⟨r0_3, v⟩] : List (View.Piece Val S512x2048 e)) (ix2 ⟨p.val, by omega⟩ q) = v (ix2 p q) :=
  (View.canon_cons_of_not_mem ⟨r0_7, u⟩ [⟨r0_3, v⟩] (low_not_mem p q)).trans
    ((congrArg (View.canon ([⟨r0_3, v⟩] : List (View.Piece Val S512x2048 e))) (emb_low p q).symm).trans (View.canon_cons_emb r0_3 v [] (ix2 p q)))
theorem canon_high {Val : EltTy → Type} [∀ e, Nonempty (Val e)] {e : EltTy} (u v : S256x2048.Idx → Val e) (p : Fin 256) (q : Fin 2048) :
    View.canon ([⟨r0_7, u⟩, ⟨r0_3, v⟩] : List (View.Piece Val S512x2048 e)) (ix2 ⟨256 + p.val, by omega⟩ q) = u (ix2 p q) :=
  (congrArg (View.canon ([⟨r0_7, u⟩, ⟨r0_3, v⟩] : List (View.Piece Val S512x2048 e))) (emb_high p q).symm).trans (View.canon_cons_emb r0_7 u _ (ix2 p q))

variable (A B : FVec Ideal S512x1024 .bf16) (X : FVec Ideal S512x2048 .f32) (g : FVec Ideal S1x1x2048 .f32) (W : FVec Ideal S2048x2048 .bf16)
  (f : FVec Ideal S1x2048 .f32) (sh sc : FVec Ideal S1x1x2048 .f32)

/-- A row of the block before the norm. -/
def rowOf (p : Fin 512) : Fin 2048 → EReal :=
  mixRow (fun k => A (ix2 p k)) (fun k => B (ix2 p k)) (fun k => X (ix2 p k)) (fun k => g (ix3 0 0 k))
    (fun k j => W (ix2 ⟨k.val, by omega⟩ j)) (fun k j => W (ix2 ⟨1024 + k.val, by omega⟩ j))

theorem half_low (p : Fin 256) (q : Fin 2048) :
    k0_pay8 (F := Ideal) (View.ld A r0_0) (View.ld W r0_1) (View.ld B r0_0) (View.ld W r0_2) (View.ld X r0_3) (View.ld g r0_4) (ix2 p q)
      = rowOf A B X g W ⟨p.val, by omega⟩ q := by
  exact (pay8_apply _ _ _ _ _ _ p q).trans (mixRow_congr q (ld_low A p) (ld_low B p) (ld_low_wide X p) (fun k => congrFun (ld_gate g) _) (ld_top W) (ld_bottom W))
theorem half_high (p : Fin 256) (q : Fin 2048) :
    k0_pay8 (F := Ideal) (View.ld A r0_6) (View.ld W r0_1) (View.ld B r0_6) (View.ld W r0_2) (View.ld X r0_7) (View.ld g r0_4) (ix2 p q)
      = rowOf A B X g W ⟨256 + p.val, by omega⟩ q := by
  exact (pay8_apply _ _ _ _ _ _ p q).trans (mixRow_congr q (ld_high A p) (ld_high B p) (ld_high_wide X p) (fun k => congrFun (ld_gate g) _) (ld_top W) (ld_bottom W))

/-- Every row of the block lies in one of its halves. -/
theorem by_halves {P : Fin 512 → Prop} (hl : ∀ p : Fin 256, P ⟨p.val, by omega⟩) (hh : ∀ p : Fin 256, P ⟨256 + p.val, by omega⟩) (p : Fin 512) : P p := by
  by_cases h : p.val < 256
  · exact hl ⟨p.val, h⟩
  · have e : (⟨256 + (p.val - 256), by omega⟩ : Fin 512) = p := Fin.ext (by show 256 + (p.val - 256) = p.val; omega)
    exact e ▸ hh ⟨p.val - 256, by omega⟩

/-- The block of the first result. -/
theorem out8_apply (p : Fin 512) (q : Fin 2048) : out0_8 (F := Ideal) A B X g W f sh sc (ix2 p q) = rowOf A B X g W p q :=
  by_halves (P := fun p => out0_8 (F := Ideal) A B X g W f sh sc (ix2 p q) = rowOf A B X g W p q)
    (fun p => (canon_low _ _ p q).trans (half_low A B X g W p q)) (fun p => (canon_high _ _ p q).trans (half_high A B X g W p q)) p

/-- The block of the second result. -/
theorem out9_apply (p : Fin 512) (q : Fin 2048) : out0_9 (F := Ideal) A B X g W f sh sc (ix2 p q)
    = modOf (rowOf A B X g W p) (fun k => f (ix2 0 k)) (fun k => sh (ix3 0 0 k)) (fun k => sc (ix3 0 0 k)) q := by
  refine by_halves (P := fun p => out0_9 (F := Ideal) A B X g W f sh sc (ix2 p q)
    = modOf (rowOf A B X g W p) (fun k => f (ix2 0 k)) (fun k => sh (ix3 0 0 k)) (fun k => sc (ix3 0 0 k)) q) (fun p => ?_) (fun p => ?_) p
  · refine (canon_low _ _ p q).trans ?_
    refine (pay1_apply (k0_pay8 (F := Ideal) (View.ld A r0_0) (View.ld W r0_1) (View.ld B r0_0) (View.ld W r0_2) (View.ld X r0_3) (View.ld g r0_4)) _ _ _ p q).trans ?_
    exact modOf_congr q (half_low A B X g W p) (fun k => congrFun (ld_scale f) _) (fun k => congrFun (ld_gate sh) _) (fun k => congrFun (ld_gate sc) _)
  · refine (canon_high _ _ p q).trans ?_
    refine (pay1_apply _ _ _ _ p q).trans ?_
    exact modOf_congr q (half_high A B X g W p) (fun k => congrFun (ld_scale f) _) (fun k => congrFun (ld_gate sh) _) (fun k => congrFun (ld_gate sc) _)

end Cert.Proof.Mix

end
-- ==== Proof.OutRead.lean ====
/-
  The rows that the output projection's call stages at each point, from the call's arguments, and its two results from
  the rows.
-/
module

public import proofs.«01_k».proof.Proof.OutBlock

@[expose] public section

set_option maxRecDepth 65536

noncomputable section

namespace Cert.Proof.Mix

open Cert.KernelOutIdeal Cert.KernelOutIdeal.Gen
open Idealize.SL.Sem
open Idealize.ShloMosaic Idealize.ShloMosaic.TcCoe Idealize.ShloMosaic.StableHlo

variable (m : (ℓ : Loc nD τ sig) → Buf (Elt Ideal) ℓ) (c : Dev nD)

theorem points : cfg0.N = 16 := by decide
/-- The array row of a block's row. -/
def outRow (t : Fin cfg0.N) (p : Fin 512) : Fin 8192 := ⟨512 * t.val + p.val, by have := t.isLt.trans_eq points; omega⟩
/-- The sequence that a block's rows are of. -/
def outSeq (t : Fin cfg0.N) : Fin 4 := ⟨t.val / 4, by have := t.isLt.trans_eq points; omega⟩

theorem index_rows : ∀ t : Fin cfg0.N, win0_0.index t = ![t.val, 0] ∧ win0_1.index t = ![t.val, 0] ∧ win0_2.index t = ![t.val, 0]
    ∧ win0_8.index t = ![t.val, 0] ∧ win0_9.index t = ![t.val, 0] := by decide +kernel
theorem index_seq : ∀ t : Fin cfg0.N, win0_3.index t = ![t.val / 4, 0, 0] ∧ win0_6.index t = ![t.val / 4, 0, 0] ∧ win0_7.index t = ![t.val / 4, 0, 0] := by decide +kernel
theorem index_whole : ∀ t : Fin cfg0.N, win0_4.index t = ![0, 0] ∧ win0_5.index t = ![0, 0] := by decide +kernel

theorem a_read (t : Fin cfg0.N) (p : Fin 512) (k : Fin 1024) : iblk m c 0 t (ix2 p k) = V m c main_v1 (ix2 (outRow t p) k) := by
  blk_ext [iblk, outRow, index_rows t]
theorem b_read (t : Fin cfg0.N) (p : Fin 512) (k : Fin 1024) : iblk m c 1 t (ix2 p k) = V m c main_v3 (ix2 (outRow t p) k) := by
  blk_ext [iblk, outRow, index_rows t]
theorem x_read (t : Fin cfg0.N) (p : Fin 512) (k : Fin 2048) : iblk m c 2 t (ix2 p k) = V m c main_v4 (ix2 (outRow t p) k) := by
  blk_ext [iblk, outRow, index_rows t]
theorem g_read (t : Fin cfg0.N) (k : Fin 2048) : iblk m c 3 t (ix3 0 0 k) = V m c main_v5 (ix3 (outSeq t) 0 k) := by
  blk_ext [iblk, outSeq, index_seq t]
theorem w_read (t : Fin cfg0.N) (k j : Fin 2048) : iblk m c 4 t (ix2 k j) = V m c main_v7 (ix2 k j) := by
  blk_ext [iblk, index_whole t]
theorem f_read (t : Fin cfg0.N) (k : Fin 2048) : iblk m c 5 t (ix2 0 k) = V m c main_v9 (ix2 0 k) := by
  blk_ext [iblk, index_whole t]
theorem sh_read (t : Fin cfg0.N) (k : Fin 2048) : iblk m c 6 t (ix3 0 0 k) = V m c main_v10 (ix3 (outSeq t) 0 k) := by
  blk_ext [iblk, outSeq, index_seq t]
theorem sc_read (t : Fin cfg0.N) (k : Fin 2048) : iblk m c 7 t (ix3 0 0 k) = V m c main_v11 (ix3 (outSeq t) 0 k) := by
  blk_ext [iblk, outSeq, index_seq t]

/-- Each result's array, at a row of block `t`, is what point `t` stored. -/
theorem first_block (t : Fin cfg0.N) (p : Fin 512) (q : Fin 2048) : (dats m 0 c).arrAt 8 cfg0.N (ix2 (outRow t p) q : S8192x2048.Idx)
    = out0_8 (F := Ideal) (iblk m c 0 t) (iblk m c 1 t) (iblk m c 2 t) (iblk m c 3 t) (iblk m c 4 t) (iblk m c 5 t) (iblk m c 6 t) (iblk m c 7 t) (ix2 p q) := by
  have h := congrFun ((Cert.KernelOutIdeal.Value.blocks8 m c t (flush0_8 t)).trans (Cert.KernelOutIdeal.Value.flushed8 m c t)) (ix2 p q : S512x2048.Idx)
  refine Eq.trans ?_ h
  generalize (dats m 0 c).arrAt 8 cfg0.N = A
  blk_ext [outRow, index_rows t]
theorem second_block (t : Fin cfg0.N) (p : Fin 512) (q : Fin 2048) : (dats m 0 c).arrAt 9 cfg0.N (ix2 (outRow t p) q : S8192x2048.Idx)
    = out0_9 (F := Ideal) (iblk m c 0 t) (iblk m c 1 t) (iblk m c 2 t) (iblk m c 3 t) (iblk m c 4 t) (iblk m c 5 t) (iblk m c 6 t) (iblk m c 7 t) (ix2 p q) := by
  have h := congrFun ((Cert.KernelOutIdeal.Value.blocks9 m c t (flush0_9 t)).trans (Cert.KernelOutIdeal.Value.flushed9 m c t)) (ix2 p q : S512x2048.Idx)
  refine Eq.trans ?_ h
  generalize (dats m 0 c).arrAt 9 cfg0.N = A
  blk_ext [outRow, index_rows t]

end Cert.Proof.Mix

end
-- ==== Proof.OutWhole.lean ====
/-
  The output projection of the reference, element by element over the reals: the equations that the call's two results
  are held to.
-/
module

public import proofs.«01_k».proof.Proof.OutBlock
public import proofs.«01_k».proof.Proof.Gen.ReferenceOutIdeal.Run

@[expose] public section

set_option maxRecDepth 65536

noncomputable section

namespace Cert.Proof.Mix

open Cert.ReferenceOutIdeal Cert.ReferenceOutIdeal.Gen
open Cert.Proof.Ffn (resOf normOf)
open Idealize.ShloMosaic

/-- The residual stream at sequence `s`, position `r`, after the mixers: `a` and `b` the two mixers' outputs, `x` the stream
    before, `g` the gate, `w` the output projection. -/
def mixOf (a b : (⟨3, ![4, 2048, 1024]⟩ : Shape).Idx → EReal) (x : (⟨3, ![4, 2048, 2048]⟩ : Shape).Idx → EReal) (g : (⟨2, ![4, 2048]⟩ : Shape).Idx → EReal)
    (w : (⟨3, ![1, 2048, 2048]⟩ : Shape).Idx → EReal) (s : Fin 4) (r : Fin 2048) : Fin 2048 → EReal :=
  mixRow (fun k => a (ix3 s r k)) (fun k => b (ix3 s r k)) (fun k => x (ix3 s r k)) (fun k => g (ix2 s k))
    (fun k j => w (ix3 0 ⟨k.val, by omega⟩ j)) (fun k j => w (ix3 0 ⟨1024 + k.val, by omega⟩ j))

/-- The same after the norm before the feed-forward block and its modulation. -/
def actInOf (y f : Fin 2048 → EReal) (sh sc : (⟨2, ![4, 2048]⟩ : Shape).Idx → EReal) (s : Fin 4) : Fin 2048 → EReal :=
  modOf y f (fun k => sh (ix2 s k)) (fun k => sc (ix2 s k))

section
variable (a b : FVec Ideal S4x2048x1024 .f32) (x : FVec Ideal S4x2048x2048 .f32) (g : FVec Ideal S4x2048 .f32) (w : FVec Ideal S1x2048x2048 .f32)
  (f : FVec Ideal S1x2048 .f32) (sh sc : FVec Ideal S4x2048 .f32)

/-- The reference's rows after the mixers. -/
def mixR : FVec Ideal S4x2048x2048 .f32 :=
  addf x (mulf (broadcastInDim S4x2048x2048 ![0, 1, 2] bcast_S4x1x2048_S4x2048x2048_0_1_2 (broadcastInDim S4x1x2048 ![0, 2] bcast_S4x2048_S4x1x2048_0_2 g))
    (Host.dotGeneral dot_S4x2048x2048_S2048x2048_S4x2048x2048_2_0_01_1_n_n none
      (concatenate S4x2048x2048 2 [⟨S4x2048x1024, a⟩, ⟨S4x2048x1024, b⟩] concatenates_S4x2048x1024_S4x2048x1024_S4x2048x2048_d2)
      (shapeCast S2048x2048 w shapeCasts_S1x2048x2048_S2048x2048)))

/-- The reference's norm and modulation. -/
def modR (y : FVec Ideal S4x2048x2048 .f32) : FVec Ideal S4x2048x2048 .f32 :=
  addf (mulf (mulf (mulf y (broadcastInDim S4x2048x2048 ![0, 1, 2] bcast_S4x2048x1_S4x2048x2048_0_1_2 (Host.rsqrt (addf
    (Host.divf (broadcastInDim S4x2048x1 ![0, 1] bcast_S4x2048_S4x2048x1_0_1 (Host.reduceAdd (mulf y y) (constant S_ .f32 0x00000000#32) reducesTo_S4x2048x2048_S4x2048_d2 h_S_))
      (broadcastInDim S4x2048x1 ![] bcast_S_S4x2048x1 (constant S_ .f32 0x45000000#32)))
    (broadcastInDim S4x2048x1 ![] bcast_S_S4x2048x1 (constant S_ .f32 0x358637BD#32))))))
    (broadcastInDim S4x2048x2048 ![0, 1, 2] bcast_S1x1x2048_S4x2048x2048_0_1_2 (broadcastInDim S1x1x2048 ![2] bcast_S2048_S1x1x2048_2 (shapeCast S2048 f shapeCasts_S1x2048_S2048))))
    (broadcastInDim S4x2048x2048 ![0, 1, 2] bcast_S4x1x2048_S4x2048x2048_0_1_2 (addf (broadcastInDim S4x1x2048 ![] bcast_S_S4x1x2048 (constant S_ .f32 0x3F800000#32))
      (broadcastInDim S4x1x2048 ![0, 2] bcast_S4x2048_S4x1x2048_0_2 sc))))
    (broadcastInDim S4x2048x2048 ![0, 1, 2] bcast_S4x1x2048_S4x2048x2048_0_1_2 (broadcastInDim S4x1x2048 ![0, 2] bcast_S4x2048_S4x1x2048_0_2 sh))

/-- An array of rows, the sequences laid end to end. -/
def rowsR (y : FVec Ideal S4x2048x2048 .f32) : FVec Ideal S8192x2048 .f32 := shapeCast S8192x2048 y shapeCasts_S4x2048x2048_S8192x2048

theorem rowsR_apply (y : FVec Ideal S4x2048x2048 .f32) (R : Fin 8192) (q : Fin 2048) :
    rowsR y (ix2 R q) = y (ix3 ⟨R.val / 2048, by omega⟩ ⟨R.val % 2048, by omega⟩ q) := by
  pointwise [rowsR]

theorem mixR_apply (s : Fin 4) (r q : Fin 2048) : mixR a b x g w (ix3 s r q) = mixOf a b x g w s r q := by
  pointwise [mixR, mixOf, mixRow, resOf]

theorem modR_apply (y : FVec Ideal S4x2048x2048 .f32) (s : Fin 4) (r q : Fin 2048) :
    modR f sh sc y (ix3 s r q) = actInOf (fun k => y (ix3 s r k)) (fun k => f (ix2 0 k)) sh sc s q := by
  pointwise [modR, actInOf, modOf, normOf]

/-- The reference's two results, at row `R` and column `q`. -/
theorem reference_first (R : Fin 8192) (q : Fin 2048) :
    rowsR (mixR a b x g w) (ix2 R q) = mixOf a b x g w ⟨R.val / 2048, by omega⟩ ⟨R.val % 2048, by omega⟩ q :=
  (rowsR_apply _ R q).trans (mixR_apply _ _ _ _ _ _ _ q)
theorem reference_second (R : Fin 8192) (q : Fin 2048) :
    truncf .bf16 (rowsR (modR f sh sc (mixR a b x g w))) bitsLt_bf16_f32 (ix2 R q)
      = actInOf (mixOf a b x g w ⟨R.val / 2048, by omega⟩ ⟨R.val % 2048, by omega⟩) (fun k => f (ix2 0 k)) sh sc ⟨R.val / 2048, by omega⟩ q := by
  refine Eq.trans (b := rowsR (modR f sh sc (mixR a b x g w)) (ix2 R q)) (by pointwise []) ?_
  refine (rowsR_apply _ R q).trans ((modR_apply _ _ _ _ _ _ q).trans ?_)
  exact congrArg (fun y => actInOf y _ sh sc _ q) (funext fun k => mixR_apply _ _ _ _ _ _ _ k)

end

end Cert.Proof.Mix

end
-- ==== Proof.OutResult.lean ====
/-
  The output projection's call: its two results, element by element over the reals, from its arguments; and their
  equality with the reference's.
-/
module

public import proofs.«01_k».proof.Defs
public import proofs.«01_k».proof.Proof.OutRead
public import proofs.«01_k».proof.Proof.OutWhole

@[expose] public section

set_option maxRecDepth 65536

noncomputable section

namespace Cert.Proof.Mix

open Cert.KernelOutIdeal Cert.KernelOutIdeal.Gen
open Idealize.SL.Sem
open Idealize.ShloMosaic Idealize.ShloMosaic.TcCoe Idealize.ShloMosaic.StableHlo

variable (m : (ℓ : Loc nD τ sig) → Buf (Elt Ideal) ℓ) (c : Dev nD)

/-! ## The host's reshapes and casts, element by element -/

theorem half_rows_apply (x : FVec Ideal S4x2048x1024 .f32) (r : Fin 8192) (k : Fin 1024) :
    truncf .bf16 (shapeCast S8192x1024 x shapeCasts_S4x2048x1024_S8192x1024 : FVec Ideal S8192x1024 .f32) bitsLt_bf16_f32 (ix2 r k)
      = x (ix3 ⟨r.val / 2048, by omega⟩ ⟨r.val % 2048, by omega⟩ k) := by
  pointwise []
theorem stream_apply (x : FVec Ideal S4x2048x2048 .f32) (r : Fin 8192) (k : Fin 2048) :
    shapeCast S8192x2048 x shapeCasts_S4x2048x2048_S8192x2048 (ix2 r k) = x (ix3 ⟨r.val / 2048, by omega⟩ ⟨r.val % 2048, by omega⟩ k) := by
  pointwise []
theorem proj_apply (x : FVec Ideal S1x2048x2048 .f32) (d k : Fin 2048) :
    truncf .bf16 (shapeCast S2048x2048 x shapeCasts_S1x2048x2048_S2048x2048 : FVec Ideal S2048x2048 .f32) bitsLt_bf16_f32 (ix2 d k) = x (ix3 0 d k) := by
  pointwise []
theorem mod_apply (x : FVec Ideal S4x2048 .f32) (s : Fin 4) (k : Fin 2048) :
    shapeCast S4x1x2048 x shapeCasts_S4x2048_S4x1x2048 (ix3 s 0 k) = x (ix2 s k) := by
  pointwise []
theorem row_apply (x : FVec Ideal S1x2048 .f32) (k : Fin 2048) :
    shapeCast S1x2048 (shapeCast S2048 x shapeCasts_S1x2048_S2048 : FVec Ideal S2048 .f32) shapeCasts_S2048_S1x2048 (ix2 0 k) = x (ix2 0 k) := by
  pointwise []

/-! ## The arrays the kernel reads, from the arguments -/

theorem a_apply (r : Fin 8192) (k : Fin 1024) :
    V m c main_v1 (ix2 r k) = m (c.tc.loc main_arg0) (ix3 ⟨r.val / 2048, by omega⟩ ⟨r.val % 2048, by omega⟩ k) := by
  have h : V m c main_v1 = truncf .bf16 (shapeCast S8192x1024 (m (c.tc.loc main_arg0)) shapeCasts_S4x2048x1024_S8192x1024 : FVec Ideal S8192x1024 .f32) bitsLt_bf16_f32 := by
    unfold V; after_results; rfl
  exact (congrFun h _).trans (half_rows_apply (m (c.tc.loc main_arg0)) r k)
theorem b_apply (r : Fin 8192) (k : Fin 1024) :
    V m c main_v3 (ix2 r k) = m (c.tc.loc main_arg1) (ix3 ⟨r.val / 2048, by omega⟩ ⟨r.val % 2048, by omega⟩ k) := by
  have h : V m c main_v3 = truncf .bf16 (shapeCast S8192x1024 (m (c.tc.loc main_arg1)) shapeCasts_S4x2048x1024_S8192x1024 : FVec Ideal S8192x1024 .f32) bitsLt_bf16_f32 := by
    unfold V; after_results; rfl
  exact (congrFun h _).trans (half_rows_apply (m (c.tc.loc main_arg1)) r k)
theorem x_apply (r : Fin 8192) (k : Fin 2048) :
    V m c main_v4 (ix2 r k) = m (c.tc.loc main_arg2) (ix3 ⟨r.val / 2048, by omega⟩ ⟨r.val % 2048, by omega⟩ k) := by
  have h : V m c main_v4 = shapeCast S8192x2048 (m (c.tc.loc main_arg2)) shapeCasts_S4x2048x2048_S8192x2048 := by unfold V; after_results; rfl
  exact (congrFun h _).trans (stream_apply (m (c.tc.loc main_arg2)) r k)
theorem g_apply (s : Fin 4) (k : Fin 2048) : V m c main_v5 (ix3 s 0 k) = m (c.tc.loc main_arg3) (ix2 s k) := by
  have h : V m c main_v5 = shapeCast S4x1x2048 (m (c.tc.loc main_arg3)) shapeCasts_S4x2048_S4x1x2048 := by unfold V; after_results; rfl
  exact (congrFun h _).trans (mod_apply (m (c.tc.loc main_arg3)) s k)
theorem w_apply (d k : Fin 2048) : V m c main_v7 (ix2 d k) = m (c.tc.loc main_arg4) (ix3 0 d k) := by
  have h : V m c main_v7 = truncf .bf16 (shapeCast S2048x2048 (m (c.tc.loc main_arg4)) shapeCasts_S1x2048x2048_S2048x2048 : FVec Ideal S2048x2048 .f32) bitsLt_bf16_f32 := by
    unfold V; after_results; rfl
  exact (congrFun h _).trans (proj_apply (m (c.tc.loc main_arg4)) d k)
theorem f_apply (k : Fin 2048) : V m c main_v9 (ix2 0 k) = m (c.tc.loc main_arg5) (ix2 0 k) := by
  have h : V m c main_v9 = shapeCast S1x2048 (shapeCast S2048 (m (c.tc.loc main_arg5)) shapeCasts_S1x2048_S2048 : FVec Ideal S2048 .f32) shapeCasts_S2048_S1x2048 := by
    unfold V; after_results; rfl
  exact (congrFun h _).trans (row_apply (m (c.tc.loc main_arg5)) k)
theorem sh_apply (s : Fin 4) (k : Fin 2048) : V m c main_v10 (ix3 s 0 k) = m (c.tc.loc main_arg6) (ix2 s k) := by
  have h : V m c main_v10 = shapeCast S4x1x2048 (m (c.tc.loc main_arg6)) shapeCasts_S4x2048_S4x1x2048 := by unfold V; after_results; rfl
  exact (congrFun h _).trans (mod_apply (m (c.tc.loc main_arg6)) s k)
theorem sc_apply (s : Fin 4) (k : Fin 2048) : V m c main_v11 (ix3 s 0 k) = m (c.tc.loc main_arg7) (ix2 s k) := by
  have h : V m c main_v11 = shapeCast S4x1x2048 (m (c.tc.loc main_arg7)) shapeCasts_S4x2048_S4x1x2048 := by unfold V; after_results; rfl
  exact (congrFun h _).trans (mod_apply (m (c.tc.loc main_arg7)) s k)

/-! ## The results -/

/-- The rows after the mixers, from the call's arguments. -/
def mixM (R : Fin 8192) : Fin 2048 → EReal :=
  mixOf (m (c.tc.loc main_arg0)) (m (c.tc.loc main_arg1)) (m (c.tc.loc main_arg2)) (m (c.tc.loc main_arg3)) (m (c.tc.loc main_arg4))
    ⟨R.val / 2048, by omega⟩ ⟨R.val % 2048, by omega⟩

theorem seq_same (t : Fin cfg0.N) (p : Fin 512) : outSeq t = ⟨(outRow t p).val / 2048, by omega⟩ :=
  Fin.ext (by show t.val / 4 = (512 * t.val + p.val) / 2048; omega)

theorem row_same (t : Fin cfg0.N) (p : Fin 512) (q : Fin 2048) :
    rowOf (iblk m c 0 t) (iblk m c 1 t) (iblk m c 2 t) (iblk m c 3 t) (iblk m c 4 t) p q = mixM m c (outRow t p) q := by
  unfold rowOf mixM mixOf
  exact mixRow_congr q (fun k => (a_read m c t p k).trans (a_apply m c _ k)) (fun k => (b_read m c t p k).trans (b_apply m c _ k))
    (fun k => (x_read m c t p k).trans (x_apply m c _ k)) (fun k => (g_read m c t k).trans ((g_apply m c _ k).trans (by rw [seq_same t p])))
    (fun k j => (w_read m c t ⟨k.val, by omega⟩ j).trans (w_apply m c _ j)) (fun k j => (w_read m c t ⟨1024 + k.val, by omega⟩ j).trans (w_apply m c _ j))

/-- Every row of the array is a row of one point's block. -/
theorem by_blocks {P : Fin 8192 → Prop} (h : ∀ (t : Fin cfg0.N) (p : Fin 512), P (outRow t p)) (R : Fin 8192) : P R := by
  have e : outRow ⟨R.val / 512, by rw [points]; omega⟩ ⟨R.val % 512, by omega⟩ = R :=
    Fin.ext (by show 512 * (R.val / 512) + R.val % 512 = R.val; omega)
  exact e ▸ h _ _

theorem kernel_first (R : Fin 8192) (q : Fin 2048) : (dats m 0 c).arrAt 8 cfg0.N (ix2 R q : S8192x2048.Idx) = mixM m c R q :=
  by_blocks (P := fun R => (dats m 0 c).arrAt 8 cfg0.N (ix2 R q : S8192x2048.Idx) = mixM m c R q)
    (fun t p => (first_block m c t p q).trans ((out8_apply _ _ _ _ _ _ _ _ p q).trans (row_same m c t p q))) R
theorem kernel_second (R : Fin 8192) (q : Fin 2048) : (dats m 0 c).arrAt 9 cfg0.N (ix2 R q : S8192x2048.Idx)
    = actInOf (mixM m c R) (fun k => m (c.tc.loc main_arg5) (ix2 0 k)) (m (c.tc.loc main_arg6)) (m (c.tc.loc main_arg7)) ⟨R.val / 2048, by omega⟩ q :=
  by_blocks (P := fun R => (dats m 0 c).arrAt 9 cfg0.N (ix2 R q : S8192x2048.Idx)
      = actInOf (mixM m c R) (fun k => m (c.tc.loc main_arg5) (ix2 0 k)) (m (c.tc.loc main_arg6)) (m (c.tc.loc main_arg7)) ⟨R.val / 2048, by omega⟩ q)
    (fun t p => (second_block m c t p q).trans ((out9_apply _ _ _ _ _ _ _ _ p q).trans (modOf_congr q (row_same m c t p)
      (fun k => (f_read m c t k).trans (f_apply m c k)) (fun k => (sh_read m c t k).trans ((sh_apply m c _ k).trans (by rw [seq_same t p])))
      (fun k => (sc_read m c t k).trans ((sc_apply m c _ k).trans (by rw [seq_same t p])))))) R

section
variable (m' : (ℓ : Loc Cert.ReferenceOutIdeal.nD Cert.ReferenceOutIdeal.τ Cert.ReferenceOutIdeal.sig) → Buf (Elt Ideal) ℓ)
    (h0 : m' (c.tc.loc Cert.ReferenceOutIdeal.main_arg0) = m (c.tc.loc main_arg0)) (h1 : m' (c.tc.loc Cert.ReferenceOutIdeal.main_arg1) = m (c.tc.loc main_arg1))
    (h2 : m' (c.tc.loc Cert.ReferenceOutIdeal.main_arg2) = m (c.tc.loc main_arg2)) (h3 : m' (c.tc.loc Cert.ReferenceOutIdeal.main_arg3) = m (c.tc.loc main_arg3))
    (h4 : m' (c.tc.loc Cert.ReferenceOutIdeal.main_arg4) = m (c.tc.loc main_arg4)) (h5 : m' (c.tc.loc Cert.ReferenceOutIdeal.main_arg5) = m (c.tc.loc main_arg5))
    (h6 : m' (c.tc.loc Cert.ReferenceOutIdeal.main_arg6) = m (c.tc.loc main_arg6)) (h7 : m' (c.tc.loc Cert.ReferenceOutIdeal.main_arg7) = m (c.tc.loc main_arg7))
include h0 h1 h2 h3 h4

/-- The two programs' first results are one array, from one set of arguments. -/
theorem first_same :
    rowsR (mixR (m' (c.tc.loc Cert.ReferenceOutIdeal.main_arg0)) (m' (c.tc.loc Cert.ReferenceOutIdeal.main_arg1)) (m' (c.tc.loc Cert.ReferenceOutIdeal.main_arg2))
      (m' (c.tc.loc Cert.ReferenceOutIdeal.main_arg3)) (m' (c.tc.loc Cert.ReferenceOutIdeal.main_arg4))) = (dats m 0 c).arrAt 8 cfg0.N := by
  refine funext fun (i : S8192x2048.Idx) => ?_
  rw [eq_ix2 i]
  refine (reference_first _ _ _ _ _ (i 0) (i 1)).trans (Eq.trans ?_ (kernel_first m c (i 0) (i 1)).symm)
  rw [h0, h1, h2, h3, h4]; rfl

include h5 h6 h7
/-- So are their second results. -/
theorem second_same :
    truncf .bf16 (rowsR (modR (m' (c.tc.loc Cert.ReferenceOutIdeal.main_arg5)) (m' (c.tc.loc Cert.ReferenceOutIdeal.main_arg6)) (m' (c.tc.loc Cert.ReferenceOutIdeal.main_arg7))
      (mixR (m' (c.tc.loc Cert.ReferenceOutIdeal.main_arg0)) (m' (c.tc.loc Cert.ReferenceOutIdeal.main_arg1)) (m' (c.tc.loc Cert.ReferenceOutIdeal.main_arg2))
      (m' (c.tc.loc Cert.ReferenceOutIdeal.main_arg3)) (m' (c.tc.loc Cert.ReferenceOutIdeal.main_arg4))))) bitsLt_bf16_f32 = (dats m 0 c).arrAt 9 cfg0.N := by
  refine funext fun (i : S8192x2048.Idx) => ?_
  rw [eq_ix2 i]
  refine (reference_second _ _ _ _ _ _ _ _ (i 0) (i 1)).trans (Eq.trans ?_ (kernel_second m c (i 0) (i 1)).symm)
  rw [h0, h1, h2, h3, h4, h5, h6, h7]; rfl
end

/-- The call's results are the reference's. -/
theorem algebraic : Cert.algebraic_KernelOutIdeal_ReferenceOutIdeal := fun m ρ m' ρ' _ hm =>
  ⟨fun c => (dats m 0 c).arrAt 8 cfg0.N, fun c => (dats m 0 c).arrAt 9 cfg0.N, Cert.KernelOutIdeal.Value.run_blocks m ρ,
    (θ_run Cert.ReferenceOutIdeal.defs _ _).mono (fun _ h c =>
      have ⟨h0, h1, h2, h3, h4, h5, h6, h7⟩ := hm c
      ⟨(h c).1.trans (first_same m c m' h0 h1 h2 h3 h4), (h c).2.1.trans (second_same m c m' h0 h1 h2 h3 h4 h5 h6 h7), (h c).2.2⟩)
      (Cert.ReferenceOutIdeal.Value.run m' ρ')⟩

end Cert.Proof.Mix

end
-- ==== Proof.InRead.lean ====
/-
  What the input projection's call holds at each point: the weight tile, cast once per column tile and kept over the row
  tiles, and the block of the result.
-/
module

public import proofs.«01_k».proof.Proof.Gen.KernelInIdeal.Value
public import Idealize.ShloMosaic.Lib.Pointwise
public import Idealize.ShloMosaic.Lib.Pipeline.ValueKit
public import Idealize.ShloMosaic.Lib.Pipeline.ValueKit.Held
public import Idealize.ShloMosaic.Lib.Pipeline.ReadBack

@[expose] public section

set_option maxRecDepth 65536

noncomputable section

namespace Cert.Proof.Into

open Cert.KernelInIdeal Cert.KernelInIdeal.Gen
open Idealize.SL.Sem
open Idealize.ShloMosaic Idealize.ShloMosaic.TcCoe Idealize.ShloMosaic.StableHlo

variable (m : (ℓ : Loc nD τ sig) → Buf (Elt Ideal) ℓ) (c : Dev nD)

/-- The cast weight tile after a row tile's first point. -/
theorem tile_first (t : Fin cfg0.N) (h0 : t.val % 8 = 0) : (outsAt0 m c t.val t.isLt).2 = k0_pay1 (X0_1 m c t) := by
  by_cases h1 : t.val / 8 % 5 = 1
  · rw [outsAt0_C m c t h0 h1 (fun h => h h1)]; frame_out
  · rw [outsAt0_A m c t h0 h1 h1]; frame_out

theorem tile_kept (t : Fin cfg0.N) (h0 : ¬t.val % 8 = 0) :
    (outsAt0 m c t.val t.isLt).2 = (outsAt0 m c (t.val - 1) (Nat.lt_of_le_of_lt (Nat.sub_le _ _) t.isLt)).2 := by
  by_cases h1 : t.val / 8 % 5 = 1
  · rw [outsAt0_D m c t h0 h1 (fun h => h h1)]; rfl
  · rw [outsAt0_B m c t h0 h1 h1]; rfl

/-- The result's block, over the weight tile held after the point. -/
theorem block_plain (t : Fin cfg0.N) (h1 : ¬t.val / 8 % 5 = 1) :
    (outsAt0 m c t.val t.isLt).1 = k0_pay3 (iblk m c 0 t) (outsAt0 m c t.val t.isLt).2 := by
  by_cases h0 : t.val % 8 = 0
  · rw [tile_first m c t h0, outsAt0_A m c t h0 h1 h1]; frame_out
  · rw [tile_kept m c t h0, outsAt0_B m c t h0 h1 h1]; frame_out
    simp only [read_unread_whole]
theorem block_gate (t : Fin cfg0.N) (h1 : t.val / 8 % 5 = 1) :
    (outsAt0 m c t.val t.isLt).1 = k0_pay2 (iblk m c 0 t) (outsAt0 m c t.val t.isLt).2 := by
  by_cases h0 : t.val % 8 = 0
  · rw [tile_first m c t h0, outsAt0_C m c t h0 h1 (fun h => h h1)]; frame_out
  · rw [tile_kept m c t h0, outsAt0_D m c t h0 h1 (fun h => h h1)]; frame_out
    simp only [read_unread_whole]

/-- The weight tile held at a point is the one its column tile's first point cast. -/
theorem tile_held (t : Fin cfg0.N) : (outsAt0 m c t.val t.isLt).2 = k0_pay1 (X0_1 m c ⟨8 * (t.val / 8), Pipeline.run_start_lt t⟩) :=
  funext fun i => Pipeline.eq_of_write_hold_apply (fun n h => (outsAt0 m c n h).2) 8 (fun t => k0_pay1 (X0_1 m c t))
    (fun t h0 i => congrFun (tile_first m c t h0) i) (fun t h0 i => congrFun (tile_kept m c t h0) i) t i

theorem points : cfg0.N = 40 := by decide
/-- The array row of a block's row, and the array column of a block's column. -/
def inRow (t : Fin cfg0.N) (p : Fin 1024) : Fin 8192 := ⟨1024 * (t.val % 8) + p.val, by omega⟩
def inCol (t : Fin cfg0.N) (q : Fin 1024) : Fin 5120 := ⟨1024 * (t.val / 8) + q.val, by have := t.isLt.trans_eq points; omega⟩
/-- A column of the result among the columns of the weights. -/
def wCol (q : Fin 5120) : Fin 5408 := ⟨q.val, by omega⟩

theorem index_tiles : ∀ t : Fin cfg0.N, win0_0.index t = ![t.val % 8, 0] ∧ win0_1.index t = ![t.val / 8, 0] ∧ win0_2.index t = ![t.val % 8, t.val / 8] := by
  decide +kernel

theorem h_read (t : Fin cfg0.N) (p : Fin 1024) (k : Fin 2048) : iblk m c 0 t (ix2 p k) = V m c main_v3 (ix2 (inRow t p) k) := by
  blk_ext [iblk, inRow, index_tiles t]
theorem w_read (t : Fin cfg0.N) (q : Fin 1024) (k : Fin 2048) : X0_1 m c t (ix2 q k : S1024x2048.Idx) = V m c main_v1 (ix2 (wCol (inCol t q)) k) := by
  unfold X0_1 Pipeline.Window.fill
  rw [dif_pos (moved0_1 t _)]
  blk_ext [iblk, inCol, wCol, index_tiles t]

/-- The result's array, at a place of block `t`, is what point `t` stored. -/
theorem result_block (t : Fin cfg0.N) (p q : Fin 1024) :
    (dats m 0 c).arrAt 2 cfg0.N (ix2 (inRow t p) (inCol t q) : S8192x5120.Idx) = (outsAt0 m c t.val t.isLt).1 (ix2 p q) := by
  have hf : (cfg0.win 2).flush t = true := flush0_2 t
  have h := congrFun ((Cert.KernelInIdeal.Value.blocks2 m c t hf).trans (Cert.KernelInIdeal.Value.flushed2 m c t)) (ix2 p q : S1024x1024.Idx)
  refine Eq.trans ?_ h
  generalize (dats m 0 c).arrAt 2 cfg0.N = A
  blk_ext [inRow, inCol, index_tiles t]

/-! ## What a point computes, element by element -/

/-- The gate's activation, in its form with the hyperbolic tangent. -/
def gateOf (y : EReal) : EReal :=
  y * (Ideal.ofBits .f32 0x3F000000#32 * (Ideal.ofBits .f32 0x3F800000#32
    + Ideal.tanh (Ideal.ofBits .f32 0x3F4C422A#32 * (y + Ideal.ofBits .f32 0x3D372713#32 * (y * (y * y))))))

theorem pay1_apply (W : FVec Ideal S1024x2048 .f32) (q : Fin 1024) (k : Fin 2048) : k0_pay1 (F := Ideal) W (ix2 q k) = W (ix2 q k) := by
  pointwise [k0_pay1]
theorem pay3_apply (H W : FVec Ideal S1024x2048 .bf16) (p q : Fin 1024) :
    k0_pay3 (F := Ideal) H W (ix2 p q) = ∑ k : Fin 2048, H (ix2 p k) * W (ix2 q k) := by
  pointwise [k0_pay3]
theorem pay2_apply (H W : FVec Ideal S1024x2048 .bf16) (p q : Fin 1024) :
    k0_pay2 (F := Ideal) H W (ix2 p q) = gateOf (∑ k : Fin 2048, H (ix2 p k) * W (ix2 q k)) := by
  pointwise [k0_pay2, gateOf]

end Cert.Proof.Into

end
-- ==== Proof.InWhole.lean ====
/-
  The input projection of the reference, element by element over the reals: the equation that the call's result is held
  to.
-/
module

public import proofs.«01_k».proof.Proof.InRead
public import proofs.«01_k».proof.Proof.Gen.ReferenceInIdeal.Run

@[expose] public section

set_option maxRecDepth 65536

noncomputable section

namespace Cert.Proof.Into

open Cert.ReferenceInIdeal Cert.ReferenceInIdeal.Gen
open Idealize.ShloMosaic

/-- Column `q` of the result from the product `y` there: columns 1024 to 2047 are the gate's. -/
def pickOf (q : Fin 5120) (y : EReal) : EReal := if 1024 ≤ q.val ∧ q.val < 2048 then gateOf y else y

/-- The input projection at sequence `s`, position `r`, column `q`, of the activations `h` and the weights `w`. -/
def intoOf (h : (⟨3, ![4, 2048, 2048]⟩ : Shape).Idx → EReal) (w : (⟨3, ![1, 2048, 5408]⟩ : Shape).Idx → EReal) (s : Fin 4) (r : Fin 2048) (q : Fin 5120) : EReal :=
  pickOf q (∑ k : Fin 2048, h (ix3 s r k) * w (ix3 0 k (wCol q)))

section
variable (h : FVec Ideal S4x2048x2048 .f32) (w : FVec Ideal S1x2048x5408 .f32)

/-- The reference's product. -/
def prodR : FVec Ideal S4x2048x5408 .f32 :=
  Host.dotGeneral dot_S4x2048x2048_S2048x5408_S4x2048x5408_2_0_01_1_n_n none h (shapeCast S2048x5408 w shapeCasts_S1x2048x5408_S2048x5408)

/-- The gate's activation of an array. -/
def gateR (y : FVec Ideal S4x2048x1024 .f32) : FVec Ideal S4x2048x1024 .f32 :=
  mulf y (mulf (broadcastInDim S4x2048x1024 ![] bcast_S_S4x2048x1024 (constant S_ .f32 0x3F000000#32))
    (addf (broadcastInDim S4x2048x1024 ![] bcast_S_S4x2048x1024 (constant S_ .f32 0x3F800000#32))
      (Host.tanh (mulf (broadcastInDim S4x2048x1024 ![] bcast_S_S4x2048x1024 (constant S_ .f32 0x3F4C422A#32))
        (addf y (mulf (broadcastInDim S4x2048x1024 ![] bcast_S_S4x2048x1024 (constant S_ .f32 0x3D372713#32)) (mulf (mulf y y) y)))))))

/-- The reference's columns, the gate's `g` among them. -/
def colsR (P : FVec Ideal S4x2048x5408 .f32) (g : FVec Ideal S4x2048x1024 .f32) : FVec Ideal S4x2048x5120 .f32 :=
  concatenate S4x2048x5120 2 [⟨S4x2048x1024, extractStridedSlice S4x2048x1024 ![0, 0, 0] P slices_S4x2048x5408_S4x2048x1024_0_0_0⟩, ⟨S4x2048x1024, g⟩,
     ⟨S4x2048x3072, extractStridedSlice S4x2048x3072 ![0, 0, 0] (extractStridedSlice S4x2048x3360 ![0, 0, 2048] P slices_S4x2048x5408_S4x2048x3360_0_0_2048)
       slices_S4x2048x3360_S4x2048x3072_0_0_0⟩]
    concatenates_S4x2048x1024_S4x2048x1024_S4x2048x3072_S4x2048x5120_d2

/-- The reference's result, the sequences laid end to end. -/
def intoR : FVec Ideal S8192x5120 .f32 :=
  shapeCast S8192x5120 (colsR (prodR h w) (gateR (extractStridedSlice S4x2048x1024 ![0, 0, 1024] (prodR h w) slices_S4x2048x5408_S4x2048x1024_0_0_1024)))
    shapeCasts_S4x2048x5120_S8192x5120

theorem prodR_apply (s : Fin 4) (r : Fin 2048) (j : Fin 5408) : prodR h w (ix3 s r j) = ∑ k : Fin 2048, h (ix3 s r k) * w (ix3 0 k j) := by
  pointwise [prodR]

theorem gateR_apply (y : FVec Ideal S4x2048x1024 .f32) (s : Fin 4) (r : Fin 2048) (j : Fin 1024) : gateR y (ix3 s r j) = gateOf (y (ix3 s r j)) := by
  rw [gateOf, mul_comm (y (ix3 s r j)) (y (ix3 s r j) * y (ix3 s r j))]
  pointwise [gateR]

theorem gate_cols (P : FVec Ideal S4x2048x5408 .f32) (s : Fin 4) (r : Fin 2048) (j : Fin 1024) :
    extractStridedSlice S4x2048x1024 ![0, 0, 1024] P slices_S4x2048x5408_S4x2048x1024_0_0_1024 (ix3 s r j) = P (ix3 s r ⟨1024 + j.val, by omega⟩) := by
  pointwise []

theorem colsR_ladder (P : FVec Ideal S4x2048x5408 .f32) (g : FVec Ideal S4x2048x1024 .f32) (s : Fin 4) (r : Fin 2048) (q : Fin 5120) :
    colsR P g (ix3 s r q) = if _h : q.val < 1024 then P (ix3 s r (wCol q))
      else if _h : q.val - 1024 < 1024 then g (ix3 s r ⟨q.val - 1024, by omega⟩) else P (ix3 s r ⟨2048 + (q.val - 1024 - 1024), by omega⟩) := by
  pointwise [colsR, wCol]

theorem colsR_apply (P : FVec Ideal S4x2048x5408 .f32) (s : Fin 4) (r : Fin 2048) (q : Fin 5120) :
    colsR P (gateR (extractStridedSlice S4x2048x1024 ![0, 0, 1024] P slices_S4x2048x5408_S4x2048x1024_0_0_1024)) (ix3 s r q) = pickOf q (P (ix3 s r (wCol q))) := by
  refine (colsR_ladder P _ s r q).trans ?_
  unfold pickOf
  by_cases h1 : q.val < 1024
  · rw [dif_pos h1, if_neg (by omega)]
  · rw [dif_neg h1]
    by_cases h2 : q.val - 1024 < 1024
    · have e : (⟨1024 + (q.val - 1024), by omega⟩ : Fin 5408) = wCol q := Fin.ext (by show 1024 + (q.val - 1024) = q.val; omega)
      rw [dif_pos h2, if_pos (by omega)]
      exact (gateR_apply _ s r _).trans (congrArg gateOf ((gate_cols P s r _).trans (congrArg (fun j => P (ix3 s r j)) e)))
    · have e : (⟨2048 + (q.val - 1024 - 1024), by omega⟩ : Fin 5408) = wCol q := Fin.ext (by show 2048 + (q.val - 1024 - 1024) = q.val; omega)
      rw [dif_neg h2, if_neg (by omega)]
      exact congrArg (fun j => P (ix3 s r j)) e

theorem rows_apply (y : FVec Ideal S4x2048x5120 .f32) (R : Fin 8192) (q : Fin 5120) :
    shapeCast S8192x5120 y shapeCasts_S4x2048x5120_S8192x5120 (ix2 R q) = y (ix3 ⟨R.val / 2048, by omega⟩ ⟨R.val % 2048, by omega⟩ q) := by
  pointwise []

/-- The reference's result, at row `R` and column `q`. -/
theorem reference_apply (R : Fin 8192) (q : Fin 5120) :
    intoR h w (ix2 R q) = intoOf h w ⟨R.val / 2048, by omega⟩ ⟨R.val % 2048, by omega⟩ q :=
  (rows_apply _ R q).trans ((colsR_apply (prodR h w) _ _ q).trans (congrArg (pickOf q) (prodR_apply h w _ _ _)))

end

end Cert.Proof.Into

end
-- ==== Proof.InResult.lean ====
/-
  The input projection's call: its result, element by element over the reals, from its arguments; and its equality with
  the reference's.
-/
module

public import proofs.«01_k».proof.Defs
public import proofs.«01_k».proof.Proof.InRead
public import proofs.«01_k».proof.Proof.InWhole

@[expose] public section

set_option maxRecDepth 65536

noncomputable section

namespace Cert.Proof.Into

open Cert.KernelInIdeal Cert.KernelInIdeal.Gen
open Idealize.SL.Sem
open Idealize.ShloMosaic Idealize.ShloMosaic.TcCoe Idealize.ShloMosaic.StableHlo

variable (m : (ℓ : Loc nD τ sig) → Buf (Elt Ideal) ℓ) (c : Dev nD)

theorem rows_cast_apply (x : FVec Ideal S4x2048x2048 .f32) (r : Fin 8192) (k : Fin 2048) :
    truncf .bf16 (shapeCast S8192x2048 x shapeCasts_S4x2048x2048_S8192x2048 : FVec Ideal S8192x2048 .f32) bitsLt_bf16_f32 (ix2 r k)
      = x (ix3 ⟨r.val / 2048, by omega⟩ ⟨r.val % 2048, by omega⟩ k) := by
  pointwise []
theorem turned_apply (x : FVec Ideal S1x2048x5408 .f32) (j : Fin 5408) (k : Fin 2048) :
    transpose S5408x2048 [1, 0] (shapeCast S2048x5408 x shapeCasts_S1x2048x5408_S2048x5408 : FVec Ideal S2048x5408 .f32) transposes_S2048x5408_S5408x2048_1_0 (ix2 j k)
      = x (ix3 0 k j) := by
  pointwise []

theorem h_apply (r : Fin 8192) (k : Fin 2048) :
    V m c main_v3 (ix2 r k) = m (c.tc.loc main_arg0) (ix3 ⟨r.val / 2048, by omega⟩ ⟨r.val % 2048, by omega⟩ k) := by
  have h : V m c main_v3 = truncf .bf16 (shapeCast S8192x2048 (m (c.tc.loc main_arg0)) shapeCasts_S4x2048x2048_S8192x2048 : FVec Ideal S8192x2048 .f32) bitsLt_bf16_f32 := by
    unfold V; after_results; rfl
  exact (congrFun h _).trans (rows_cast_apply (m (c.tc.loc main_arg0)) r k)
theorem w_apply (j : Fin 5408) (k : Fin 2048) : V m c main_v1 (ix2 j k) = m (c.tc.loc main_arg1) (ix3 0 k j) := by
  have h : V m c main_v1 = transpose S5408x2048 [1, 0] (shapeCast S2048x5408 (m (c.tc.loc main_arg1)) shapeCasts_S1x2048x5408_S2048x5408 : FVec Ideal S2048x5408 .f32)
      transposes_S2048x5408_S5408x2048_1_0 := by unfold V; after_results; rfl
  exact (congrFun h _).trans (turned_apply (m (c.tc.loc main_arg1)) j k)

/-- The weight tile held at a point, from the arguments. -/
theorem tile_apply (t : Fin cfg0.N) (q : Fin 1024) (k : Fin 2048) :
    (outsAt0 m c t.val t.isLt).2 (ix2 q k : S1024x2048.Idx) = m (c.tc.loc main_arg1) (ix3 0 k (wCol (inCol t q))) := by
  have e : inCol ⟨8 * (t.val / 8), Pipeline.run_start_lt t⟩ q = inCol t q :=
    Fin.ext (by show 1024 * (8 * (t.val / 8) / 8) + q.val = 1024 * (t.val / 8) + q.val; omega)
  exact (congrFun (tile_held m c t) _).trans ((pay1_apply _ q k).trans ((w_read m c _ q k).trans ((w_apply m c _ k).trans (by rw [e]))))

/-- A sum of products, over reads that agree. -/
theorem sum_same {n : ℕ} {a a' b b' : Fin n → EReal} (ha : ∀ k, a k = a' k) (hb : ∀ k, b k = b' k) : (∑ k, a k * b k) = ∑ k, a' k * b' k :=
  Finset.sum_congr rfl fun k _ => congrArg₂ (· * ·) (ha k) (hb k)

theorem block_apply (t : Fin cfg0.N) (p q : Fin 1024) : (dats m 0 c).arrAt 2 cfg0.N (ix2 (inRow t p) (inCol t q) : S8192x5120.Idx)
    = intoOf (m (c.tc.loc main_arg0)) (m (c.tc.loc main_arg1)) ⟨(inRow t p).val / 2048, by omega⟩ ⟨(inRow t p).val % 2048, by omega⟩ (inCol t q) := by
  have hN := t.isLt.trans_eq points
  have hc : (inCol t q).val = 1024 * (t.val / 8) + q.val := rfl
  refine (result_block m c t p q).trans ?_
  unfold intoOf pickOf
  by_cases h1 : t.val / 8 % 5 = 1
  · rw [if_pos (by omega)]
    exact (congrFun (block_gate m c t h1) _).trans ((pay2_apply _ _ p q).trans (congrArg gateOf (sum_same (fun k => (h_read m c t p k).trans (h_apply m c _ k)) (fun k => tile_apply m c t q k))))
  · rw [if_neg (by omega)]
    exact (congrFun (block_plain m c t h1) _).trans ((pay3_apply _ _ p q).trans (sum_same (fun k => (h_read m c t p k).trans (h_apply m c _ k)) (fun k => tile_apply m c t q k)))

/-- The call's result, at row `R` and column `Q`. -/
theorem kernel_apply (R : Fin 8192) (Q : Fin 5120) : (dats m 0 c).arrAt 2 cfg0.N (ix2 R Q : S8192x5120.Idx)
    = intoOf (m (c.tc.loc main_arg0)) (m (c.tc.loc main_arg1)) ⟨R.val / 2048, by omega⟩ ⟨R.val % 2048, by omega⟩ Q := by
  obtain ⟨t, p, q, rfl, rfl⟩ : ∃ (t : Fin cfg0.N) (p q : Fin 1024), R = inRow t p ∧ Q = inCol t q := by
    refine ⟨⟨8 * (Q.val / 1024) + R.val / 1024, by rw [points]; omega⟩, ⟨R.val % 1024, by omega⟩, ⟨Q.val % 1024, by omega⟩, Fin.ext ?_, Fin.ext ?_⟩
    · show R.val = 1024 * ((8 * (Q.val / 1024) + R.val / 1024) % 8) + R.val % 1024; omega
    · show Q.val = 1024 * ((8 * (Q.val / 1024) + R.val / 1024) / 8) + Q.val % 1024; omega
  exact block_apply m c t p q

/-- The two programs' results are one array, from one set of arguments. -/
theorem result_same (m' : (ℓ : Loc Cert.ReferenceInIdeal.nD Cert.ReferenceInIdeal.τ Cert.ReferenceInIdeal.sig) → Buf (Elt Ideal) ℓ)
    (h0 : m' (c.tc.loc Cert.ReferenceInIdeal.main_arg0) = m (c.tc.loc main_arg0)) (h1 : m' (c.tc.loc Cert.ReferenceInIdeal.main_arg1) = m (c.tc.loc main_arg1)) :
    intoR (m' (c.tc.loc Cert.ReferenceInIdeal.main_arg0)) (m' (c.tc.loc Cert.ReferenceInIdeal.main_arg1)) = (dats m 0 c).arrAt 2 cfg0.N := by
  refine funext fun (i : S8192x5120.Idx) => ?_
  rw [eq_ix2 i]
  refine (reference_apply _ _ (i 0) (i 1)).trans (Eq.trans ?_ (kernel_apply m c (i 0) (i 1)).symm)
  rw [h0, h1]

/-- The call's result is the reference's. -/
theorem algebraic : Cert.algebraic_KernelInIdeal_ReferenceInIdeal := fun m ρ m' ρ' _ hm =>
  ⟨fun c => (dats m 0 c).arrAt 2 cfg0.N, Cert.KernelInIdeal.Value.run_blocks m ρ,
    (θ_run Cert.ReferenceInIdeal.defs _ _).mono (fun _ h c => ⟨(h c).1.trans (result_same m c m' (hm c).1 (hm c).2), (h c).2⟩)
      (Cert.ReferenceInIdeal.Value.run m' ρ')⟩

end Cert.Proof.Into

end
-- ==== Proof.NormRead.lean ====
/-
  What the first norm's call holds at each point: the low-rank weights, cast once and kept, the rows after the norm and the
  modulation, and their product with the weights.
-/
module

public import proofs.«01_k».proof.Proof.Gen.KernelNormIdeal.Value
public import proofs.«01_k».proof.Proof.OutBlock
public import Idealize.ShloMosaic.Lib.Pointwise
public import Idealize.ShloMosaic.Lib.Pipeline.ValueKit
public import Idealize.ShloMosaic.Lib.Pipeline.ValueKit.Held
public import Idealize.ShloMosaic.Lib.Pipeline.ReadBack

@[expose] public section

set_option maxRecDepth 65536

noncomputable section

namespace Cert.Proof.Lead

open Cert.KernelNormIdeal Cert.KernelNormIdeal.Gen
open Cert.Proof.Ffn (normOf)
open Cert.Proof.Mix (modOf)
open Idealize.SL.Sem
open Idealize.ShloMosaic Idealize.ShloMosaic.TcCoe Idealize.ShloMosaic.StableHlo

variable (m : (ℓ : Loc nD τ sig) → Buf (Elt Ideal) ℓ) (c : Dev nD)

/-- The cast weights after the first point. -/
theorem low_first (t : Fin cfg0.N) (h0 : t.val % 16 = 0) : (outsAt0 m c t.val t.isLt).2.2 = k0_pay1 (iblk m c 4 t) := by
  rw [outsAt0_A m c t h0]; frame_out
theorem low_kept (t : Fin cfg0.N) (h0 : ¬t.val % 16 = 0) :
    (outsAt0 m c t.val t.isLt).2.2 = (outsAt0 m c (t.val - 1) (Nat.lt_of_le_of_lt (Nat.sub_le _ _) t.isLt)).2.2 := by
  rw [outsAt0_B m c t h0]; rfl
/-- The cast weights held at a point are those that the first point cast. -/
theorem low_held (t : Fin cfg0.N) : (outsAt0 m c t.val t.isLt).2.2 = k0_pay1 (iblk m c 4 ⟨16 * (t.val / 16), Pipeline.run_start_lt t⟩) :=
  funext fun i => Pipeline.eq_of_write_hold_apply (fun n h => (outsAt0 m c n h).2.2) 16 (fun t => k0_pay1 (iblk m c 4 t))
    (fun t h0 i => congrFun (low_first m c t h0) i) (fun t h0 i => congrFun (low_kept m c t h0) i) t i

theorem block_rows (t : Fin cfg0.N) : (outsAt0 m c t.val t.isLt).1 = k0_pay2 (iblk m c 0 t) (iblk m c 1 t) (iblk m c 2 t) (iblk m c 3 t) := by
  by_cases h0 : t.val % 16 = 0
  · rw [outsAt0_A m c t h0]; frame_out
  · rw [outsAt0_B m c t h0]; frame_out
theorem block_low (t : Fin cfg0.N) :
    (outsAt0 m c t.val t.isLt).2.1 = k0_pay3 (iblk m c 0 t) (iblk m c 1 t) (iblk m c 2 t) (iblk m c 3 t) (outsAt0 m c t.val t.isLt).2.2 := by
  by_cases h0 : t.val % 16 = 0
  · rw [low_first m c t h0, outsAt0_A m c t h0]; frame_out
  · rw [low_kept m c t h0, outsAt0_B m c t h0]; frame_out
    simp only [read_unread_whole]

theorem points : cfg0.N = 16 := by decide
/-- The array row of a block's row, and the sequence that a block's rows are of. -/
def leadRow (t : Fin cfg0.N) (p : Fin 512) : Fin 8192 := ⟨512 * t.val + p.val, by have := t.isLt.trans_eq points; omega⟩
def leadSeq (t : Fin cfg0.N) : Fin 4 := ⟨t.val / 4, by have := t.isLt.trans_eq points; omega⟩

theorem index_rows : ∀ t : Fin cfg0.N, win0_0.index t = ![t.val, 0] ∧ win0_5.index t = ![t.val, 0] ∧ win0_6.index t = ![t.val, 0] := by decide +kernel
theorem index_seq : ∀ t : Fin cfg0.N, win0_2.index t = ![t.val / 4, 0, 0] ∧ win0_3.index t = ![t.val / 4, 0, 0] := by decide +kernel
theorem index_whole : ∀ t : Fin cfg0.N, win0_1.index t = ![0, 0] ∧ win0_4.index t = ![0, 0] := by decide +kernel

theorem x_read (t : Fin cfg0.N) (p : Fin 512) (k : Fin 2048) : iblk m c 0 t (ix2 p k) = V m c main_v9 (ix2 (leadRow t p) k) := by
  blk_ext [iblk, leadRow, index_rows t]
theorem f_read (t : Fin cfg0.N) (k : Fin 2048) : iblk m c 1 t (ix2 0 k) = V m c main_v11 (ix2 0 k) := by
  blk_ext [iblk, index_whole t]
theorem sh_read (t : Fin cfg0.N) (k : Fin 2048) : iblk m c 2 t (ix3 0 0 k) = V m c main_v12 (ix3 (leadSeq t) 0 k) := by
  blk_ext [iblk, leadSeq, index_seq t]
theorem sc_read (t : Fin cfg0.N) (k : Fin 2048) : iblk m c 3 t (ix3 0 0 k) = V m c main_v13 (ix3 (leadSeq t) 0 k) := by
  blk_ext [iblk, leadSeq, index_seq t]
theorem w_read (t : Fin cfg0.N) (j : Fin 512) (k : Fin 2048) : iblk m c 4 t (ix2 j k) = V m c main_v8 (ix2 j k) := by
  blk_ext [iblk, index_whole t]

/-- Each result's array, at a row of block `t`, is what point `t` stored. -/
theorem rows_block (t : Fin cfg0.N) (p : Fin 512) (q : Fin 2048) :
    (dats m 0 c).arrAt 5 cfg0.N (ix2 (leadRow t p) q : S8192x2048.Idx) = (outsAt0 m c t.val t.isLt).1 (ix2 p q) := by
  have h := congrFun ((Cert.KernelNormIdeal.Value.blocks5 m c t (flush0_5 t)).trans (Cert.KernelNormIdeal.Value.flushed5 m c t)) (ix2 p q : S512x2048.Idx)
  refine Eq.trans ?_ h
  generalize (dats m 0 c).arrAt 5 cfg0.N = A
  blk_ext [leadRow, index_rows t]
theorem low_block (t : Fin cfg0.N) (p j : Fin 512) :
    (dats m 0 c).arrAt 6 cfg0.N (ix2 (leadRow t p) j : S8192x512.Idx) = (outsAt0 m c t.val t.isLt).2.1 (ix2 p j) := by
  have h := congrFun ((Cert.KernelNormIdeal.Value.blocks6 m c t (flush0_6 t)).trans (Cert.KernelNormIdeal.Value.flushed6 m c t)) (ix2 p j : S512x512.Idx)
  refine Eq.trans ?_ h
  generalize (dats m 0 c).arrAt 6 cfg0.N = A
  blk_ext [leadRow, index_rows t]

/-! ## What a point computes, element by element -/

theorem pay1_apply (W : FVec Ideal S512x2048 .f32) (j : Fin 512) (k : Fin 2048) : k0_pay1 (F := Ideal) W (ix2 j k) = W (ix2 j k) := by
  pointwise [k0_pay1]
theorem pay2_apply (x : FVec Ideal S512x2048 .f32) (f : FVec Ideal S1x2048 .f32) (sh sc : FVec Ideal S1x1x2048 .f32) (p : Fin 512) (q : Fin 2048) :
    k0_pay2 (F := Ideal) x f sh sc (ix2 p q)
      = modOf (fun k => x (ix2 p k)) (fun k => f (ix2 0 k)) (fun k => sh (ix3 0 0 k)) (fun k => sc (ix3 0 0 k)) q := by
  pointwise [k0_pay2, modOf, normOf]
theorem dot_apply (h W : FVec Ideal S512x2048 .bf16) (p j : Fin 512) :
    matmul dot_S512x2048_S512x2048_S512x512_1_1_0_0_n_n none h W (constant S512x512 .f32 0x00000000#32) (ix2 p j) = ∑ k : Fin 2048, h (ix2 p k) * W (ix2 j k) := by
  pointwise []
theorem pay3_apply (x : FVec Ideal S512x2048 .f32) (f : FVec Ideal S1x2048 .f32) (sh sc : FVec Ideal S1x1x2048 .f32) (W : FVec Ideal S512x2048 .bf16) (p j : Fin 512) :
    k0_pay3 (F := Ideal) x f sh sc W (ix2 p j) = ∑ k : Fin 2048, k0_pay2 (F := Ideal) x f sh sc (ix2 p k) * W (ix2 j k) :=
  dot_apply (k0_pay2 (F := Ideal) x f sh sc) W p j

end Cert.Proof.Lead

end
-- ==== Proof.NormWhole.lean ====
/-
  The first norm, its modulation and the low-rank columns of the reference, element by element over the reals: the equations
  that the call's two results are held to.
-/
module

public import proofs.«01_k».proof.Proof.OutBlock
public import proofs.«01_k».proof.Proof.Gen.ReferenceNormIdeal.Run

@[expose] public section

set_option maxRecDepth 65536

noncomputable section

namespace Cert.Proof.Lead

open Cert.ReferenceNormIdeal Cert.ReferenceNormIdeal.Gen
open Cert.Proof.Ffn (normOf)
open Cert.Proof.Mix (modOf)
open Idealize.ShloMosaic

/-- Column `j` of the low-rank columns, out of the projected columns `y`: three groups of 64, 64 and 160 columns, each with
    zeros after it. -/
def lowOf (j : Fin 512) (y : Fin 5408 → EReal) : EReal :=
  if h1 : j.val < 64 then y ⟨5120 + j.val, by omega⟩ else if j.val < 128 then 0
  else if h2 : j.val < 192 then y ⟨5056 + j.val, by omega⟩ else if j.val < 256 then 0
  else if h3 : j.val < 416 then y ⟨4992 + j.val, by omega⟩ else 0

/-- A product with padded columns is the padded product. -/
theorem sum_low (j : Fin 512) (h : Fin 2048 → EReal) (w : Fin 2048 → Fin 5408 → EReal) :
    (∑ k, h k * lowOf j (w k)) = lowOf j fun q => ∑ k, h k * w k q := by
  unfold lowOf
  split_ifs <;> simp only [mul_zero, Finset.sum_const_zero]

/-- The activations at sequence `s`, position `r`. -/
def leadOf (x : (⟨3, ![4, 2048, 2048]⟩ : Shape).Idx → EReal) (f : (⟨2, ![1, 2048]⟩ : Shape).Idx → EReal) (sh sc : (⟨2, ![4, 2048]⟩ : Shape).Idx → EReal)
    (s : Fin 4) (r : Fin 2048) : Fin 2048 → EReal :=
  modOf (fun k => x (ix3 s r k)) (fun k => f (ix2 0 k)) (fun k => sh (ix2 s k)) (fun k => sc (ix2 s k))

section
variable (x : FVec Ideal S4x2048x2048 .f32) (f : FVec Ideal S1x2048 .f32) (sh sc : FVec Ideal S4x2048 .f32) (w : FVec Ideal S1x2048x5408 .f32)

/-- The reference's activations. -/
def leadR : FVec Ideal S4x2048x2048 .f32 :=
  addf (mulf (mulf (mulf x (broadcastInDim S4x2048x2048 ![0, 1, 2] bcast_S4x2048x1_S4x2048x2048_0_1_2 (Host.rsqrt (addf
    (Host.divf (broadcastInDim S4x2048x1 ![0, 1] bcast_S4x2048_S4x2048x1_0_1 (Host.reduceAdd (mulf x x) (constant S_ .f32 0x00000000#32) reducesTo_S4x2048x2048_S4x2048_d2 h_S_))
      (broadcastInDim S4x2048x1 ![] bcast_S_S4x2048x1 (constant S_ .f32 0x45000000#32)))
    (broadcastInDim S4x2048x1 ![] bcast_S_S4x2048x1 (constant S_ .f32 0x358637BD#32))))))
    (broadcastInDim S4x2048x2048 ![0, 1, 2] bcast_S1x1x2048_S4x2048x2048_0_1_2 (broadcastInDim S1x1x2048 ![2] bcast_S2048_S1x1x2048_2 (shapeCast S2048 f shapeCasts_S1x2048_S2048))))
    (broadcastInDim S4x2048x2048 ![0, 1, 2] bcast_S4x1x2048_S4x2048x2048_0_1_2 (addf (broadcastInDim S4x1x2048 ![] bcast_S_S4x1x2048 (constant S_ .f32 0x3F800000#32))
      (broadcastInDim S4x1x2048 ![0, 2] bcast_S4x2048_S4x1x2048_0_2 sc))))
    (broadcastInDim S4x2048x2048 ![0, 1, 2] bcast_S4x1x2048_S4x2048x2048_0_1_2 (broadcastInDim S4x1x2048 ![0, 2] bcast_S4x2048_S4x1x2048_0_2 sh))

/-- The reference's product, and its low-rank columns. -/
def prodR (h : FVec Ideal S4x2048x2048 .f32) : FVec Ideal S4x2048x5408 .f32 :=
  Host.dotGeneral dot_S4x2048x2048_S2048x5408_S4x2048x5408_2_0_01_1_n_n none h (shapeCast S2048x5408 w shapeCasts_S1x2048x5408_S2048x5408)
def lowR (P : FVec Ideal S4x2048x288 .f32) : FVec Ideal S4x2048x512 .f32 :=
  concatenate S4x2048x512 2 [⟨S4x2048x64, extractStridedSlice S4x2048x64 ![0, 0, 0] P slices_S4x2048x288_S4x2048x64_0_0_0⟩,
      ⟨S4x2048x64, broadcastInDim S4x2048x64 ![] bcast_S_S4x2048x64 (constant S_ .f32 0x00000000#32)⟩,
      ⟨S4x2048x64, extractStridedSlice S4x2048x64 ![0, 0, 64] P slices_S4x2048x288_S4x2048x64_0_0_64⟩,
      ⟨S4x2048x64, broadcastInDim S4x2048x64 ![] bcast_S_S4x2048x64 (constant S_ .f32 0x00000000#32)⟩,
      ⟨S4x2048x160, extractStridedSlice S4x2048x160 ![0, 0, 128] P slices_S4x2048x288_S4x2048x160_0_0_128⟩,
      ⟨S4x2048x96, broadcastInDim S4x2048x96 ![] bcast_S_S4x2048x96 (constant S_ .f32 0x00000000#32)⟩]
    concatenates_S4x2048x64_S4x2048x64_S4x2048x64_S4x2048x64_S4x2048x160_S4x2048x96_S4x2048x512_d2
def tailR (P : FVec Ideal S4x2048x5408 .f32) : FVec Ideal S4x2048x288 .f32 :=
  extractStridedSlice S4x2048x288 ![0, 0, 5120] P slices_S4x2048x5408_S4x2048x288_0_0_5120

theorem leadR_apply (s : Fin 4) (r q : Fin 2048) : leadR x f sh sc (ix3 s r q) = leadOf x f sh sc s r q := by
  pointwise [leadR, leadOf, modOf, normOf]
theorem prodR_apply (h : FVec Ideal S4x2048x2048 .f32) (s : Fin 4) (r : Fin 2048) (q : Fin 5408) :
    prodR w h (ix3 s r q) = ∑ k : Fin 2048, h (ix3 s r k) * w (ix3 0 k q) := by
  pointwise [prodR]
theorem tailR_apply (P : FVec Ideal S4x2048x5408 .f32) (s : Fin 4) (r : Fin 2048) (q : Fin 288) :
    tailR P (ix3 s r q) = P (ix3 s r ⟨5120 + q.val, by omega⟩) := by
  pointwise [tailR]

/-- The groups of columns, counted one after the other. -/
theorem low_ladder (j : Fin 512) (y : Fin 5408 → EReal) :
    (if h : j.val < 64 then y ⟨5120 + j.val, by omega⟩ else if _h : j.val - 64 < 64 then 0
      else if h : j.val - 64 - 64 < 64 then y ⟨5120 + (64 + (j.val - 64 - 64)), by omega⟩ else if _h : j.val - 64 - 64 - 64 < 64 then 0
      else if h : j.val - 64 - 64 - 64 - 64 < 160 then y ⟨5120 + (128 + (j.val - 64 - 64 - 64 - 64)), by omega⟩ else 0) = lowOf j y := by
  unfold lowOf
  split_ifs <;> first | rfl | omega | exact congrArg y (Fin.ext (by dsimp only; omega))

theorem lowR_apply (P : FVec Ideal S4x2048x5408 .f32) (s : Fin 4) (r : Fin 2048) (j : Fin 512) :
    lowR (tailR P) (ix3 s r j) = lowOf j fun q => P (ix3 s r q) := by
  refine Eq.trans ?_ (low_ladder j fun q => P (ix3 s r q))
  pointwise [lowR, tailR]

theorem rows_apply (y : FVec Ideal S4x2048x2048 .f32) (R : Fin 8192) (q : Fin 2048) :
    truncf .bf16 (shapeCast S8192x2048 y shapeCasts_S4x2048x2048_S8192x2048 : FVec Ideal S8192x2048 .f32) bitsLt_bf16_f32 (ix2 R q)
      = y (ix3 ⟨R.val / 2048, by omega⟩ ⟨R.val % 2048, by omega⟩ q) := by
  pointwise []
theorem low_rows_apply (y : FVec Ideal S4x2048x512 .f32) (R : Fin 8192) (j : Fin 512) :
    shapeCast S8192x512 y shapeCasts_S4x2048x512_S8192x512 (ix2 R j) = y (ix3 ⟨R.val / 2048, by omega⟩ ⟨R.val % 2048, by omega⟩ j) := by
  pointwise []

/-- The reference's two results, the sequences laid end to end. -/
def rowsN : FVec Ideal S8192x2048 .bf16 := truncf .bf16 (shapeCast S8192x2048 (leadR x f sh sc) shapeCasts_S4x2048x2048_S8192x2048 : FVec Ideal S8192x2048 .f32) bitsLt_bf16_f32
def lowN : FVec Ideal S8192x512 .f32 := shapeCast S8192x512 (lowR (tailR (prodR w (leadR x f sh sc)))) shapeCasts_S4x2048x512_S8192x512

/-- The same, at row `R`. -/
theorem reference_rows (R : Fin 8192) (q : Fin 2048) :
    rowsN x f sh sc (ix2 R q) = leadOf x f sh sc ⟨R.val / 2048, by omega⟩ ⟨R.val % 2048, by omega⟩ q :=
  (rows_apply _ R q).trans (leadR_apply x f sh sc _ _ q)
theorem reference_low (R : Fin 8192) (j : Fin 512) :
    lowN x f sh sc w (ix2 R j)
      = lowOf j fun q => ∑ k : Fin 2048, leadOf x f sh sc ⟨R.val / 2048, by omega⟩ ⟨R.val % 2048, by omega⟩ k * w (ix3 0 k q) := by
  refine (low_rows_apply _ R j).trans ((lowR_apply _ _ _ j).trans (congrArg (lowOf j) (funext fun q => (prodR_apply w _ _ _ q).trans ?_)))
  exact Finset.sum_congr rfl fun k _ => congrArg (· * w (ix3 0 k q)) (leadR_apply x f sh sc _ _ k)

end

end Cert.Proof.Lead

end
-- ==== Proof.NormResult.lean ====
/-
  The first norm's call: its two results, element by element over the reals, from its arguments; and their equality with
  the reference's.
-/
module

public import proofs.«01_k».proof.Defs
public import proofs.«01_k».proof.Proof.NormRead
public import proofs.«01_k».proof.Proof.NormWhole

@[expose] public section

set_option maxRecDepth 65536

noncomputable section

namespace Cert.Proof.Lead

open Cert.KernelNormIdeal Cert.KernelNormIdeal.Gen
open Cert.Proof.Mix (modOf modOf_congr)
open Idealize.SL.Sem
open Idealize.ShloMosaic Idealize.ShloMosaic.TcCoe Idealize.ShloMosaic.StableHlo

variable (m : (ℓ : Loc nD τ sig) → Buf (Elt Ideal) ℓ) (c : Dev nD)

/-! ## The host's reshapes and padded weights, element by element -/

theorem stream_apply (x : FVec Ideal S4x2048x2048 .f32) (r : Fin 8192) (k : Fin 2048) :
    shapeCast S8192x2048 x shapeCasts_S4x2048x2048_S8192x2048 (ix2 r k) = x (ix3 ⟨r.val / 2048, by omega⟩ ⟨r.val % 2048, by omega⟩ k) := by
  pointwise []
theorem mod_apply (x : FVec Ideal S4x2048 .f32) (s : Fin 4) (k : Fin 2048) :
    shapeCast S4x1x2048 x shapeCasts_S4x2048_S4x1x2048 (ix3 s 0 k) = x (ix2 s k) := by
  pointwise []
theorem row_apply (x : FVec Ideal S1x2048 .f32) (k : Fin 2048) :
    shapeCast S1x2048 (shapeCast S2048 x shapeCasts_S1x2048_S2048 : FVec Ideal S2048 .f32) shapeCasts_S2048_S1x2048 (ix2 0 k) = x (ix2 0 k) := by
  pointwise []

/-- The integer zero that the host pads with, as a float. -/
def zeroM : FVec Ideal S_ .f32 := sitofp .f32 (constantI S_ 32 0#32)
/-- The weights turned, and the low-rank ones among them, padded. -/
def turnM (w : FVec Ideal S1x2048x5408 .f32) : FVec Ideal S5408x2048 .f32 :=
  transpose S5408x2048 [1, 0] (shapeCast S2048x5408 w shapeCasts_S1x2048x5408_S2048x5408 : FVec Ideal S2048x5408 .f32) transposes_S2048x5408_S5408x2048_1_0
def lowM (w : FVec Ideal S5408x2048 .f32) : FVec Ideal S512x2048 .f32 :=
  concatenate S512x2048 0
    [⟨S128x2048, pad S128x2048 ![0, 0] ![64, 0] ![0, 0] (extractStridedSlice S64x2048 ![5120, 0] w slices_S5408x2048_S64x2048_5120_0) zeroM pads_S64x2048_S128x2048_0640_000 h_S_⟩,
      ⟨S128x2048, pad S128x2048 ![0, 0] ![64, 0] ![0, 0] (extractStridedSlice S64x2048 ![5184, 0] w slices_S5408x2048_S64x2048_5184_0) zeroM pads_S64x2048_S128x2048_0640_000 h_S_⟩,
      ⟨S256x2048, pad S256x2048 ![0, 0] ![96, 0] ![0, 0] (extractStridedSlice S160x2048 ![5248, 0] w slices_S5408x2048_S160x2048_5248_0) zeroM pads_S160x2048_S256x2048_0960_000 h_S_⟩]
    concatenates_S128x2048_S128x2048_S256x2048_S512x2048_d0

theorem turnM_apply (w : FVec Ideal S1x2048x5408 .f32) (j : Fin 5408) (k : Fin 2048) : turnM w (ix2 j k) = w (ix3 0 k j) := by
  pointwise [turnM]
theorem zero_word : (FloatOps.sitofp .f32 (0#32 : BitVec 32) : Ideal .f32) = (0 : EReal) := by
  show (((0#32 : BitVec 32).toInt : ℝ) : EReal) = 0
  simp
/-- The groups of padded rows, counted one after the other. -/
theorem pad_ladder (j : Fin 512) (y : Fin 5408 → EReal) (z : EReal) (hz : z = 0) :
    (if h : j.val < 128 then (if h1 : j.val < 64 then y ⟨5120 + j.val, by omega⟩ else z)
      else if h : j.val - 128 < 128 then (if h1 : j.val - 128 < 64 then y ⟨5184 + (j.val - 128), by omega⟩ else z)
      else if h1 : j.val - 128 - 128 < 160 then y ⟨5248 + (j.val - 128 - 128), by omega⟩ else z) = lowOf j y := by
  unfold lowOf
  split_ifs <;> first | exact hz | rfl | omega | exact congrArg y (Fin.ext (by dsimp only; omega))
theorem lowM_apply (w : FVec Ideal S5408x2048 .f32) (j : Fin 512) (k : Fin 2048) : lowM w (ix2 j k) = lowOf j fun q => w (ix2 q k) := by
  refine Eq.trans ?_ (pad_ladder j (fun q => w (ix2 q k)) _ zero_word)
  pointwise [lowM, zeroM]

/-! ## The arrays the kernel reads, from the arguments -/

/-- Equal groups, one after the other, are equal. -/
theorem groups_same {a a' b b' : FVec Ideal S128x2048 .f32} {d d' : FVec Ideal S256x2048 .f32} (ha : a = a') (hb : b = b') (hd : d = d') :
    concatenate S512x2048 0 [⟨S128x2048, a⟩, ⟨S128x2048, b⟩, ⟨S256x2048, d⟩] concatenates_S128x2048_S128x2048_S256x2048_S512x2048_d0
      = concatenate S512x2048 0 [⟨S128x2048, a'⟩, ⟨S128x2048, b'⟩, ⟨S256x2048, d'⟩] concatenates_S128x2048_S128x2048_S256x2048_S512x2048_d0 := by
  subst ha; subst hb; subst hd; rfl
theorem entry_w : V m c main_v8 = lowM (turnM (m (c.tc.loc main_arg4))) := by
  unfold V lowM
  simp only [hostOps0, hostOps0_1, hostOps0_2, hostOps0_3, hostOps0_4, hostOps0_5, hostOps0_6, List.flatten_cons, List.flatten_nil, List.cons_append, List.nil_append, List.append_nil]
  after_results_simp
  refine groups_same ?_ ?_ ?_ <;> (dsimp only [Matrix.cons_val]; after_results_simp; rfl)
theorem entry : V m c main_v9 = shapeCast S8192x2048 (m (c.tc.loc main_arg0)) shapeCasts_S4x2048x2048_S8192x2048
    ∧ V m c main_v11 = shapeCast S1x2048 (shapeCast S2048 (m (c.tc.loc main_arg1)) shapeCasts_S1x2048_S2048 : FVec Ideal S2048 .f32) shapeCasts_S2048_S1x2048
    ∧ V m c main_v12 = shapeCast S4x1x2048 (m (c.tc.loc main_arg2)) shapeCasts_S4x2048_S4x1x2048
    ∧ V m c main_v13 = shapeCast S4x1x2048 (m (c.tc.loc main_arg3)) shapeCasts_S4x2048_S4x1x2048 := by
  unfold V
  simp only [hostOps0, hostOps0_1, hostOps0_2, hostOps0_3, hostOps0_4, hostOps0_5, hostOps0_6, List.flatten_cons, List.flatten_nil, List.cons_append, List.nil_append, List.append_nil]
  refine ⟨?_, ?_, ?_, ?_⟩ <;> (after_results_simp; rfl)

theorem x_apply (r : Fin 8192) (k : Fin 2048) :
    V m c main_v9 (ix2 r k) = m (c.tc.loc main_arg0) (ix3 ⟨r.val / 2048, by omega⟩ ⟨r.val % 2048, by omega⟩ k) :=
  (congrFun (entry m c).1 _).trans (stream_apply (m (c.tc.loc main_arg0)) r k)
theorem f_apply (k : Fin 2048) : V m c main_v11 (ix2 0 k) = m (c.tc.loc main_arg1) (ix2 0 k) :=
  (congrFun (entry m c).2.1 _).trans (row_apply (m (c.tc.loc main_arg1)) k)
theorem sh_apply (s : Fin 4) (k : Fin 2048) : V m c main_v12 (ix3 s 0 k) = m (c.tc.loc main_arg2) (ix2 s k) :=
  (congrFun (entry m c).2.2.1 _).trans (mod_apply (m (c.tc.loc main_arg2)) s k)
theorem sc_apply (s : Fin 4) (k : Fin 2048) : V m c main_v13 (ix3 s 0 k) = m (c.tc.loc main_arg3) (ix2 s k) :=
  (congrFun (entry m c).2.2.2 _).trans (mod_apply (m (c.tc.loc main_arg3)) s k)
theorem w_apply (j : Fin 512) (k : Fin 2048) : V m c main_v8 (ix2 j k) = lowOf j fun q => m (c.tc.loc main_arg4) (ix3 0 k q) :=
  (congrFun (entry_w m c) _).trans ((lowM_apply _ j k).trans (congrArg (lowOf j) (funext fun q => turnM_apply (m (c.tc.loc main_arg4)) q k)))

/-! ## The results -/

/-- The activations of an array row, from the call's arguments. -/
def leadM (R : Fin 8192) : Fin 2048 → EReal :=
  leadOf (m (c.tc.loc main_arg0)) (m (c.tc.loc main_arg1)) (m (c.tc.loc main_arg2)) (m (c.tc.loc main_arg3)) ⟨R.val / 2048, by omega⟩ ⟨R.val % 2048, by omega⟩

theorem seq_same (t : Fin cfg0.N) (p : Fin 512) : leadSeq t = ⟨(leadRow t p).val / 2048, by omega⟩ :=
  Fin.ext (by show t.val / 4 = (512 * t.val + p.val) / 2048; omega)

theorem row_same (t : Fin cfg0.N) (p : Fin 512) (q : Fin 2048) :
    k0_pay2 (F := Ideal) (iblk m c 0 t) (iblk m c 1 t) (iblk m c 2 t) (iblk m c 3 t) (ix2 p q) = leadM m c (leadRow t p) q := by
  unfold leadM leadOf
  exact (pay2_apply _ _ _ _ p q).trans (modOf_congr q (fun k => (x_read m c t p k).trans (x_apply m c _ k))
    (fun k => (f_read m c t k).trans (f_apply m c k)) (fun k => (sh_read m c t k).trans ((sh_apply m c _ k).trans (by rw [seq_same t p])))
    (fun k => (sc_read m c t k).trans ((sc_apply m c _ k).trans (by rw [seq_same t p]))))

theorem low_same (t : Fin cfg0.N) (j : Fin 512) (k : Fin 2048) :
    (outsAt0 m c t.val t.isLt).2.2 (ix2 j k : S512x2048.Idx) = lowOf j fun q => m (c.tc.loc main_arg4) (ix3 0 k q) :=
  (congrFun (low_held m c t) _).trans ((pay1_apply _ j k).trans ((w_read m c _ j k).trans (w_apply m c j k)))

/-- A sum of products, over reads that agree. -/
theorem sum_same {n : ℕ} {a a' b b' : Fin n → EReal} (ha : ∀ k, a k = a' k) (hb : ∀ k, b k = b' k) : (∑ k, a k * b k) = ∑ k, a' k * b' k :=
  Finset.sum_congr rfl fun k _ => congrArg₂ (· * ·) (ha k) (hb k)

/-- Every row of the array is a row of one point's block. -/
theorem by_blocks {P : Fin 8192 → Prop} (h : ∀ (t : Fin cfg0.N) (p : Fin 512), P (leadRow t p)) (R : Fin 8192) : P R := by
  have e : leadRow ⟨R.val / 512, by rw [points]; omega⟩ ⟨R.val % 512, by omega⟩ = R :=
    Fin.ext (by show 512 * (R.val / 512) + R.val % 512 = R.val; omega)
  exact e ▸ h _ _

theorem kernel_rows (R : Fin 8192) (q : Fin 2048) : (dats m 0 c).arrAt 5 cfg0.N (ix2 R q : S8192x2048.Idx) = leadM m c R q :=
  by_blocks (P := fun R => (dats m 0 c).arrAt 5 cfg0.N (ix2 R q : S8192x2048.Idx) = leadM m c R q)
    (fun t p => (rows_block m c t p q).trans ((congrFun (block_rows m c t) _).trans (row_same m c t p q))) R
theorem kernel_low (R : Fin 8192) (j : Fin 512) : (dats m 0 c).arrAt 6 cfg0.N (ix2 R j : S8192x512.Idx)
    = lowOf j fun q => ∑ k : Fin 2048, leadM m c R k * m (c.tc.loc main_arg4) (ix3 0 k q) :=
  by_blocks (P := fun R => (dats m 0 c).arrAt 6 cfg0.N (ix2 R j : S8192x512.Idx) = lowOf j fun q => ∑ k : Fin 2048, leadM m c R k * m (c.tc.loc main_arg4) (ix3 0 k q))
    (fun t p => (low_block m c t p j).trans ((congrFun (block_low m c t) _).trans ((pay3_apply _ _ _ _ _ p j).trans
      ((sum_same (fun k => row_same m c t p k) (fun k => low_same m c t j k)).trans (sum_low j (leadM m c (leadRow t p)) fun k q => m (c.tc.loc main_arg4) (ix3 0 k q)))))) R

section
variable (m' : (ℓ : Loc Cert.ReferenceNormIdeal.nD Cert.ReferenceNormIdeal.τ Cert.ReferenceNormIdeal.sig) → Buf (Elt Ideal) ℓ)
    (h0 : m' (c.tc.loc Cert.ReferenceNormIdeal.main_arg0) = m (c.tc.loc main_arg0)) (h1 : m' (c.tc.loc Cert.ReferenceNormIdeal.main_arg1) = m (c.tc.loc main_arg1))
    (h2 : m' (c.tc.loc Cert.ReferenceNormIdeal.main_arg2) = m (c.tc.loc main_arg2)) (h3 : m' (c.tc.loc Cert.ReferenceNormIdeal.main_arg3) = m (c.tc.loc main_arg3))
    (h4 : m' (c.tc.loc Cert.ReferenceNormIdeal.main_arg4) = m (c.tc.loc main_arg4))
include h0 h1 h2 h3

/-- The two programs' activations are one array, from one set of arguments. -/
theorem rows_same :
    rowsN (m' (c.tc.loc Cert.ReferenceNormIdeal.main_arg0)) (m' (c.tc.loc Cert.ReferenceNormIdeal.main_arg1))
        (m' (c.tc.loc Cert.ReferenceNormIdeal.main_arg2)) (m' (c.tc.loc Cert.ReferenceNormIdeal.main_arg3))
      = (dats m 0 c).arrAt 5 cfg0.N := by
  refine funext fun (i : S8192x2048.Idx) => ?_
  rw [eq_ix2 i]
  refine (reference_rows _ _ _ _ (i 0) (i 1)).trans (Eq.trans ?_ (kernel_rows m c (i 0) (i 1)).symm)
  rw [h0, h1, h2, h3]; rfl

include h4
/-- So are their low-rank columns. -/
theorem lows_same :
    lowN (m' (c.tc.loc Cert.ReferenceNormIdeal.main_arg0)) (m' (c.tc.loc Cert.ReferenceNormIdeal.main_arg1))
        (m' (c.tc.loc Cert.ReferenceNormIdeal.main_arg2)) (m' (c.tc.loc Cert.ReferenceNormIdeal.main_arg3)) (m' (c.tc.loc Cert.ReferenceNormIdeal.main_arg4))
      = (dats m 0 c).arrAt 6 cfg0.N := by
  refine funext fun (i : S8192x512.Idx) => ?_
  rw [eq_ix2 i]
  refine (reference_low _ _ _ _ _ (i 0) (i 1)).trans (Eq.trans ?_ (kernel_low m c (i 0) (i 1)).symm)
  rw [h0, h1, h2, h3, h4]; rfl
end

/-- The call's results are the reference's. -/
theorem algebraic : Cert.algebraic_KernelNormIdeal_ReferenceNormIdeal := fun m ρ m' ρ' _ hm =>
  ⟨fun c => (dats m 0 c).arrAt 5 cfg0.N, fun c => (dats m 0 c).arrAt 6 cfg0.N, Cert.KernelNormIdeal.Value.run_blocks m ρ,
    (θ_run Cert.ReferenceNormIdeal.defs _ _).mono (fun _ h c =>
      have ⟨h0, h1, h2, h3, h4⟩ := hm c
      ⟨(h c).1.trans (rows_same m c m' h0 h1 h2 h3), (h c).2.1.trans (lows_same m c m' h0 h1 h2 h3 h4), (h c).2.2⟩)
      (Cert.ReferenceNormIdeal.Value.run m' ρ')⟩

end Cert.Proof.Lead

end
-- ==== Proof.lean ====
/-
  The proof of `Cert.Claim`: for each of the four calls, the frames of the kernel (at the bits and at the ideal floats)
  and of the reference, and the equality of their results at the ideal floats.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.KernelOut
public import proofs.«01_k».proof.Proof.Gen.KernelOut.Frame
public import proofs.«01_k».proof.Proof.Gen.KernelOutIdeal
public import proofs.«01_k».proof.Proof.Gen.ReferenceOutIdeal
public import proofs.«01_k».proof.Proof.Gen.ReferenceOutIdeal.Run
public import proofs.«01_k».proof.Proof.Gen.KernelIn
public import proofs.«01_k».proof.Proof.Gen.KernelIn.Frame
public import proofs.«01_k».proof.Proof.Gen.KernelInIdeal
public import proofs.«01_k».proof.Proof.Gen.ReferenceInIdeal
public import proofs.«01_k».proof.Proof.Gen.ReferenceInIdeal.Run
public import proofs.«01_k».proof.Proof.Gen.KernelOutIdeal.Value
public import proofs.«01_k».proof.Proof.Gen.KernelInIdeal.Value
public import proofs.«01_k».proof.Proof.Gen.KernelNorm
public import proofs.«01_k».proof.Proof.Gen.KernelNorm.Frame
public import proofs.«01_k».proof.Proof.Gen.KernelNormIdeal
public import proofs.«01_k».proof.Proof.Gen.KernelNormIdeal.Value
public import proofs.«01_k».proof.Proof.Gen.ReferenceNormIdeal
public import proofs.«01_k».proof.Proof.Gen.ReferenceNormIdeal.Run
public import proofs.«01_k».proof.Proof.Frames
public import proofs.«01_k».proof.Proof.Reference
public import proofs.«01_k».proof.Proof.Result
public import proofs.«01_k».proof.Proof.OutResult
public import proofs.«01_k».proof.Proof.InResult
public import proofs.«01_k».proof.Proof.NormResult

@[expose] public section

noncomputable section

namespace Cert.Proof

theorem claim : Cert.Claim := ⟨Cert.Kernel.Gen.facts, Cert.KernelIdeal.Gen.facts, Cert.ReferenceIdeal.Gen.facts,
  Cert.KernelOut.Gen.facts, Cert.KernelOutIdeal.Gen.facts, Cert.ReferenceOutIdeal.Gen.facts,
  Cert.KernelIn.Gen.facts, Cert.KernelInIdeal.Gen.facts, Cert.ReferenceInIdeal.Gen.facts,
  Cert.KernelNorm.Gen.facts, Cert.KernelNormIdeal.Gen.facts, Cert.ReferenceNormIdeal.Gen.facts,
  Ffn.frame_kernel, Ffn.frame_kernelIdeal, Ffn.frame_reference,
  (fun m ρ _ => Cert.KernelOut.Gen.frame m ρ), (fun m ρ _ => Cert.KernelOutIdeal.Gen.frame m ρ), Mix.frame_reference,
  (fun m ρ _ => Cert.KernelIn.Gen.frame m ρ), (fun m ρ _ => Cert.KernelInIdeal.Gen.frame m ρ), Into.frame_reference,
  (fun m ρ _ => Cert.KernelNorm.Gen.frame m ρ), (fun m ρ _ => Cert.KernelNormIdeal.Gen.frame m ρ), Lead.frame_reference,
  trivial, Ffn.algebraic, trivial, Mix.algebraic, trivial, Into.algebraic, trivial, Lead.algebraic⟩

end Cert.Proof

end
